-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_FfnPre (m : (ℓ : Loc Cert.FfnPre.nD Cert.FfnPre.τ Cert.FfnPre.sig) → Buf (Elt Bits) ℓ) : Prop :=
  True

def Pre_FfnPreIdeal (m : (ℓ : Loc Cert.FfnPreIdeal.nD Cert.FfnPreIdeal.τ Cert.FfnPreIdeal.sig) → Buf (Elt Ideal) ℓ) : Prop :=
  True

def Pre_FfnPreRefIdeal (m : (ℓ : Loc Cert.FfnPreRefIdeal.nD Cert.FfnPreRefIdeal.τ Cert.FfnPreRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_SConv (m : (ℓ : Loc Cert.SConv.nD Cert.SConv.τ Cert.SConv.sig) → Buf (Elt Bits) ℓ) : Prop :=
  True

def Pre_SConvIdeal (m : (ℓ : Loc Cert.SConvIdeal.nD Cert.SConvIdeal.τ Cert.SConvIdeal.sig) → Buf (Elt Ideal) ℓ) : Prop :=
  True

def Pre_SConvRefIdeal (m : (ℓ : Loc Cert.SConvRefIdeal.nD Cert.SConvRefIdeal.τ Cert.SConvRefIdeal.sig) → Buf (Elt Ideal) ℓ) : Prop :=
  True

def Pre_SFfnPre (m : (ℓ : Loc Cert.SFfnPre.nD Cert.SFfnPre.τ Cert.SFfnPre.sig) → Buf (Elt Bits) ℓ) : Prop :=
  True

def Pre_SFfnPreIdeal (m : (ℓ : Loc Cert.SFfnPreIdeal.nD Cert.SFfnPreIdeal.τ Cert.SFfnPreIdeal.sig) → Buf (Elt Ideal) ℓ) : Prop :=
  True

def Pre_SFfnPreRefIdeal (m : (ℓ : Loc Cert.SFfnPreRefIdeal.nD Cert.SFfnPreRefIdeal.τ Cert.SFfnPreRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_SProj (m : (ℓ : Loc Cert.SProj.nD Cert.SProj.τ Cert.SProj.sig) → Buf (Elt Bits) ℓ) : Prop :=
  True

def Pre_SProjIdeal (m : (ℓ : Loc Cert.SProjIdeal.nD Cert.SProjIdeal.τ Cert.SProjIdeal.sig) → Buf (Elt Ideal) ℓ) : Prop :=
  True

def Pre_SProjRefIdeal (m : (ℓ : Loc Cert.SProjRefIdeal.nD Cert.SProjRefIdeal.τ Cert.SProjRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_FfnPre [hFfnPre : Cert.FfnPre.Facts] : Prop :=
  ∀ (m : (ℓ : Loc Cert.FfnPre.nD Cert.FfnPre.τ Cert.FfnPre.sig) → Buf (Elt Bits) ℓ) (g : Dev Cert.FfnPre.nD → PrngReg), Pre_FfnPre m →
    θ_run (Cert.FfnPre.defs (F := Bits)) (onTc (τ := Cert.FfnPre.τ) (Cert.FfnPre.main (F := Bits))) ⟨m, fun _ => 0, g⟩ (fun r => (∀ c : Dev Cert.FfnPre.nD,
      r.2.mem ((c.tc : Thread Cert.FfnPre.nD Cert.FfnPre.τ).loc Cert.FfnPre.main_arg0) = m ((c.tc : Thread Cert.FfnPre.nD Cert.FfnPre.τ).loc Cert.FfnPre.main_arg0)
      ∧ r.2.mem ((c.tc : Thread Cert.FfnPre.nD Cert.FfnPre.τ).loc Cert.FfnPre.main_arg1) = m ((c.tc : Thread Cert.FfnPre.nD Cert.FfnPre.τ).loc Cert.FfnPre.main_arg1)
      ∧ r.2.mem ((c.tc : Thread Cert.FfnPre.nD Cert.FfnPre.τ).loc Cert.FfnPre.main_arg2) = m ((c.tc : Thread Cert.FfnPre.nD Cert.FfnPre.τ).loc Cert.FfnPre.main_arg2)
      ∧ r.2.mem ((c.tc : Thread Cert.FfnPre.nD Cert.FfnPre.τ).loc Cert.FfnPre.main_arg3) = m ((c.tc : Thread Cert.FfnPre.nD Cert.FfnPre.τ).loc Cert.FfnPre.main_arg3)
      ∧ r.2.mem ((c.tc : Thread Cert.FfnPre.nD Cert.FfnPre.τ).loc Cert.FfnPre.main_arg4) = m ((c.tc : Thread Cert.FfnPre.nD Cert.FfnPre.τ).loc Cert.FfnPre.main_arg4)
      ∧ r.2.mem ((c.tc : Thread Cert.FfnPre.nD Cert.FfnPre.τ).loc Cert.FfnPre.main_arg5) = m ((c.tc : Thread Cert.FfnPre.nD Cert.FfnPre.τ).loc Cert.FfnPre.main_arg5)
      ∧ r.2.mem ((c.tc : Thread Cert.FfnPre.nD Cert.FfnPre.τ).loc Cert.FfnPre.main_arg6) = m ((c.tc : Thread Cert.FfnPre.nD Cert.FfnPre.τ).loc Cert.FfnPre.main_arg6)
      ∧ r.2.mem ((c.tc : Thread Cert.FfnPre.nD Cert.FfnPre.τ).loc Cert.FfnPre.main_arg7) = m ((c.tc : Thread Cert.FfnPre.nD Cert.FfnPre.τ).loc Cert.FfnPre.main_arg7)
      ∧ r.2.mem ((c.tc : Thread Cert.FfnPre.nD Cert.FfnPre.τ).loc Cert.FfnPre.main_arg8) = m ((c.tc : Thread Cert.FfnPre.nD Cert.FfnPre.τ).loc Cert.FfnPre.main_arg8))
      ∧ r.2.sem = fun _ => 0)

def quiescent_FfnPreIdeal [hFfnPreIdeal : Cert.FfnPreIdeal.Facts] : Prop :=
  ∀ (m : (ℓ : Loc Cert.FfnPreIdeal.nD Cert.FfnPreIdeal.τ Cert.FfnPreIdeal.sig) → Buf (Elt Ideal) ℓ) (g : Dev Cert.FfnPreIdeal.nD → PrngReg), Pre_FfnPreIdeal m →
    θ_run (Cert.FfnPreIdeal.defs (F := Ideal)) (onTc (τ := Cert.FfnPreIdeal.τ) (Cert.FfnPreIdeal.main (F := Ideal))) ⟨m, fun _ => 0, g⟩ (fun r => (∀ c : Dev Cert.FfnPreIdeal.nD,
      r.2.mem ((c.tc : Thread Cert.FfnPreIdeal.nD Cert.FfnPreIdeal.τ).loc Cert.FfnPreIdeal.main_arg0) = m ((c.tc : Thread Cert.FfnPreIdeal.nD Cert.FfnPreIdeal.τ).loc Cert.FfnPreIdeal.main_arg0)
      ∧ r.2.mem ((c.tc : Thread Cert.FfnPreIdeal.nD Cert.FfnPreIdeal.τ).loc Cert.FfnPreIdeal.main_arg1) = m ((c.tc : Thread Cert.FfnPreIdeal.nD Cert.FfnPreIdeal.τ).loc Cert.FfnPreIdeal.main_arg1)
      ∧ r.2.mem ((c.tc : Thread Cert.FfnPreIdeal.nD Cert.FfnPreIdeal.τ).loc Cert.FfnPreIdeal.main_arg2) = m ((c.tc : Thread Cert.FfnPreIdeal.nD Cert.FfnPreIdeal.τ).loc Cert.FfnPreIdeal.main_arg2)
      ∧ r.2.mem ((c.tc : Thread Cert.FfnPreIdeal.nD Cert.FfnPreIdeal.τ).loc Cert.FfnPreIdeal.main_arg3) = m ((c.tc : Thread Cert.FfnPreIdeal.nD Cert.FfnPreIdeal.τ).loc Cert.FfnPreIdeal.main_arg3)
      ∧ r.2.mem ((c.tc : Thread Cert.FfnPreIdeal.nD Cert.FfnPreIdeal.τ).loc Cert.FfnPreIdeal.main_arg4) = m ((c.tc : Thread Cert.FfnPreIdeal.nD Cert.FfnPreIdeal.τ).loc Cert.FfnPreIdeal.main_arg4)
      ∧ r.2.mem ((c.tc : Thread Cert.FfnPreIdeal.nD Cert.FfnPreIdeal.τ).loc Cert.FfnPreIdeal.main_arg5) = m ((c.tc : Thread Cert.FfnPreIdeal.nD Cert.FfnPreIdeal.τ).loc Cert.FfnPreIdeal.main_arg5)
      ∧ r.2.mem ((c.tc : Thread Cert.FfnPreIdeal.nD Cert.FfnPreIdeal.τ).loc Cert.FfnPreIdeal.main_arg6) = m ((c.tc : Thread Cert.FfnPreIdeal.nD Cert.FfnPreIdeal.τ).loc Cert.FfnPreIdeal.main_arg6)
      ∧ r.2.mem ((c.tc : Thread Cert.FfnPreIdeal.nD Cert.FfnPreIdeal.τ).loc Cert.FfnPreIdeal.main_arg7) = m ((c.tc : Thread Cert.FfnPreIdeal.nD Cert.FfnPreIdeal.τ).loc Cert.FfnPreIdeal.main_arg7)
      ∧ r.2.mem ((c.tc : Thread Cert.FfnPreIdeal.nD Cert.FfnPreIdeal.τ).loc Cert.FfnPreIdeal.main_arg8) = m ((c.tc : Thread Cert.FfnPreIdeal.nD Cert.FfnPreIdeal.τ).loc Cert.FfnPreIdeal.main_arg8))
      ∧ r.2.sem = fun _ => 0)

def quiescent_FfnPreRefIdeal [hFfnPreRefIdeal : Cert.FfnPreRefIdeal.Facts] : Prop :=
  ∀ (m : (ℓ : Loc Cert.FfnPreRefIdeal.nD Cert.FfnPreRefIdeal.τ Cert.FfnPreRefIdeal.sig) → Buf (Elt Ideal) ℓ) (g : Dev Cert.FfnPreRefIdeal.nD → PrngReg), Pre_FfnPreRefIdeal m →
    θ_run (Cert.FfnPreRefIdeal.defs (F := Ideal)) (onTc (τ := Cert.FfnPreRefIdeal.τ) (Cert.FfnPreRefIdeal.main (F := Ideal))) ⟨m, fun _ => 0, g⟩ (fun r => (∀ c : Dev Cert.FfnPreRefIdeal.nD,
      r.2.mem ((c.tc : Thread Cert.FfnPreRefIdeal.nD Cert.FfnPreRefIdeal.τ).loc Cert.FfnPreRefIdeal.main_arg0) = m ((c.tc : Thread Cert.FfnPreRefIdeal.nD Cert.FfnPreRefIdeal.τ).loc Cert.FfnPreRefIdeal.main_arg0)
      ∧ r.2.mem ((c.tc : Thread Cert.FfnPreRefIdeal.nD Cert.FfnPreRefIdeal.τ).loc Cert.FfnPreRefIdeal.main_arg1) = m ((c.tc : Thread Cert.FfnPreRefIdeal.nD Cert.FfnPreRefIdeal.τ).loc Cert.FfnPreRefIdeal.main_arg1)
      ∧ r.2.mem ((c.tc : Thread Cert.FfnPreRefIdeal.nD Cert.FfnPreRefIdeal.τ).loc Cert.FfnPreRefIdeal.main_arg2) = m ((c.tc : Thread Cert.FfnPreRefIdeal.nD Cert.FfnPreRefIdeal.τ).loc Cert.FfnPreRefIdeal.main_arg2)
      ∧ r.2.mem ((c.tc : Thread Cert.FfnPreRefIdeal.nD Cert.FfnPreRefIdeal.τ).loc Cert.FfnPreRefIdeal.main_arg3) = m ((c.tc : Thread Cert.FfnPreRefIdeal.nD Cert.FfnPreRefIdeal.τ).loc Cert.FfnPreRefIdeal.main_arg3)
      ∧ r.2.mem ((c.tc : Thread Cert.FfnPreRefIdeal.nD Cert.FfnPreRefIdeal.τ).loc Cert.FfnPreRefIdeal.main_arg4) = m ((c.tc : Thread Cert.FfnPreRefIdeal.nD Cert.FfnPreRefIdeal.τ).loc Cert.FfnPreRefIdeal.main_arg4)
      ∧ r.2.mem ((c.tc : Thread Cert.FfnPreRefIdeal.nD Cert.FfnPreRefIdeal.τ).loc Cert.FfnPreRefIdeal.main_arg5) = m ((c.tc : Thread Cert.FfnPreRefIdeal.nD Cert.FfnPreRefIdeal.τ).loc Cert.FfnPreRefIdeal.main_arg5)
      ∧ r.2.mem ((c.tc : Thread Cert.FfnPreRefIdeal.nD Cert.FfnPreRefIdeal.τ).loc Cert.FfnPreRefIdeal.main_arg6) = m ((c.tc : Thread Cert.FfnPreRefIdeal.nD Cert.FfnPreRefIdeal.τ).loc Cert.FfnPreRefIdeal.main_arg6)
      ∧ r.2.mem ((c.tc : Thread Cert.FfnPreRefIdeal.nD Cert.FfnPreRefIdeal.τ).loc Cert.FfnPreRefIdeal.main_arg7) = m ((c.tc : Thread Cert.FfnPreRefIdeal.nD Cert.FfnPreRefIdeal.τ).loc Cert.FfnPreRefIdeal.main_arg7)
      ∧ r.2.mem ((c.tc : Thread Cert.FfnPreRefIdeal.nD Cert.FfnPreRefIdeal.τ).loc Cert.FfnPreRefIdeal.main_arg8) = m ((c.tc : Thread Cert.FfnPreRefIdeal.nD Cert.FfnPreRefIdeal.τ).loc Cert.FfnPreRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_SConv [hSConv : Cert.SConv.Facts] : Prop :=
  ∀ (m : (ℓ : Loc Cert.SConv.nD Cert.SConv.τ Cert.SConv.sig) → Buf (Elt Bits) ℓ) (g : Dev Cert.SConv.nD → PrngReg), Pre_SConv m →
    θ_run (Cert.SConv.defs (F := Bits)) (onTc (τ := Cert.SConv.τ) (Cert.SConv.main (F := Bits))) ⟨m, fun _ => 0, g⟩ (fun r => (∀ c : Dev Cert.SConv.nD,
      r.2.mem ((c.tc : Thread Cert.SConv.nD Cert.SConv.τ).loc Cert.SConv.main_arg0) = m ((c.tc : Thread Cert.SConv.nD Cert.SConv.τ).loc Cert.SConv.main_arg0)
      ∧ r.2.mem ((c.tc : Thread Cert.SConv.nD Cert.SConv.τ).loc Cert.SConv.main_arg1) = m ((c.tc : Thread Cert.SConv.nD Cert.SConv.τ).loc Cert.SConv.main_arg1)
      ∧ r.2.mem ((c.tc : Thread Cert.SConv.nD Cert.SConv.τ).loc Cert.SConv.main_arg2) = m ((c.tc : Thread Cert.SConv.nD Cert.SConv.τ).loc Cert.SConv.main_arg2)
      ∧ r.2.mem ((c.tc : Thread Cert.SConv.nD Cert.SConv.τ).loc Cert.SConv.main_arg3) = m ((c.tc : Thread Cert.SConv.nD Cert.SConv.τ).loc Cert.SConv.main_arg3)
      ∧ r.2.mem ((c.tc : Thread Cert.SConv.nD Cert.SConv.τ).loc Cert.SConv.main_arg4) = m ((c.tc : Thread Cert.SConv.nD Cert.SConv.τ).loc Cert.SConv.main_arg4)
      ∧ r.2.mem ((c.tc : Thread Cert.SConv.nD Cert.SConv.τ).loc Cert.SConv.main_arg5) = m ((c.tc : Thread Cert.SConv.nD Cert.SConv.τ).loc Cert.SConv.main_arg5))
      ∧ r.2.sem = fun _ => 0)

def quiescent_SConvIdeal [hSConvIdeal : Cert.SConvIdeal.Facts] : Prop :=
  ∀ (m : (ℓ : Loc Cert.SConvIdeal.nD Cert.SConvIdeal.τ Cert.SConvIdeal.sig) → Buf (Elt Ideal) ℓ) (g : Dev Cert.SConvIdeal.nD → PrngReg), Pre_SConvIdeal m →
    θ_run (Cert.SConvIdeal.defs (F := Ideal)) (onTc (τ := Cert.SConvIdeal.τ) (Cert.SConvIdeal.main (F := Ideal))) ⟨m, fun _ => 0, g⟩ (fun r => (∀ c : Dev Cert.SConvIdeal.nD,
      r.2.mem ((c.tc : Thread Cert.SConvIdeal.nD Cert.SConvIdeal.τ).loc Cert.SConvIdeal.main_arg0) = m ((c.tc : Thread Cert.SConvIdeal.nD Cert.SConvIdeal.τ).loc Cert.SConvIdeal.main_arg0)
      ∧ r.2.mem ((c.tc : Thread Cert.SConvIdeal.nD Cert.SConvIdeal.τ).loc Cert.SConvIdeal.main_arg1) = m ((c.tc : Thread Cert.SConvIdeal.nD Cert.SConvIdeal.τ).loc Cert.SConvIdeal.main_arg1)
      ∧ r.2.mem ((c.tc : Thread Cert.SConvIdeal.nD Cert.SConvIdeal.τ).loc Cert.SConvIdeal.main_arg2) = m ((c.tc : Thread Cert.SConvIdeal.nD Cert.SConvIdeal.τ).loc Cert.SConvIdeal.main_arg2)
      ∧ r.2.mem ((c.tc : Thread Cert.SConvIdeal.nD Cert.SConvIdeal.τ).loc Cert.SConvIdeal.main_arg3) = m ((c.tc : Thread Cert.SConvIdeal.nD Cert.SConvIdeal.τ).loc Cert.SConvIdeal.main_arg3)
      ∧ r.2.mem ((c.tc : Thread Cert.SConvIdeal.nD Cert.SConvIdeal.τ).loc Cert.SConvIdeal.main_arg4) = m ((c.tc : Thread Cert.SConvIdeal.nD Cert.SConvIdeal.τ).loc Cert.SConvIdeal.main_arg4)
      ∧ r.2.mem ((c.tc : Thread Cert.SConvIdeal.nD Cert.SConvIdeal.τ).loc Cert.SConvIdeal.main_arg5) = m ((c.tc : Thread Cert.SConvIdeal.nD Cert.SConvIdeal.τ).loc Cert.SConvIdeal.main_arg5))
      ∧ r.2.sem = fun _ => 0)

def quiescent_SConvRefIdeal [hSConvRefIdeal : Cert.SConvRefIdeal.Facts] : Prop :=
  ∀ (m : (ℓ : Loc Cert.SConvRefIdeal.nD Cert.SConvRefIdeal.τ Cert.SConvRefIdeal.sig) → Buf (Elt Ideal) ℓ) (g : Dev Cert.SConvRefIdeal.nD → PrngReg), Pre_SConvRefIdeal m →
    θ_run (Cert.SConvRefIdeal.defs (F := Ideal)) (onTc (τ := Cert.SConvRefIdeal.τ) (Cert.SConvRefIdeal.main (F := Ideal))) ⟨m, fun _ => 0, g⟩ (fun r => (∀ c : Dev Cert.SConvRefIdeal.nD,
      r.2.mem ((c.tc : Thread Cert.SConvRefIdeal.nD Cert.SConvRefIdeal.τ).loc Cert.SConvRefIdeal.main_arg0) = m ((c.tc : Thread Cert.SConvRefIdeal.nD Cert.SConvRefIdeal.τ).loc Cert.SConvRefIdeal.main_arg0)
      ∧ r.2.mem ((c.tc : Thread Cert.SConvRefIdeal.nD Cert.SConvRefIdeal.τ).loc Cert.SConvRefIdeal.main_arg1) = m ((c.tc : Thread Cert.SConvRefIdeal.nD Cert.SConvRefIdeal.τ).loc Cert.SConvRefIdeal.main_arg1)
      ∧ r.2.mem ((c.tc : Thread Cert.SConvRefIdeal.nD Cert.SConvRefIdeal.τ).loc Cert.SConvRefIdeal.main_arg2) = m ((c.tc : Thread Cert.SConvRefIdeal.nD Cert.SConvRefIdeal.τ).loc Cert.SConvRefIdeal.main_arg2)
      ∧ r.2.mem ((c.tc : Thread Cert.SConvRefIdeal.nD Cert.SConvRefIdeal.τ).loc Cert.SConvRefIdeal.main_arg3) = m ((c.tc : Thread Cert.SConvRefIdeal.nD Cert.SConvRefIdeal.τ).loc Cert.SConvRefIdeal.main_arg3)
      ∧ r.2.mem ((c.tc : Thread Cert.SConvRefIdeal.nD Cert.SConvRefIdeal.τ).loc Cert.SConvRefIdeal.main_arg4) = m ((c.tc : Thread Cert.SConvRefIdeal.nD Cert.SConvRefIdeal.τ).loc Cert.SConvRefIdeal.main_arg4)
      ∧ r.2.mem ((c.tc : Thread Cert.SConvRefIdeal.nD Cert.SConvRefIdeal.τ).loc Cert.SConvRefIdeal.main_arg5) = m ((c.tc : Thread Cert.SConvRefIdeal.nD Cert.SConvRefIdeal.τ).loc Cert.SConvRefIdeal.main_arg5))
      ∧ r.2.sem = fun _ => 0)

def quiescent_SFfnPre [hSFfnPre : Cert.SFfnPre.Facts] : Prop :=
  ∀ (m : (ℓ : Loc Cert.SFfnPre.nD Cert.SFfnPre.τ Cert.SFfnPre.sig) → Buf (Elt Bits) ℓ) (g : Dev Cert.SFfnPre.nD → PrngReg), Pre_SFfnPre m →
    θ_run (Cert.SFfnPre.defs (F := Bits)) (onTc (τ := Cert.SFfnPre.τ) (Cert.SFfnPre.main (F := Bits))) ⟨m, fun _ => 0, g⟩ (fun r => (∀ c : Dev Cert.SFfnPre.nD,
      r.2.mem ((c.tc : Thread Cert.SFfnPre.nD Cert.SFfnPre.τ).loc Cert.SFfnPre.main_arg0) = m ((c.tc : Thread Cert.SFfnPre.nD Cert.SFfnPre.τ).loc Cert.SFfnPre.main_arg0)
      ∧ r.2.mem ((c.tc : Thread Cert.SFfnPre.nD Cert.SFfnPre.τ).loc Cert.SFfnPre.main_arg1) = m ((c.tc : Thread Cert.SFfnPre.nD Cert.SFfnPre.τ).loc Cert.SFfnPre.main_arg1)
      ∧ r.2.mem ((c.tc : Thread Cert.SFfnPre.nD Cert.SFfnPre.τ).loc Cert.SFfnPre.main_arg2) = m ((c.tc : Thread Cert.SFfnPre.nD Cert.SFfnPre.τ).loc Cert.SFfnPre.main_arg2)
      ∧ r.2.mem ((c.tc : Thread Cert.SFfnPre.nD Cert.SFfnPre.τ).loc Cert.SFfnPre.main_arg3) = m ((c.tc : Thread Cert.SFfnPre.nD Cert.SFfnPre.τ).loc Cert.SFfnPre.main_arg3)
      ∧ r.2.mem ((c.tc : Thread Cert.SFfnPre.nD Cert.SFfnPre.τ).loc Cert.SFfnPre.main_arg4) = m ((c.tc : Thread Cert.SFfnPre.nD Cert.SFfnPre.τ).loc Cert.SFfnPre.main_arg4)
      ∧ r.2.mem ((c.tc : Thread Cert.SFfnPre.nD Cert.SFfnPre.τ).loc Cert.SFfnPre.main_arg5) = m ((c.tc : Thread Cert.SFfnPre.nD Cert.SFfnPre.τ).loc Cert.SFfnPre.main_arg5)
      ∧ r.2.mem ((c.tc : Thread Cert.SFfnPre.nD Cert.SFfnPre.τ).loc Cert.SFfnPre.main_arg6) = m ((c.tc : Thread Cert.SFfnPre.nD Cert.SFfnPre.τ).loc Cert.SFfnPre.main_arg6)
      ∧ r.2.mem ((c.tc : Thread Cert.SFfnPre.nD Cert.SFfnPre.τ).loc Cert.SFfnPre.main_arg7) = m ((c.tc : Thread Cert.SFfnPre.nD Cert.SFfnPre.τ).loc Cert.SFfnPre.main_arg7)
      ∧ r.2.mem ((c.tc : Thread Cert.SFfnPre.nD Cert.SFfnPre.τ).loc Cert.SFfnPre.main_arg8) = m ((c.tc : Thread Cert.SFfnPre.nD Cert.SFfnPre.τ).loc Cert.SFfnPre.main_arg8))
      ∧ r.2.sem = fun _ => 0)

def quiescent_SFfnPreIdeal [hSFfnPreIdeal : Cert.SFfnPreIdeal.Facts] : Prop :=
  ∀ (m : (ℓ : Loc Cert.SFfnPreIdeal.nD Cert.SFfnPreIdeal.τ Cert.SFfnPreIdeal.sig) → Buf (Elt Ideal) ℓ) (g : Dev Cert.SFfnPreIdeal.nD → PrngReg), Pre_SFfnPreIdeal m →
    θ_run (Cert.SFfnPreIdeal.defs (F := Ideal)) (onTc (τ := Cert.SFfnPreIdeal.τ) (Cert.SFfnPreIdeal.main (F := Ideal))) ⟨m, fun _ => 0, g⟩ (fun r => (∀ c : Dev Cert.SFfnPreIdeal.nD,
      r.2.mem ((c.tc : Thread Cert.SFfnPreIdeal.nD Cert.SFfnPreIdeal.τ).loc Cert.SFfnPreIdeal.main_arg0) = m ((c.tc : Thread Cert.SFfnPreIdeal.nD Cert.SFfnPreIdeal.τ).loc Cert.SFfnPreIdeal.main_arg0)
      ∧ r.2.mem ((c.tc : Thread Cert.SFfnPreIdeal.nD Cert.SFfnPreIdeal.τ).loc Cert.SFfnPreIdeal.main_arg1) = m ((c.tc : Thread Cert.SFfnPreIdeal.nD Cert.SFfnPreIdeal.τ).loc Cert.SFfnPreIdeal.main_arg1)
      ∧ r.2.mem ((c.tc : Thread Cert.SFfnPreIdeal.nD Cert.SFfnPreIdeal.τ).loc Cert.SFfnPreIdeal.main_arg2) = m ((c.tc : Thread Cert.SFfnPreIdeal.nD Cert.SFfnPreIdeal.τ).loc Cert.SFfnPreIdeal.main_arg2)
      ∧ r.2.mem ((c.tc : Thread Cert.SFfnPreIdeal.nD Cert.SFfnPreIdeal.τ).loc Cert.SFfnPreIdeal.main_arg3) = m ((c.tc : Thread Cert.SFfnPreIdeal.nD Cert.SFfnPreIdeal.τ).loc Cert.SFfnPreIdeal.main_arg3)
      ∧ r.2.mem ((c.tc : Thread Cert.SFfnPreIdeal.nD Cert.SFfnPreIdeal.τ).loc Cert.SFfnPreIdeal.main_arg4) = m ((c.tc : Thread Cert.SFfnPreIdeal.nD Cert.SFfnPreIdeal.τ).loc Cert.SFfnPreIdeal.main_arg4)
      ∧ r.2.mem ((c.tc : Thread Cert.SFfnPreIdeal.nD Cert.SFfnPreIdeal.τ).loc Cert.SFfnPreIdeal.main_arg5) = m ((c.tc : Thread Cert.SFfnPreIdeal.nD Cert.SFfnPreIdeal.τ).loc Cert.SFfnPreIdeal.main_arg5)
      ∧ r.2.mem ((c.tc : Thread Cert.SFfnPreIdeal.nD Cert.SFfnPreIdeal.τ).loc Cert.SFfnPreIdeal.main_arg6) = m ((c.tc : Thread Cert.SFfnPreIdeal.nD Cert.SFfnPreIdeal.τ).loc Cert.SFfnPreIdeal.main_arg6)
      ∧ r.2.mem ((c.tc : Thread Cert.SFfnPreIdeal.nD Cert.SFfnPreIdeal.τ).loc Cert.SFfnPreIdeal.main_arg7) = m ((c.tc : Thread Cert.SFfnPreIdeal.nD Cert.SFfnPreIdeal.τ).loc Cert.SFfnPreIdeal.main_arg7)
      ∧ r.2.mem ((c.tc : Thread Cert.SFfnPreIdeal.nD Cert.SFfnPreIdeal.τ).loc Cert.SFfnPreIdeal.main_arg8) = m ((c.tc : Thread Cert.SFfnPreIdeal.nD Cert.SFfnPreIdeal.τ).loc Cert.SFfnPreIdeal.main_arg8))
      ∧ r.2.sem = fun _ => 0)

def quiescent_SFfnPreRefIdeal [hSFfnPreRefIdeal : Cert.SFfnPreRefIdeal.Facts] : Prop :=
  ∀ (m : (ℓ : Loc Cert.SFfnPreRefIdeal.nD Cert.SFfnPreRefIdeal.τ Cert.SFfnPreRefIdeal.sig) → Buf (Elt Ideal) ℓ) (g : Dev Cert.SFfnPreRefIdeal.nD → PrngReg), Pre_SFfnPreRefIdeal m →
    θ_run (Cert.SFfnPreRefIdeal.defs (F := Ideal)) (onTc (τ := Cert.SFfnPreRefIdeal.τ) (Cert.SFfnPreRefIdeal.main (F := Ideal))) ⟨m, fun _ => 0, g⟩ (fun r => (∀ c : Dev Cert.SFfnPreRefIdeal.nD,
      r.2.mem ((c.tc : Thread Cert.SFfnPreRefIdeal.nD Cert.SFfnPreRefIdeal.τ).loc Cert.SFfnPreRefIdeal.main_arg0) = m ((c.tc : Thread Cert.SFfnPreRefIdeal.nD Cert.SFfnPreRefIdeal.τ).loc Cert.SFfnPreRefIdeal.main_arg0)
      ∧ r.2.mem ((c.tc : Thread Cert.SFfnPreRefIdeal.nD Cert.SFfnPreRefIdeal.τ).loc Cert.SFfnPreRefIdeal.main_arg1) = m ((c.tc : Thread Cert.SFfnPreRefIdeal.nD Cert.SFfnPreRefIdeal.τ).loc Cert.SFfnPreRefIdeal.main_arg1)
      ∧ r.2.mem ((c.tc : Thread Cert.SFfnPreRefIdeal.nD Cert.SFfnPreRefIdeal.τ).loc Cert.SFfnPreRefIdeal.main_arg2) = m ((c.tc : Thread Cert.SFfnPreRefIdeal.nD Cert.SFfnPreRefIdeal.τ).loc Cert.SFfnPreRefIdeal.main_arg2)
      ∧ r.2.mem ((c.tc : Thread Cert.SFfnPreRefIdeal.nD Cert.SFfnPreRefIdeal.τ).loc Cert.SFfnPreRefIdeal.main_arg3) = m ((c.tc : Thread Cert.SFfnPreRefIdeal.nD Cert.SFfnPreRefIdeal.τ).loc Cert.SFfnPreRefIdeal.main_arg3)
      ∧ r.2.mem ((c.tc : Thread Cert.SFfnPreRefIdeal.nD Cert.SFfnPreRefIdeal.τ).loc Cert.SFfnPreRefIdeal.main_arg4) = m ((c.tc : Thread Cert.SFfnPreRefIdeal.nD Cert.SFfnPreRefIdeal.τ).loc Cert.SFfnPreRefIdeal.main_arg4)
      ∧ r.2.mem ((c.tc : Thread Cert.SFfnPreRefIdeal.nD Cert.SFfnPreRefIdeal.τ).loc Cert.SFfnPreRefIdeal.main_arg5) = m ((c.tc : Thread Cert.SFfnPreRefIdeal.nD Cert.SFfnPreRefIdeal.τ).loc Cert.SFfnPreRefIdeal.main_arg5)
      ∧ r.2.mem ((c.tc : Thread Cert.SFfnPreRefIdeal.nD Cert.SFfnPreRefIdeal.τ).loc Cert.SFfnPreRefIdeal.main_arg6) = m ((c.tc : Thread Cert.SFfnPreRefIdeal.nD Cert.SFfnPreRefIdeal.τ).loc Cert.SFfnPreRefIdeal.main_arg6)
      ∧ r.2.mem ((c.tc : Thread Cert.SFfnPreRefIdeal.nD Cert.SFfnPreRefIdeal.τ).loc Cert.SFfnPreRefIdeal.main_arg7) = m ((c.tc : Thread Cert.SFfnPreRefIdeal.nD Cert.SFfnPreRefIdeal.τ).loc Cert.SFfnPreRefIdeal.main_arg7)
      ∧ r.2.mem ((c.tc : Thread Cert.SFfnPreRefIdeal.nD Cert.SFfnPreRefIdeal.τ).loc Cert.SFfnPreRefIdeal.main_arg8) = m ((c.tc : Thread Cert.SFfnPreRefIdeal.nD Cert.SFfnPreRefIdeal.τ).loc Cert.SFfnPreRefIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_SProj [hSProj : Cert.SProj.Facts] : Prop :=
  ∀ (m : (ℓ : Loc Cert.SProj.nD Cert.SProj.τ Cert.SProj.sig) → Buf (Elt Bits) ℓ) (g : Dev Cert.SProj.nD → PrngReg), Pre_SProj m →
    θ_run (Cert.SProj.defs (F := Bits)) (onTc (τ := Cert.SProj.τ) (Cert.SProj.main (F := Bits))) ⟨m, fun _ => 0, g⟩ (fun r => (∀ c : Dev Cert.SProj.nD,
      r.2.mem ((c.tc : Thread Cert.SProj.nD Cert.SProj.τ).loc Cert.SProj.main_arg0) = m ((c.tc : Thread Cert.SProj.nD Cert.SProj.τ).loc Cert.SProj.main_arg0)
      ∧ r.2.mem ((c.tc : Thread Cert.SProj.nD Cert.SProj.τ).loc Cert.SProj.main_arg1) = m ((c.tc : Thread Cert.SProj.nD Cert.SProj.τ).loc Cert.SProj.main_arg1)
      ∧ r.2.mem ((c.tc : Thread Cert.SProj.nD Cert.SProj.τ).loc Cert.SProj.main_arg2) = m ((c.tc : Thread Cert.SProj.nD Cert.SProj.τ).loc Cert.SProj.main_arg2)
      ∧ r.2.mem ((c.tc : Thread Cert.SProj.nD Cert.SProj.τ).loc Cert.SProj.main_arg3) = m ((c.tc : Thread Cert.SProj.nD Cert.SProj.τ).loc Cert.SProj.main_arg3)
      ∧ r.2.mem ((c.tc : Thread Cert.SProj.nD Cert.SProj.τ).loc Cert.SProj.main_arg4) = m ((c.tc : Thread Cert.SProj.nD Cert.SProj.τ).loc Cert.SProj.main_arg4)
      ∧ r.2.mem ((c.tc : Thread Cert.SProj.nD Cert.SProj.τ).loc Cert.SProj.main_arg5) = m ((c.tc : Thread Cert.SProj.nD Cert.SProj.τ).loc Cert.SProj.main_arg5))
      ∧ r.2.sem = fun _ => 0)

def quiescent_SProjIdeal [hSProjIdeal : Cert.SProjIdeal.Facts] : Prop :=
  ∀ (m : (ℓ : Loc Cert.SProjIdeal.nD Cert.SProjIdeal.τ Cert.SProjIdeal.sig) → Buf (Elt Ideal) ℓ) (g : Dev Cert.SProjIdeal.nD → PrngReg), Pre_SProjIdeal m →
    θ_run (Cert.SProjIdeal.defs (F := Ideal)) (onTc (τ := Cert.SProjIdeal.τ) (Cert.SProjIdeal.main (F := Ideal))) ⟨m, fun _ => 0, g⟩ (fun r => (∀ c : Dev Cert.SProjIdeal.nD,
      r.2.mem ((c.tc : Thread Cert.SProjIdeal.nD Cert.SProjIdeal.τ).loc Cert.SProjIdeal.main_arg0) = m ((c.tc : Thread Cert.SProjIdeal.nD Cert.SProjIdeal.τ).loc Cert.SProjIdeal.main_arg0)
      ∧ r.2.mem ((c.tc : Thread Cert.SProjIdeal.nD Cert.SProjIdeal.τ).loc Cert.SProjIdeal.main_arg1) = m ((c.tc : Thread Cert.SProjIdeal.nD Cert.SProjIdeal.τ).loc Cert.SProjIdeal.main_arg1)
      ∧ r.2.mem ((c.tc : Thread Cert.SProjIdeal.nD Cert.SProjIdeal.τ).loc Cert.SProjIdeal.main_arg2) = m ((c.tc : Thread Cert.SProjIdeal.nD Cert.SProjIdeal.τ).loc Cert.SProjIdeal.main_arg2)
      ∧ r.2.mem ((c.tc : Thread Cert.SProjIdeal.nD Cert.SProjIdeal.τ).loc Cert.SProjIdeal.main_arg3) = m ((c.tc : Thread Cert.SProjIdeal.nD Cert.SProjIdeal.τ).loc Cert.SProjIdeal.main_arg3)
      ∧ r.2.mem ((c.tc : Thread Cert.SProjIdeal.nD Cert.SProjIdeal.τ).loc Cert.SProjIdeal.main_arg4) = m ((c.tc : Thread Cert.SProjIdeal.nD Cert.SProjIdeal.τ).loc Cert.SProjIdeal.main_arg4)
      ∧ r.2.mem ((c.tc : Thread Cert.SProjIdeal.nD Cert.SProjIdeal.τ).loc Cert.SProjIdeal.main_arg5) = m ((c.tc : Thread Cert.SProjIdeal.nD Cert.SProjIdeal.τ).loc Cert.SProjIdeal.main_arg5))
      ∧ r.2.sem = fun _ => 0)

def quiescent_SProjRefIdeal [hSProjRefIdeal : Cert.SProjRefIdeal.Facts] : Prop :=
  ∀ (m : (ℓ : Loc Cert.SProjRefIdeal.nD Cert.SProjRefIdeal.τ Cert.SProjRefIdeal.sig) → Buf (Elt Ideal) ℓ) (g : Dev Cert.SProjRefIdeal.nD → PrngReg), Pre_SProjRefIdeal m →
    θ_run (Cert.SProjRefIdeal.defs (F := Ideal)) (onTc (τ := Cert.SProjRefIdeal.τ) (Cert.SProjRefIdeal.main (F := Ideal))) ⟨m, fun _ => 0, g⟩ (fun r => (∀ c : Dev Cert.SProjRefIdeal.nD,
      r.2.mem ((c.tc : Thread Cert.SProjRefIdeal.nD Cert.SProjRefIdeal.τ).loc Cert.SProjRefIdeal.main_arg0) = m ((c.tc : Thread Cert.SProjRefIdeal.nD Cert.SProjRefIdeal.τ).loc Cert.SProjRefIdeal.main_arg0)
      ∧ r.2.mem ((c.tc : Thread Cert.SProjRefIdeal.nD Cert.SProjRefIdeal.τ).loc Cert.SProjRefIdeal.main_arg1) = m ((c.tc : Thread Cert.SProjRefIdeal.nD Cert.SProjRefIdeal.τ).loc Cert.SProjRefIdeal.main_arg1)
      ∧ r.2.mem ((c.tc : Thread Cert.SProjRefIdeal.nD Cert.SProjRefIdeal.τ).loc Cert.SProjRefIdeal.main_arg2) = m ((c.tc : Thread Cert.SProjRefIdeal.nD Cert.SProjRefIdeal.τ).loc Cert.SProjRefIdeal.main_arg2)
      ∧ r.2.mem ((c.tc : Thread Cert.SProjRefIdeal.nD Cert.SProjRefIdeal.τ).loc Cert.SProjRefIdeal.main_arg3) = m ((c.tc : Thread Cert.SProjRefIdeal.nD Cert.SProjRefIdeal.τ).loc Cert.SProjRefIdeal.main_arg3)
      ∧ r.2.mem ((c.tc : Thread Cert.SProjRefIdeal.nD Cert.SProjRefIdeal.τ).loc Cert.SProjRefIdeal.main_arg4) = m ((c.tc : Thread Cert.SProjRefIdeal.nD Cert.SProjRefIdeal.τ).loc Cert.SProjRefIdeal.main_arg4)
      ∧ r.2.mem ((c.tc : Thread Cert.SProjRefIdeal.nD Cert.SProjRefIdeal.τ).loc Cert.SProjRefIdeal.main_arg5) = m ((c.tc : Thread Cert.SProjRefIdeal.nD Cert.SProjRefIdeal.τ).loc Cert.SProjRefIdeal.main_arg5))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v2_0)) (v1 : (c : Dev Cert.ConvIdeal.nD) → Buf (Elt Ideal) ((c.tc : Thread Cert.ConvIdeal.nD Cert.ConvIdeal.τ).loc Cert.ConvIdeal.main_v2_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v2_0) = v0 c
          ∧ r.2.mem ((c.tc : Thread Cert.ConvIdeal.nD Cert.ConvIdeal.τ).loc Cert.ConvIdeal.main_v2_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v44) = v0 c
          ∧ r.2.mem ((c.tc : Thread Cert.ConvRefIdeal.nD Cert.ConvRefIdeal.τ).loc Cert.ConvRefIdeal.main_v45) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_FfnPre_FfnPreIdeal : Prop :=
  True

def algebraic_FfnPreIdeal_FfnPreRefIdeal [hFfnPreIdeal : Cert.FfnPreIdeal.Facts] [hFfnPreRefIdeal : Cert.FfnPreRefIdeal.Facts] : Prop :=
  ∀ (m : (ℓ : Loc Cert.FfnPreIdeal.nD Cert.FfnPreIdeal.τ Cert.FfnPreIdeal.sig) → Buf (Elt Ideal) ℓ) (g : Dev Cert.FfnPreIdeal.nD → PrngReg)
    (m' : (ℓ : Loc Cert.FfnPreRefIdeal.nD Cert.FfnPreRefIdeal.τ Cert.FfnPreRefIdeal.sig) → Buf (Elt Ideal) ℓ) (g' : Dev Cert.FfnPreRefIdeal.nD → PrngReg), Pre_FfnPreIdeal m →
    (∀ c : Dev Cert.FfnPreIdeal.nD,
      m' ((c.tc : Thread Cert.FfnPreRefIdeal.nD Cert.FfnPreRefIdeal.τ).loc Cert.FfnPreRefIdeal.main_arg0) = m ((c.tc : Thread Cert.FfnPreIdeal.nD Cert.FfnPreIdeal.τ).loc Cert.FfnPreIdeal.main_arg0)
      ∧ m' ((c.tc : Thread Cert.FfnPreRefIdeal.nD Cert.FfnPreRefIdeal.τ).loc Cert.FfnPreRefIdeal.main_arg1) = m ((c.tc : Thread Cert.FfnPreIdeal.nD Cert.FfnPreIdeal.τ).loc Cert.FfnPreIdeal.main_arg1)
      ∧ m' ((c.tc : Thread Cert.FfnPreRefIdeal.nD Cert.FfnPreRefIdeal.τ).loc Cert.FfnPreRefIdeal.main_arg2) = m ((c.tc : Thread Cert.FfnPreIdeal.nD Cert.FfnPreIdeal.τ).loc Cert.FfnPreIdeal.main_arg2)
      ∧ m' ((c.tc : Thread Cert.FfnPreRefIdeal.nD Cert.FfnPreRefIdeal.τ).loc Cert.FfnPreRefIdeal.main_arg3) = m ((c.tc : Thread Cert.FfnPreIdeal.nD Cert.FfnPreIdeal.τ).loc Cert.FfnPreIdeal.main_arg3)
      ∧ m' ((c.tc : Thread Cert.FfnPreRefIdeal.nD Cert.FfnPreRefIdeal.τ).loc Cert.FfnPreRefIdeal.main_arg4) = m ((c.tc : Thread Cert.FfnPreIdeal.nD Cert.FfnPreIdeal.τ).loc Cert.FfnPreIdeal.main_arg4)
      ∧ m' ((c.tc : Thread Cert.FfnPreRefIdeal.nD Cert.FfnPreRefIdeal.τ).loc Cert.FfnPreRefIdeal.main_arg5) = m ((c.tc : Thread Cert.FfnPreIdeal.nD Cert.FfnPreIdeal.τ).loc Cert.FfnPreIdeal.main_arg5)
      ∧ m' ((c.tc : Thread Cert.FfnPreRefIdeal.nD Cert.FfnPreRefIdeal.τ).loc Cert.FfnPreRefIdeal.main_arg6) = m ((c.tc : Thread Cert.FfnPreIdeal.nD Cert.FfnPreIdeal.τ).loc Cert.FfnPreIdeal.main_arg6)
      ∧ m' ((c.tc : Thread Cert.FfnPreRefIdeal.nD Cert.FfnPreRefIdeal.τ).loc Cert.FfnPreRefIdeal.main_arg7) = m ((c.tc : Thread Cert.FfnPreIdeal.nD Cert.FfnPreIdeal.τ).loc Cert.FfnPreIdeal.main_arg7)
      ∧ m' ((c.tc : Thread Cert.FfnPreRefIdeal.nD Cert.FfnPreRefIdeal.τ).loc Cert.FfnPreRefIdeal.main_arg8) = m ((c.tc : Thread Cert.FfnPreIdeal.nD Cert.FfnPreIdeal.τ).loc Cert.FfnPreIdeal.main_arg8)) →
    ∃ (v0 : (c : Dev Cert.FfnPreIdeal.nD) → Buf (Elt Ideal) ((c.tc : Thread Cert.FfnPreIdeal.nD Cert.FfnPreIdeal.τ).loc Cert.FfnPreIdeal.main_v5)),
      θ_run (Cert.FfnPreIdeal.defs (F := Ideal)) (onTc (τ := Cert.FfnPreIdeal.τ) (Cert.FfnPreIdeal.main (F := Ideal))) ⟨m, fun _ => 0, g⟩ (fun r => ∀ c : Dev Cert.FfnPreIdeal.nD,
          r.2.mem ((c.tc : Thread Cert.FfnPreIdeal.nD Cert.FfnPreIdeal.τ).loc Cert.FfnPreIdeal.main_v5) = v0 c
          ∧ r.2.mem ((c.tc : Thread Cert.FfnPreIdeal.nD Cert.FfnPreIdeal.τ).loc Cert.FfnPreIdeal.main_arg0) = m ((c.tc : Thread Cert.FfnPreIdeal.nD Cert.FfnPreIdeal.τ).loc Cert.FfnPreIdeal.main_arg0)
          ∧ r.2.mem ((c.tc : Thread Cert.FfnPreIdeal.nD Cert.FfnPreIdeal.τ).loc Cert.FfnPreIdeal.main_arg1) = m ((c.tc : Thread Cert.FfnPreIdeal.nD Cert.FfnPreIdeal.τ).loc Cert.FfnPreIdeal.main_arg1)
          ∧ r.2.mem ((c.tc : Thread Cert.FfnPreIdeal.nD Cert.FfnPreIdeal.τ).loc Cert.FfnPreIdeal.main_arg2) = m ((c.tc : Thread Cert.FfnPreIdeal.nD Cert.FfnPreIdeal.τ).loc Cert.FfnPreIdeal.main_arg2)
          ∧ r.2.mem ((c.tc : Thread Cert.FfnPreIdeal.nD Cert.FfnPreIdeal.τ).loc Cert.FfnPreIdeal.main_arg3) = m ((c.tc : Thread Cert.FfnPreIdeal.nD Cert.FfnPreIdeal.τ).loc Cert.FfnPreIdeal.main_arg3)
          ∧ r.2.mem ((c.tc : Thread Cert.FfnPreIdeal.nD Cert.FfnPreIdeal.τ).loc Cert.FfnPreIdeal.main_arg4) = m ((c.tc : Thread Cert.FfnPreIdeal.nD Cert.FfnPreIdeal.τ).loc Cert.FfnPreIdeal.main_arg4)
          ∧ r.2.mem ((c.tc : Thread Cert.FfnPreIdeal.nD Cert.FfnPreIdeal.τ).loc Cert.FfnPreIdeal.main_arg5) = m ((c.tc : Thread Cert.FfnPreIdeal.nD Cert.FfnPreIdeal.τ).loc Cert.FfnPreIdeal.main_arg5)
          ∧ r.2.mem ((c.tc : Thread Cert.FfnPreIdeal.nD Cert.FfnPreIdeal.τ).loc Cert.FfnPreIdeal.main_arg6) = m ((c.tc : Thread Cert.FfnPreIdeal.nD Cert.FfnPreIdeal.τ).loc Cert.FfnPreIdeal.main_arg6)
          ∧ r.2.mem ((c.tc : Thread Cert.FfnPreIdeal.nD Cert.FfnPreIdeal.τ).loc Cert.FfnPreIdeal.main_arg7) = m ((c.tc : Thread Cert.FfnPreIdeal.nD Cert.FfnPreIdeal.τ).loc Cert.FfnPreIdeal.main_arg7)
          ∧ r.2.mem ((c.tc : Thread Cert.FfnPreIdeal.nD Cert.FfnPreIdeal.τ).loc Cert.FfnPreIdeal.main_arg8) = m ((c.tc : Thread Cert.FfnPreIdeal.nD Cert.FfnPreIdeal.τ).loc Cert.FfnPreIdeal.main_arg8))
      ∧ θ_run (Cert.FfnPreRefIdeal.defs (F := Ideal)) (onTc (τ := Cert.FfnPreRefIdeal.τ) (Cert.FfnPreRefIdeal.main (F := Ideal))) ⟨m', fun _ => 0, g'⟩ (fun r => ∀ c : Dev Cert.FfnPreRefIdeal.nD,
          r.2.mem ((c.tc : Thread Cert.FfnPreRefIdeal.nD Cert.FfnPreRefIdeal.τ).loc Cert.FfnPreRefIdeal.main_v36) = v0 c
          ∧ r.2.mem ((c.tc : Thread Cert.FfnPreRefIdeal.nD Cert.FfnPreRefIdeal.τ).loc Cert.FfnPreRefIdeal.main_arg0) = m' ((c.tc : Thread Cert.FfnPreRefIdeal.nD Cert.FfnPreRefIdeal.τ).loc Cert.FfnPreRefIdeal.main_arg0)
          ∧ r.2.mem ((c.tc : Thread Cert.FfnPreRefIdeal.nD Cert.FfnPreRefIdeal.τ).loc Cert.FfnPreRefIdeal.main_arg1) = m' ((c.tc : Thread Cert.FfnPreRefIdeal.nD Cert.FfnPreRefIdeal.τ).loc Cert.FfnPreRefIdeal.main_arg1)
          ∧ r.2.mem ((c.tc : Thread Cert.FfnPreRefIdeal.nD Cert.FfnPreRefIdeal.τ).loc Cert.FfnPreRefIdeal.main_arg2) = m' ((c.tc : Thread Cert.FfnPreRefIdeal.nD Cert.FfnPreRefIdeal.τ).loc Cert.FfnPreRefIdeal.main_arg2)
          ∧ r.2.mem ((c.tc : Thread Cert.FfnPreRefIdeal.nD Cert.FfnPreRefIdeal.τ).loc Cert.FfnPreRefIdeal.main_arg3) = m' ((c.tc : Thread Cert.FfnPreRefIdeal.nD Cert.FfnPreRefIdeal.τ).loc Cert.FfnPreRefIdeal.main_arg3)
          ∧ r.2.mem ((c.tc : Thread Cert.FfnPreRefIdeal.nD Cert.FfnPreRefIdeal.τ).loc Cert.FfnPreRefIdeal.main_arg4) = m' ((c.tc : Thread Cert.FfnPreRefIdeal.nD Cert.FfnPreRefIdeal.τ).loc Cert.FfnPreRefIdeal.main_arg4)
          ∧ r.2.mem ((c.tc : Thread Cert.FfnPreRefIdeal.nD Cert.FfnPreRefIdeal.τ).loc Cert.FfnPreRefIdeal.main_arg5) = m' ((c.tc : Thread Cert.FfnPreRefIdeal.nD Cert.FfnPreRefIdeal.τ).loc Cert.FfnPreRefIdeal.main_arg5)
          ∧ r.2.mem ((c.tc : Thread Cert.FfnPreRefIdeal.nD Cert.FfnPreRefIdeal.τ).loc Cert.FfnPreRefIdeal.main_arg6) = m' ((c.tc : Thread Cert.FfnPreRefIdeal.nD Cert.FfnPreRefIdeal.τ).loc Cert.FfnPreRefIdeal.main_arg6)
          ∧ r.2.mem ((c.tc : Thread Cert.FfnPreRefIdeal.nD Cert.FfnPreRefIdeal.τ).loc Cert.FfnPreRefIdeal.main_arg7) = m' ((c.tc : Thread Cert.FfnPreRefIdeal.nD Cert.FfnPreRefIdeal.τ).loc Cert.FfnPreRefIdeal.main_arg7)
          ∧ r.2.mem ((c.tc : Thread Cert.FfnPreRefIdeal.nD Cert.FfnPreRefIdeal.τ).loc Cert.FfnPreRefIdeal.main_arg8) = m' ((c.tc : Thread Cert.FfnPreRefIdeal.nD Cert.FfnPreRefIdeal.τ).loc Cert.FfnPreRefIdeal.main_arg8))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v31) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_SConv_SConvIdeal : Prop :=
  True

def algebraic_SConvIdeal_SConvRefIdeal [hSConvIdeal : Cert.SConvIdeal.Facts] [hSConvRefIdeal : Cert.SConvRefIdeal.Facts] : Prop :=
  ∀ (m : (ℓ : Loc Cert.SConvIdeal.nD Cert.SConvIdeal.τ Cert.SConvIdeal.sig) → Buf (Elt Ideal) ℓ) (g : Dev Cert.SConvIdeal.nD → PrngReg)
    (m' : (ℓ : Loc Cert.SConvRefIdeal.nD Cert.SConvRefIdeal.τ Cert.SConvRefIdeal.sig) → Buf (Elt Ideal) ℓ) (g' : Dev Cert.SConvRefIdeal.nD → PrngReg), Pre_SConvIdeal m →
    (∀ c : Dev Cert.SConvIdeal.nD,
      m' ((c.tc : Thread Cert.SConvRefIdeal.nD Cert.SConvRefIdeal.τ).loc Cert.SConvRefIdeal.main_arg0) = m ((c.tc : Thread Cert.SConvIdeal.nD Cert.SConvIdeal.τ).loc Cert.SConvIdeal.main_arg0)
      ∧ m' ((c.tc : Thread Cert.SConvRefIdeal.nD Cert.SConvRefIdeal.τ).loc Cert.SConvRefIdeal.main_arg1) = m ((c.tc : Thread Cert.SConvIdeal.nD Cert.SConvIdeal.τ).loc Cert.SConvIdeal.main_arg1)
      ∧ m' ((c.tc : Thread Cert.SConvRefIdeal.nD Cert.SConvRefIdeal.τ).loc Cert.SConvRefIdeal.main_arg2) = m ((c.tc : Thread Cert.SConvIdeal.nD Cert.SConvIdeal.τ).loc Cert.SConvIdeal.main_arg2)
      ∧ m' ((c.tc : Thread Cert.SConvRefIdeal.nD Cert.SConvRefIdeal.τ).loc Cert.SConvRefIdeal.main_arg3) = m ((c.tc : Thread Cert.SConvIdeal.nD Cert.SConvIdeal.τ).loc Cert.SConvIdeal.main_arg3)
      ∧ m' ((c.tc : Thread Cert.SConvRefIdeal.nD Cert.SConvRefIdeal.τ).loc Cert.SConvRefIdeal.main_arg4) = m ((c.tc : Thread Cert.SConvIdeal.nD Cert.SConvIdeal.τ).loc Cert.SConvIdeal.main_arg4)
      ∧ m' ((c.tc : Thread Cert.SConvRefIdeal.nD Cert.SConvRefIdeal.τ).loc Cert.SConvRefIdeal.main_arg5) = m ((c.tc : Thread Cert.SConvIdeal.nD Cert.SConvIdeal.τ).loc Cert.SConvIdeal.main_arg5)) →
    ∃ (v0 : (c : Dev Cert.SConvIdeal.nD) → Buf (Elt Ideal) ((c.tc : Thread Cert.SConvIdeal.nD Cert.SConvIdeal.τ).loc Cert.SConvIdeal.main_v9_0)) (v1 : (c : Dev Cert.SConvIdeal.nD) → Buf (Elt Ideal) ((c.tc : Thread Cert.SConvIdeal.nD Cert.SConvIdeal.τ).loc Cert.SConvIdeal.main_v9_1)),
      θ_run (Cert.SConvIdeal.defs (F := Ideal)) (onTc (τ := Cert.SConvIdeal.τ) (Cert.SConvIdeal.main (F := Ideal))) ⟨m, fun _ => 0, g⟩ (fun r => ∀ c : Dev Cert.SConvIdeal.nD,
          r.2.mem ((c.tc : Thread Cert.SConvIdeal.nD Cert.SConvIdeal.τ).loc Cert.SConvIdeal.main_v9_0) = v0 c
          ∧ r.2.mem ((c.tc : Thread Cert.SConvIdeal.nD Cert.SConvIdeal.τ).loc Cert.SConvIdeal.main_v9_1) = v1 c
          ∧ r.2.mem ((c.tc : Thread Cert.SConvIdeal.nD Cert.SConvIdeal.τ).loc Cert.SConvIdeal.main_arg0) = m ((c.tc : Thread Cert.SConvIdeal.nD Cert.SConvIdeal.τ).loc Cert.SConvIdeal.main_arg0)
          ∧ r.2.mem ((c.tc : Thread Cert.SConvIdeal.nD Cert.SConvIdeal.τ).loc Cert.SConvIdeal.main_arg1) = m ((c.tc : Thread Cert.SConvIdeal.nD Cert.SConvIdeal.τ).loc Cert.SConvIdeal.main_arg1)
          ∧ r.2.mem ((c.tc : Thread Cert.SConvIdeal.nD Cert.SConvIdeal.τ).loc Cert.SConvIdeal.main_arg2) = m ((c.tc : Thread Cert.SConvIdeal.nD Cert.SConvIdeal.τ).loc Cert.SConvIdeal.main_arg2)
          ∧ r.2.mem ((c.tc : Thread Cert.SConvIdeal.nD Cert.SConvIdeal.τ).loc Cert.SConvIdeal.main_arg3) = m ((c.tc : Thread Cert.SConvIdeal.nD Cert.SConvIdeal.τ).loc Cert.SConvIdeal.main_arg3)
          ∧ r.2.mem ((c.tc : Thread Cert.SConvIdeal.nD Cert.SConvIdeal.τ).loc Cert.SConvIdeal.main_arg4) = m ((c.tc : Thread Cert.SConvIdeal.nD Cert.SConvIdeal.τ).loc Cert.SConvIdeal.main_arg4)
          ∧ r.2.mem ((c.tc : Thread Cert.SConvIdeal.nD Cert.SConvIdeal.τ).loc Cert.SConvIdeal.main_arg5) = m ((c.tc : Thread Cert.SConvIdeal.nD Cert.SConvIdeal.τ).loc Cert.SConvIdeal.main_arg5))
      ∧ θ_run (Cert.SConvRefIdeal.defs (F := Ideal)) (onTc (τ := Cert.SConvRefIdeal.τ) (Cert.SConvRefIdeal.main (F := Ideal))) ⟨m', fun _ => 0, g'⟩ (fun r => ∀ c : Dev Cert.SConvRefIdeal.nD,
          r.2.mem ((c.tc : Thread Cert.SConvRefIdeal.nD Cert.SConvRefIdeal.τ).loc Cert.SConvRefIdeal.main_v42) = v0 c
          ∧ r.2.mem ((c.tc : Thread Cert.SConvRefIdeal.nD Cert.SConvRefIdeal.τ).loc Cert.SConvRefIdeal.main_v44) = v1 c
          ∧ r.2.mem ((c.tc : Thread Cert.SConvRefIdeal.nD Cert.SConvRefIdeal.τ).loc Cert.SConvRefIdeal.main_arg0) = m' ((c.tc : Thread Cert.SConvRefIdeal.nD Cert.SConvRefIdeal.τ).loc Cert.SConvRefIdeal.main_arg0)
          ∧ r.2.mem ((c.tc : Thread Cert.SConvRefIdeal.nD Cert.SConvRefIdeal.τ).loc Cert.SConvRefIdeal.main_arg1) = m' ((c.tc : Thread Cert.SConvRefIdeal.nD Cert.SConvRefIdeal.τ).loc Cert.SConvRefIdeal.main_arg1)
          ∧ r.2.mem ((c.tc : Thread Cert.SConvRefIdeal.nD Cert.SConvRefIdeal.τ).loc Cert.SConvRefIdeal.main_arg2) = m' ((c.tc : Thread Cert.SConvRefIdeal.nD Cert.SConvRefIdeal.τ).loc Cert.SConvRefIdeal.main_arg2)
          ∧ r.2.mem ((c.tc : Thread Cert.SConvRefIdeal.nD Cert.SConvRefIdeal.τ).loc Cert.SConvRefIdeal.main_arg3) = m' ((c.tc : Thread Cert.SConvRefIdeal.nD Cert.SConvRefIdeal.τ).loc Cert.SConvRefIdeal.main_arg3)
          ∧ r.2.mem ((c.tc : Thread Cert.SConvRefIdeal.nD Cert.SConvRefIdeal.τ).loc Cert.SConvRefIdeal.main_arg4) = m' ((c.tc : Thread Cert.SConvRefIdeal.nD Cert.SConvRefIdeal.τ).loc Cert.SConvRefIdeal.main_arg4)
          ∧ r.2.mem ((c.tc : Thread Cert.SConvRefIdeal.nD Cert.SConvRefIdeal.τ).loc Cert.SConvRefIdeal.main_arg5) = m' ((c.tc : Thread Cert.SConvRefIdeal.nD Cert.SConvRefIdeal.τ).loc Cert.SConvRefIdeal.main_arg5))

def preserves_SFfnPre_SFfnPreIdeal : Prop :=
  True

def algebraic_SFfnPreIdeal_SFfnPreRefIdeal [hSFfnPreIdeal : Cert.SFfnPreIdeal.Facts] [hSFfnPreRefIdeal : Cert.SFfnPreRefIdeal.Facts] : Prop :=
  ∀ (m : (ℓ : Loc Cert.SFfnPreIdeal.nD Cert.SFfnPreIdeal.τ Cert.SFfnPreIdeal.sig) → Buf (Elt Ideal) ℓ) (g : Dev Cert.SFfnPreIdeal.nD → PrngReg)
    (m' : (ℓ : Loc Cert.SFfnPreRefIdeal.nD Cert.SFfnPreRefIdeal.τ Cert.SFfnPreRefIdeal.sig) → Buf (Elt Ideal) ℓ) (g' : Dev Cert.SFfnPreRefIdeal.nD → PrngReg), Pre_SFfnPreIdeal m →
    (∀ c : Dev Cert.SFfnPreIdeal.nD,
      m' ((c.tc : Thread Cert.SFfnPreRefIdeal.nD Cert.SFfnPreRefIdeal.τ).loc Cert.SFfnPreRefIdeal.main_arg0) = m ((c.tc : Thread Cert.SFfnPreIdeal.nD Cert.SFfnPreIdeal.τ).loc Cert.SFfnPreIdeal.main_arg0)
      ∧ m' ((c.tc : Thread Cert.SFfnPreRefIdeal.nD Cert.SFfnPreRefIdeal.τ).loc Cert.SFfnPreRefIdeal.main_arg1) = m ((c.tc : Thread Cert.SFfnPreIdeal.nD Cert.SFfnPreIdeal.τ).loc Cert.SFfnPreIdeal.main_arg1)
      ∧ m' ((c.tc : Thread Cert.SFfnPreRefIdeal.nD Cert.SFfnPreRefIdeal.τ).loc Cert.SFfnPreRefIdeal.main_arg2) = m ((c.tc : Thread Cert.SFfnPreIdeal.nD Cert.SFfnPreIdeal.τ).loc Cert.SFfnPreIdeal.main_arg2)
      ∧ m' ((c.tc : Thread Cert.SFfnPreRefIdeal.nD Cert.SFfnPreRefIdeal.τ).loc Cert.SFfnPreRefIdeal.main_arg3) = m ((c.tc : Thread Cert.SFfnPreIdeal.nD Cert.SFfnPreIdeal.τ).loc Cert.SFfnPreIdeal.main_arg3)
      ∧ m' ((c.tc : Thread Cert.SFfnPreRefIdeal.nD Cert.SFfnPreRefIdeal.τ).loc Cert.SFfnPreRefIdeal.main_arg4) = m ((c.tc : Thread Cert.SFfnPreIdeal.nD Cert.SFfnPreIdeal.τ).loc Cert.SFfnPreIdeal.main_arg4)
      ∧ m' ((c.tc : Thread Cert.SFfnPreRefIdeal.nD Cert.SFfnPreRefIdeal.τ).loc Cert.SFfnPreRefIdeal.main_arg5) = m ((c.tc : Thread Cert.SFfnPreIdeal.nD Cert.SFfnPreIdeal.τ).loc Cert.SFfnPreIdeal.main_arg5)
      ∧ m' ((c.tc : Thread Cert.SFfnPreRefIdeal.nD Cert.SFfnPreRefIdeal.τ).loc Cert.SFfnPreRefIdeal.main_arg6) = m ((c.tc : Thread Cert.SFfnPreIdeal.nD Cert.SFfnPreIdeal.τ).loc Cert.SFfnPreIdeal.main_arg6)
      ∧ m' ((c.tc : Thread Cert.SFfnPreRefIdeal.nD Cert.SFfnPreRefIdeal.τ).loc Cert.SFfnPreRefIdeal.main_arg7) = m ((c.tc : Thread Cert.SFfnPreIdeal.nD Cert.SFfnPreIdeal.τ).loc Cert.SFfnPreIdeal.main_arg7)
      ∧ m' ((c.tc : Thread Cert.SFfnPreRefIdeal.nD Cert.SFfnPreRefIdeal.τ).loc Cert.SFfnPreRefIdeal.main_arg8) = m ((c.tc : Thread Cert.SFfnPreIdeal.nD Cert.SFfnPreIdeal.τ).loc Cert.SFfnPreIdeal.main_arg8)) →
    ∃ (v0 : (c : Dev Cert.SFfnPreIdeal.nD) → Buf (Elt Ideal) ((c.tc : Thread Cert.SFfnPreIdeal.nD Cert.SFfnPreIdeal.τ).loc Cert.SFfnPreIdeal.main_v8)),
      θ_run (Cert.SFfnPreIdeal.defs (F := Ideal)) (onTc (τ := Cert.SFfnPreIdeal.τ) (Cert.SFfnPreIdeal.main (F := Ideal))) ⟨m, fun _ => 0, g⟩ (fun r => ∀ c : Dev Cert.SFfnPreIdeal.nD,
          r.2.mem ((c.tc : Thread Cert.SFfnPreIdeal.nD Cert.SFfnPreIdeal.τ).loc Cert.SFfnPreIdeal.main_v8) = v0 c
          ∧ r.2.mem ((c.tc : Thread Cert.SFfnPreIdeal.nD Cert.SFfnPreIdeal.τ).loc Cert.SFfnPreIdeal.main_arg0) = m ((c.tc : Thread Cert.SFfnPreIdeal.nD Cert.SFfnPreIdeal.τ).loc Cert.SFfnPreIdeal.main_arg0)
          ∧ r.2.mem ((c.tc : Thread Cert.SFfnPreIdeal.nD Cert.SFfnPreIdeal.τ).loc Cert.SFfnPreIdeal.main_arg1) = m ((c.tc : Thread Cert.SFfnPreIdeal.nD Cert.SFfnPreIdeal.τ).loc Cert.SFfnPreIdeal.main_arg1)
          ∧ r.2.mem ((c.tc : Thread Cert.SFfnPreIdeal.nD Cert.SFfnPreIdeal.τ).loc Cert.SFfnPreIdeal.main_arg2) = m ((c.tc : Thread Cert.SFfnPreIdeal.nD Cert.SFfnPreIdeal.τ).loc Cert.SFfnPreIdeal.main_arg2)
          ∧ r.2.mem ((c.tc : Thread Cert.SFfnPreIdeal.nD Cert.SFfnPreIdeal.τ).loc Cert.SFfnPreIdeal.main_arg3) = m ((c.tc : Thread Cert.SFfnPreIdeal.nD Cert.SFfnPreIdeal.τ).loc Cert.SFfnPreIdeal.main_arg3)
          ∧ r.2.mem ((c.tc : Thread Cert.SFfnPreIdeal.nD Cert.SFfnPreIdeal.τ).loc Cert.SFfnPreIdeal.main_arg4) = m ((c.tc : Thread Cert.SFfnPreIdeal.nD Cert.SFfnPreIdeal.τ).loc Cert.SFfnPreIdeal.main_arg4)
          ∧ r.2.mem ((c.tc : Thread Cert.SFfnPreIdeal.nD Cert.SFfnPreIdeal.τ).loc Cert.SFfnPreIdeal.main_arg5) = m ((c.tc : Thread Cert.SFfnPreIdeal.nD Cert.SFfnPreIdeal.τ).loc Cert.SFfnPreIdeal.main_arg5)
          ∧ r.2.mem ((c.tc : Thread Cert.SFfnPreIdeal.nD Cert.SFfnPreIdeal.τ).loc Cert.SFfnPreIdeal.main_arg6) = m ((c.tc : Thread Cert.SFfnPreIdeal.nD Cert.SFfnPreIdeal.τ).loc Cert.SFfnPreIdeal.main_arg6)
          ∧ r.2.mem ((c.tc : Thread Cert.SFfnPreIdeal.nD Cert.SFfnPreIdeal.τ).loc Cert.SFfnPreIdeal.main_arg7) = m ((c.tc : Thread Cert.SFfnPreIdeal.nD Cert.SFfnPreIdeal.τ).loc Cert.SFfnPreIdeal.main_arg7)
          ∧ r.2.mem ((c.tc : Thread Cert.SFfnPreIdeal.nD Cert.SFfnPreIdeal.τ).loc Cert.SFfnPreIdeal.main_arg8) = m ((c.tc : Thread Cert.SFfnPreIdeal.nD Cert.SFfnPreIdeal.τ).loc Cert.SFfnPreIdeal.main_arg8))
      ∧ θ_run (Cert.SFfnPreRefIdeal.defs (F := Ideal)) (onTc (τ := Cert.SFfnPreRefIdeal.τ) (Cert.SFfnPreRefIdeal.main (F := Ideal))) ⟨m', fun _ => 0, g'⟩ (fun r => ∀ c : Dev Cert.SFfnPreRefIdeal.nD,
          r.2.mem ((c.tc : Thread Cert.SFfnPreRefIdeal.nD Cert.SFfnPreRefIdeal.τ).loc Cert.SFfnPreRefIdeal.main_v33) = v0 c
          ∧ r.2.mem ((c.tc : Thread Cert.SFfnPreRefIdeal.nD Cert.SFfnPreRefIdeal.τ).loc Cert.SFfnPreRefIdeal.main_arg0) = m' ((c.tc : Thread Cert.SFfnPreRefIdeal.nD Cert.SFfnPreRefIdeal.τ).loc Cert.SFfnPreRefIdeal.main_arg0)
          ∧ r.2.mem ((c.tc : Thread Cert.SFfnPreRefIdeal.nD Cert.SFfnPreRefIdeal.τ).loc Cert.SFfnPreRefIdeal.main_arg1) = m' ((c.tc : Thread Cert.SFfnPreRefIdeal.nD Cert.SFfnPreRefIdeal.τ).loc Cert.SFfnPreRefIdeal.main_arg1)
          ∧ r.2.mem ((c.tc : Thread Cert.SFfnPreRefIdeal.nD Cert.SFfnPreRefIdeal.τ).loc Cert.SFfnPreRefIdeal.main_arg2) = m' ((c.tc : Thread Cert.SFfnPreRefIdeal.nD Cert.SFfnPreRefIdeal.τ).loc Cert.SFfnPreRefIdeal.main_arg2)
          ∧ r.2.mem ((c.tc : Thread Cert.SFfnPreRefIdeal.nD Cert.SFfnPreRefIdeal.τ).loc Cert.SFfnPreRefIdeal.main_arg3) = m' ((c.tc : Thread Cert.SFfnPreRefIdeal.nD Cert.SFfnPreRefIdeal.τ).loc Cert.SFfnPreRefIdeal.main_arg3)
          ∧ r.2.mem ((c.tc : Thread Cert.SFfnPreRefIdeal.nD Cert.SFfnPreRefIdeal.τ).loc Cert.SFfnPreRefIdeal.main_arg4) = m' ((c.tc : Thread Cert.SFfnPreRefIdeal.nD Cert.SFfnPreRefIdeal.τ).loc Cert.SFfnPreRefIdeal.main_arg4)
          ∧ r.2.mem ((c.tc : Thread Cert.SFfnPreRefIdeal.nD Cert.SFfnPreRefIdeal.τ).loc Cert.SFfnPreRefIdeal.main_arg5) = m' ((c.tc : Thread Cert.SFfnPreRefIdeal.nD Cert.SFfnPreRefIdeal.τ).loc Cert.SFfnPreRefIdeal.main_arg5)
          ∧ r.2.mem ((c.tc : Thread Cert.SFfnPreRefIdeal.nD Cert.SFfnPreRefIdeal.τ).loc Cert.SFfnPreRefIdeal.main_arg6) = m' ((c.tc : Thread Cert.SFfnPreRefIdeal.nD Cert.SFfnPreRefIdeal.τ).loc Cert.SFfnPreRefIdeal.main_arg6)
          ∧ r.2.mem ((c.tc : Thread Cert.SFfnPreRefIdeal.nD Cert.SFfnPreRefIdeal.τ).loc Cert.SFfnPreRefIdeal.main_arg7) = m' ((c.tc : Thread Cert.SFfnPreRefIdeal.nD Cert.SFfnPreRefIdeal.τ).loc Cert.SFfnPreRefIdeal.main_arg7)
          ∧ r.2.mem ((c.tc : Thread Cert.SFfnPreRefIdeal.nD Cert.SFfnPreRefIdeal.τ).loc Cert.SFfnPreRefIdeal.main_arg8) = m' ((c.tc : Thread Cert.SFfnPreRefIdeal.nD Cert.SFfnPreRefIdeal.τ).loc Cert.SFfnPreRefIdeal.main_arg8))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v24_1)) (v1 : (c : Dev Cert.ProjIdeal.nD) → Buf (Elt Ideal) ((c.tc : Thread Cert.ProjIdeal.nD Cert.ProjIdeal.τ).loc Cert.ProjIdeal.main_v24_3)) (v2 : (c : Dev Cert.ProjIdeal.nD) → Buf (Elt Ideal) ((c.tc : Thread Cert.ProjIdeal.nD Cert.ProjIdeal.τ).loc Cert.ProjIdeal.main_v24_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v24_1) = v0 c
          ∧ r.2.mem ((c.tc : Thread Cert.ProjIdeal.nD Cert.ProjIdeal.τ).loc Cert.ProjIdeal.main_v24_3) = v1 c
          ∧ r.2.mem ((c.tc : Thread Cert.ProjIdeal.nD Cert.ProjIdeal.τ).loc Cert.ProjIdeal.main_v24_6) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v55) = v0 c
          ∧ r.2.mem ((c.tc : Thread Cert.ProjRefIdeal.nD Cert.ProjRefIdeal.τ).loc Cert.ProjRefIdeal.main_v56) = v1 c
          ∧ r.2.mem ((c.tc : Thread Cert.ProjRefIdeal.nD Cert.ProjRefIdeal.τ).loc Cert.ProjRefIdeal.main_v21) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def preserves_SProj_SProjIdeal : Prop :=
  True

def algebraic_SProjIdeal_SProjRefIdeal [hSProjIdeal : Cert.SProjIdeal.Facts] [hSProjRefIdeal : Cert.SProjRefIdeal.Facts] : Prop :=
  ∀ (m : (ℓ : Loc Cert.SProjIdeal.nD Cert.SProjIdeal.τ Cert.SProjIdeal.sig) → Buf (Elt Ideal) ℓ) (g : Dev Cert.SProjIdeal.nD → PrngReg)
    (m' : (ℓ : Loc Cert.SProjRefIdeal.nD Cert.SProjRefIdeal.τ Cert.SProjRefIdeal.sig) → Buf (Elt Ideal) ℓ) (g' : Dev Cert.SProjRefIdeal.nD → PrngReg), Pre_SProjIdeal m →
    (∀ c : Dev Cert.SProjIdeal.nD,
      m' ((c.tc : Thread Cert.SProjRefIdeal.nD Cert.SProjRefIdeal.τ).loc Cert.SProjRefIdeal.main_arg0) = m ((c.tc : Thread Cert.SProjIdeal.nD Cert.SProjIdeal.τ).loc Cert.SProjIdeal.main_arg0)
      ∧ m' ((c.tc : Thread Cert.SProjRefIdeal.nD Cert.SProjRefIdeal.τ).loc Cert.SProjRefIdeal.main_arg1) = m ((c.tc : Thread Cert.SProjIdeal.nD Cert.SProjIdeal.τ).loc Cert.SProjIdeal.main_arg1)
      ∧ m' ((c.tc : Thread Cert.SProjRefIdeal.nD Cert.SProjRefIdeal.τ).loc Cert.SProjRefIdeal.main_arg2) = m ((c.tc : Thread Cert.SProjIdeal.nD Cert.SProjIdeal.τ).loc Cert.SProjIdeal.main_arg2)
      ∧ m' ((c.tc : Thread Cert.SProjRefIdeal.nD Cert.SProjRefIdeal.τ).loc Cert.SProjRefIdeal.main_arg3) = m ((c.tc : Thread Cert.SProjIdeal.nD Cert.SProjIdeal.τ).loc Cert.SProjIdeal.main_arg3)
      ∧ m' ((c.tc : Thread Cert.SProjRefIdeal.nD Cert.SProjRefIdeal.τ).loc Cert.SProjRefIdeal.main_arg4) = m ((c.tc : Thread Cert.SProjIdeal.nD Cert.SProjIdeal.τ).loc Cert.SProjIdeal.main_arg4)
      ∧ m' ((c.tc : Thread Cert.SProjRefIdeal.nD Cert.SProjRefIdeal.τ).loc Cert.SProjRefIdeal.main_arg5) = m ((c.tc : Thread Cert.SProjIdeal.nD Cert.SProjIdeal.τ).loc Cert.SProjIdeal.main_arg5)) →
    ∃ (v0 : (c : Dev Cert.SProjIdeal.nD) → Buf (Elt Ideal) ((c.tc : Thread Cert.SProjIdeal.nD Cert.SProjIdeal.τ).loc Cert.SProjIdeal.main_v27_0)) (v1 : (c : Dev Cert.SProjIdeal.nD) → Buf (Elt Ideal) ((c.tc : Thread Cert.SProjIdeal.nD Cert.SProjIdeal.τ).loc Cert.SProjIdeal.main_v27_1)) (v2 : (c : Dev Cert.SProjIdeal.nD) → Buf (Elt Ideal) ((c.tc : Thread Cert.SProjIdeal.nD Cert.SProjIdeal.τ).loc Cert.SProjIdeal.main_v27_2)) (v3 : (c : Dev Cert.SProjIdeal.nD) → Buf (Elt Ideal) ((c.tc : Thread Cert.SProjIdeal.nD Cert.SProjIdeal.τ).loc Cert.SProjIdeal.main_v27_3)) (v4 : (c : Dev Cert.SProjIdeal.nD) → Buf (Elt Ideal) ((c.tc : Thread Cert.SProjIdeal.nD Cert.SProjIdeal.τ).loc Cert.SProjIdeal.main_v27_4)) (v5 : (c : Dev Cert.SProjIdeal.nD) → Buf (Elt Ideal) ((c.tc : Thread Cert.SProjIdeal.nD Cert.SProjIdeal.τ).loc Cert.SProjIdeal.main_v27_5)),
      θ_run (Cert.SProjIdeal.defs (F := Ideal)) (onTc (τ := Cert.SProjIdeal.τ) (Cert.SProjIdeal.main (F := Ideal))) ⟨m, fun _ => 0, g⟩ (fun r => ∀ c : Dev Cert.SProjIdeal.nD,
          r.2.mem ((c.tc : Thread Cert.SProjIdeal.nD Cert.SProjIdeal.τ).loc Cert.SProjIdeal.main_v27_0) = v0 c
          ∧ r.2.mem ((c.tc : Thread Cert.SProjIdeal.nD Cert.SProjIdeal.τ).loc Cert.SProjIdeal.main_v27_1) = v1 c
          ∧ r.2.mem ((c.tc : Thread Cert.SProjIdeal.nD Cert.SProjIdeal.τ).loc Cert.SProjIdeal.main_v27_2) = v2 c
          ∧ r.2.mem ((c.tc : Thread Cert.SProjIdeal.nD Cert.SProjIdeal.τ).loc Cert.SProjIdeal.main_v27_3) = v3 c
          ∧ r.2.mem ((c.tc : Thread Cert.SProjIdeal.nD Cert.SProjIdeal.τ).loc Cert.SProjIdeal.main_v27_4) = v4 c
          ∧ r.2.mem ((c.tc : Thread Cert.SProjIdeal.nD Cert.SProjIdeal.τ).loc Cert.SProjIdeal.main_v27_5) = v5 c
          ∧ r.2.mem ((c.tc : Thread Cert.SProjIdeal.nD Cert.SProjIdeal.τ).loc Cert.SProjIdeal.main_arg0) = m ((c.tc : Thread Cert.SProjIdeal.nD Cert.SProjIdeal.τ).loc Cert.SProjIdeal.main_arg0)
          ∧ r.2.mem ((c.tc : Thread Cert.SProjIdeal.nD Cert.SProjIdeal.τ).loc Cert.SProjIdeal.main_arg1) = m ((c.tc : Thread Cert.SProjIdeal.nD Cert.SProjIdeal.τ).loc Cert.SProjIdeal.main_arg1)
          ∧ r.2.mem ((c.tc : Thread Cert.SProjIdeal.nD Cert.SProjIdeal.τ).loc Cert.SProjIdeal.main_arg2) = m ((c.tc : Thread Cert.SProjIdeal.nD Cert.SProjIdeal.τ).loc Cert.SProjIdeal.main_arg2)
          ∧ r.2.mem ((c.tc : Thread Cert.SProjIdeal.nD Cert.SProjIdeal.τ).loc Cert.SProjIdeal.main_arg3) = m ((c.tc : Thread Cert.SProjIdeal.nD Cert.SProjIdeal.τ).loc Cert.SProjIdeal.main_arg3)
          ∧ r.2.mem ((c.tc : Thread Cert.SProjIdeal.nD Cert.SProjIdeal.τ).loc Cert.SProjIdeal.main_arg4) = m ((c.tc : Thread Cert.SProjIdeal.nD Cert.SProjIdeal.τ).loc Cert.SProjIdeal.main_arg4)
          ∧ r.2.mem ((c.tc : Thread Cert.SProjIdeal.nD Cert.SProjIdeal.τ).loc Cert.SProjIdeal.main_arg5) = m ((c.tc : Thread Cert.SProjIdeal.nD Cert.SProjIdeal.τ).loc Cert.SProjIdeal.main_arg5))
      ∧ θ_run (Cert.SProjRefIdeal.defs (F := Ideal)) (onTc (τ := Cert.SProjRefIdeal.τ) (Cert.SProjRefIdeal.main (F := Ideal))) ⟨m', fun _ => 0, g'⟩ (fun r => ∀ c : Dev Cert.SProjRefIdeal.nD,
          r.2.mem ((c.tc : Thread Cert.SProjRefIdeal.nD Cert.SProjRefIdeal.τ).loc Cert.SProjRefIdeal.main_v56) = v0 c
          ∧ r.2.mem ((c.tc : Thread Cert.SProjRefIdeal.nD Cert.SProjRefIdeal.τ).loc Cert.SProjRefIdeal.main_v59) = v1 c
          ∧ r.2.mem ((c.tc : Thread Cert.SProjRefIdeal.nD Cert.SProjRefIdeal.τ).loc Cert.SProjRefIdeal.main_v60) = v2 c
          ∧ r.2.mem ((c.tc : Thread Cert.SProjRefIdeal.nD Cert.SProjRefIdeal.τ).loc Cert.SProjRefIdeal.main_v58) = v3 c
          ∧ r.2.mem ((c.tc : Thread Cert.SProjRefIdeal.nD Cert.SProjRefIdeal.τ).loc Cert.SProjRefIdeal.main_v61) = v4 c
          ∧ r.2.mem ((c.tc : Thread Cert.SProjRefIdeal.nD Cert.SProjRefIdeal.τ).loc Cert.SProjRefIdeal.main_v64) = v5 c
          ∧ r.2.mem ((c.tc : Thread Cert.SProjRefIdeal.nD Cert.SProjRefIdeal.τ).loc Cert.SProjRefIdeal.main_arg0) = m' ((c.tc : Thread Cert.SProjRefIdeal.nD Cert.SProjRefIdeal.τ).loc Cert.SProjRefIdeal.main_arg0)
          ∧ r.2.mem ((c.tc : Thread Cert.SProjRefIdeal.nD Cert.SProjRefIdeal.τ).loc Cert.SProjRefIdeal.main_arg1) = m' ((c.tc : Thread Cert.SProjRefIdeal.nD Cert.SProjRefIdeal.τ).loc Cert.SProjRefIdeal.main_arg1)
          ∧ r.2.mem ((c.tc : Thread Cert.SProjRefIdeal.nD Cert.SProjRefIdeal.τ).loc Cert.SProjRefIdeal.main_arg2) = m' ((c.tc : Thread Cert.SProjRefIdeal.nD Cert.SProjRefIdeal.τ).loc Cert.SProjRefIdeal.main_arg2)
          ∧ r.2.mem ((c.tc : Thread Cert.SProjRefIdeal.nD Cert.SProjRefIdeal.τ).loc Cert.SProjRefIdeal.main_arg3) = m' ((c.tc : Thread Cert.SProjRefIdeal.nD Cert.SProjRefIdeal.τ).loc Cert.SProjRefIdeal.main_arg3)
          ∧ r.2.mem ((c.tc : Thread Cert.SProjRefIdeal.nD Cert.SProjRefIdeal.τ).loc Cert.SProjRefIdeal.main_arg4) = m' ((c.tc : Thread Cert.SProjRefIdeal.nD Cert.SProjRefIdeal.τ).loc Cert.SProjRefIdeal.main_arg4)
          ∧ r.2.mem ((c.tc : Thread Cert.SProjRefIdeal.nD Cert.SProjRefIdeal.τ).loc Cert.SProjRefIdeal.main_arg5) = m' ((c.tc : Thread Cert.SProjRefIdeal.nD Cert.SProjRefIdeal.τ).loc Cert.SProjRefIdeal.main_arg5))

def Claim : Prop :=
  ∃ (hConv : Cert.Conv.Facts) (hConvIdeal : Cert.ConvIdeal.Facts) (hConvRefIdeal : Cert.ConvRefIdeal.Facts) (hFfnPre : Cert.FfnPre.Facts) (hFfnPreIdeal : Cert.FfnPreIdeal.Facts) (hFfnPreRefIdeal : Cert.FfnPreRefIdeal.Facts) (hFfn : Cert.Ffn.Facts) (hFfnIdeal : Cert.FfnIdeal.Facts) (hFfnRefIdeal : Cert.FfnRefIdeal.Facts) (hSConv : Cert.SConv.Facts) (hSConvIdeal : Cert.SConvIdeal.Facts) (hSConvRefIdeal : Cert.SConvRefIdeal.Facts) (hSFfnPre : Cert.SFfnPre.Facts) (hSFfnPreIdeal : Cert.SFfnPreIdeal.Facts) (hSFfnPreRefIdeal : Cert.SFfnPreRefIdeal.Facts) (hProj : Cert.Proj.Facts) (hProjIdeal : Cert.ProjIdeal.Facts) (hProjRefIdeal : Cert.ProjRefIdeal.Facts) (hSProj : Cert.SProj.Facts) (hSProjIdeal : Cert.SProjIdeal.Facts) (hSProjRefIdeal : Cert.SProjRefIdeal.Facts),
    quiescent_Conv (hConv := hConv)
    ∧ quiescent_ConvIdeal (hConvIdeal := hConvIdeal)
    ∧ quiescent_ConvRefIdeal (hConvRefIdeal := hConvRefIdeal)
    ∧ quiescent_FfnPre (hFfnPre := hFfnPre)
    ∧ quiescent_FfnPreIdeal (hFfnPreIdeal := hFfnPreIdeal)
    ∧ quiescent_FfnPreRefIdeal (hFfnPreRefIdeal := hFfnPreRefIdeal)
    ∧ quiescent_Ffn (hFfn := hFfn)
    ∧ quiescent_FfnIdeal (hFfnIdeal := hFfnIdeal)
    ∧ quiescent_FfnRefIdeal (hFfnRefIdeal := hFfnRefIdeal)
    ∧ quiescent_SConv (hSConv := hSConv)
    ∧ quiescent_SConvIdeal (hSConvIdeal := hSConvIdeal)
    ∧ quiescent_SConvRefIdeal (hSConvRefIdeal := hSConvRefIdeal)
    ∧ quiescent_SFfnPre (hSFfnPre := hSFfnPre)
    ∧ quiescent_SFfnPreIdeal (hSFfnPreIdeal := hSFfnPreIdeal)
    ∧ quiescent_SFfnPreRefIdeal (hSFfnPreRefIdeal := hSFfnPreRefIdeal)
    ∧ quiescent_Proj (hProj := hProj)
    ∧ quiescent_ProjIdeal (hProjIdeal := hProjIdeal)
    ∧ quiescent_ProjRefIdeal (hProjRefIdeal := hProjRefIdeal)
    ∧ quiescent_SProj (hSProj := hSProj)
    ∧ quiescent_SProjIdeal (hSProjIdeal := hSProjIdeal)
    ∧ quiescent_SProjRefIdeal (hSProjRefIdeal := hSProjRefIdeal)
    ∧ preserves_Conv_ConvIdeal
    ∧ algebraic_ConvIdeal_ConvRefIdeal (hConvIdeal := hConvIdeal) (hConvRefIdeal := hConvRefIdeal)
    ∧ preserves_FfnPre_FfnPreIdeal
    ∧ algebraic_FfnPreIdeal_FfnPreRefIdeal (hFfnPreIdeal := hFfnPreIdeal) (hFfnPreRefIdeal := hFfnPreRefIdeal)
    ∧ preserves_Ffn_FfnIdeal
    ∧ algebraic_FfnIdeal_FfnRefIdeal (hFfnIdeal := hFfnIdeal) (hFfnRefIdeal := hFfnRefIdeal)
    ∧ preserves_SConv_SConvIdeal
    ∧ algebraic_SConvIdeal_SConvRefIdeal (hSConvIdeal := hSConvIdeal) (hSConvRefIdeal := hSConvRefIdeal)
    ∧ preserves_SFfnPre_SFfnPreIdeal
    ∧ algebraic_SFfnPreIdeal_SFfnPreRefIdeal (hSFfnPreIdeal := hSFfnPreIdeal) (hSFfnPreRefIdeal := hSFfnPreRefIdeal)
    ∧ preserves_Proj_ProjIdeal
    ∧ algebraic_ProjIdeal_ProjRefIdeal (hProjIdeal := hProjIdeal) (hProjRefIdeal := hProjRefIdeal)
    ∧ preserves_SProj_SProjIdeal
    ∧ algebraic_SProjIdeal_SProjRefIdeal (hSProjIdeal := hSProjIdeal) (hSProjRefIdeal := hSProjRefIdeal)
-- ==== Conv.lean ====
abbrev S2x8192x1024 : Shape := ⟨3, ![2, 8192, 1024]⟩
abbrev S2x1x1024 : Shape := ⟨3, ![2, 1, 1024]⟩
abbrev S1024x3072 : Shape := ⟨2, ![1024, 3072]⟩
abbrev S3x1024 : Shape := ⟨2, ![3, 1024]⟩
abbrev S_ : Shape := ⟨0, ![]⟩
abbrev S8x1024 : Shape := ⟨2, ![8, 1024]⟩
abbrev S2x8x1024 : Shape := ⟨3, ![2, 8, 1024]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x3072, .f32⟩
  | .hbm, ⟨4, _⟩ => ⟨S3x1024, .f32⟩
  | .hbm, ⟨5, _⟩ => ⟨S1024x3072, .bf16⟩
  | .hbm, ⟨6, _⟩ => ⟨S_, .i32⟩
  | .hbm, ⟨7, _⟩ => ⟨S_, .f32⟩
  | .hbm, ⟨8, _⟩ => ⟨S8x1024, .f32⟩
  | .hbm, ⟨9, _⟩ => ⟨S2x8192x1024, .bf16⟩
  | .hbm, ⟨10, _⟩ => ⟨S2x8x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3072, .bf16⟩
  | .local _ .vmem, ⟨7, _⟩ => ⟨S8x1024, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1x8x1024, .f32⟩
  | .local _ .vmem, ⟨11, _⟩ => ⟨S1x8x1024, .f32⟩
  | .local _ .vmem, ⟨12, _⟩ => ⟨S8x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ConvRefIdeal.lean ====
abbrev S2x8192x1024 : Shape := ⟨3, ![2, 8192, 1024]⟩
abbrev S2x1x1024 : Shape := ⟨3, ![2, 1, 1024]⟩
abbrev S1024x3072 : Shape := ⟨2, ![1024, 3072]⟩
abbrev S3x1024 : Shape := ⟨2, ![3, 1024]⟩
abbrev S_ : Shape := ⟨0, ![]⟩
abbrev S2x2x1024 : Shape := ⟨3, ![2, 2, 1024]⟩
abbrev S2x8192 : Shape := ⟨2, ![2, 8192]⟩
abbrev S2x8192x1 : Shape := ⟨3, ![2, 8192, 1]⟩
abbrev S2x8192x3072 : Shape := ⟨3, ![2, 8192, 3072]⟩
abbrev S2x8194x1024 : Shape := ⟨3, ![2, 8194, 1024]⟩
abbrev S1x1024 : Shape := ⟨2, ![1, 1024]⟩
abbrev S1024 : Shape := ⟨1, ![1024]⟩
abbrev S1x1x1024 : Shape := ⟨3, ![1, 1, 1024]⟩
abbrev S2x8x1024 : Shape := ⟨3, ![2, 8, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x3072, .f32⟩
  | .hbm, ⟨4, _⟩ => ⟨S3x1024, .f32⟩
  | .hbm, ⟨5, _⟩ => ⟨S_, .f32⟩
  | .hbm, ⟨6, _⟩ => ⟨S2x2x1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S_, .f32⟩
  | .hbm, ⟨21, _⟩ => ⟨S2x1x1024, .f32⟩
  | .hbm, ⟨22, _⟩ => ⟨S2x1x1024, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S2x8192x3072, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S2x8194x1024, .f32⟩
  | .hbm, ⟨33, _⟩ => ⟨S1x1024, .f32⟩
  | .hbm, ⟨34, _⟩ => ⟨S1024, .f32⟩
  | .hbm, ⟨35, _⟩ => ⟨S2x8192x1024, .f32⟩
  | .hbm, ⟨36, _⟩ => ⟨S1x1x1024, .f32⟩
  | .hbm, ⟨37, _⟩ => ⟨S2x8192x1024, .f32⟩
  | .hbm, ⟨38, _⟩ => ⟨S2x8192x1024, .f32⟩
  | .hbm, ⟨39, _⟩ => ⟨S1x1024, .f32⟩
  | .hbm, ⟨40, _⟩ => ⟨S1024, .f32⟩
  | .hbm, ⟨41, _⟩ => ⟨S2x8192x1024, .f32⟩
  | .hbm, ⟨42, _⟩ => ⟨S1x1x1024, .f32⟩
  | .hbm, ⟨43, _⟩ => ⟨S2x8192x1024, .f32⟩
  | .hbm, ⟨44, _⟩ => ⟨S2x8192x1024, .f32⟩
  | .hbm, ⟨45, _⟩ => ⟨S2x8192x1024, .f32⟩
  | .hbm, ⟨46, _⟩ => ⟨S1x1024, .f32⟩
  | .hbm, ⟨47, _⟩ => ⟨S1024, .f32⟩
  | .hbm, ⟨48, _⟩ => ⟨S2x8192x1024, .f32⟩
  | .hbm, ⟨49, _⟩ => ⟨S1x1x1024, .f32⟩
  | .hbm, ⟨50, _⟩ => ⟨S2x8192x1024, .f32⟩
  | .hbm, ⟨51, _⟩ => ⟨S2x8192x1024, .f32⟩
  | .hbm, ⟨52, _⟩ => ⟨S2x8192x1024, .f32⟩
  | .hbm, ⟨53, _⟩ => ⟨S2x8192x1024, .f32⟩
  | .hbm, ⟨54, _⟩ => ⟨S2x8192x1024, .bf16⟩
  | .hbm, ⟨55, _⟩ => ⟨S2x8x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩

abbrev nD : Nat := 1
abbrev τ : Topo := Topo.v7x

variable {F : FTy → Type} [FloatOps F]
-- ==== FfnPre.lean ====
abbrev S2x8192x1024 : Shape := ⟨3, ![2, 8192, 1024]⟩
abbrev S1024x1024 : Shape := ⟨2, ![1024, 1024]⟩
abbrev S2x1x1024 : Shape := ⟨3, ![2, 1, 1024]⟩
abbrev S4x2x1024x5632 : Shape := ⟨4, ![4, 2, 1024, 5632]⟩
abbrev S4x2x2816x1024 : Shape := ⟨4, ![4, 2, 2816, 1024]⟩
abbrev S16384x1024 : Shape := ⟨2, ![16384, 1024]⟩
abbrev S1x1x1024 : Shape := ⟨3, ![1, 1, 1024]⟩
abbrev S1x1x1024x5632 : Shape := ⟨4, ![1, 1, 1024, 5632]⟩
abbrev S1x1x2816x1024 : Shape := ⟨4, ![1, 1, 2816, 1024]⟩
abbrev S1x1024 : Shape := ⟨2, ![1, 1024]⟩
abbrev S1024 : Shape := ⟨1, ![1024]⟩
abbrev S1024x1 : Shape := ⟨2, ![1024, 1]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩

abbrev nBuf : Space → Nat
  | .hbm => 15
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S1024x1024, .f32⟩
  | .hbm, ⟨3, _⟩ => ⟨S2x1x1024, .f32⟩
  | .hbm, ⟨4, _⟩ => ⟨S2x1x1024, .f32⟩
  | .hbm, ⟨5, _⟩ => ⟨S2x1x1024, .f32⟩
  | .hbm, ⟨6, _⟩ => ⟨S2x1x1024, .f32⟩
  | .hbm, ⟨7, _⟩ => ⟨S4x2x1024x5632, .f32⟩
  | .hbm, ⟨8, _⟩ => ⟨S4x2x2816x1024, .f32⟩
  | .hbm, ⟨9, _⟩ => ⟨S16384x1024, .f32⟩
  | .hbm, ⟨10, _⟩ => ⟨S4x2x1024x5632, .bf16⟩
  | .hbm, ⟨11, _⟩ => ⟨S4x2x2816x1024, .bf16⟩
  | .hbm, ⟨12, _⟩ => ⟨S16384x1024, .bf16⟩
  | .hbm, ⟨13, _⟩ => ⟨S1024x1024, .bf16⟩
  | .hbm, ⟨14, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024x5632, .bf16⟩
  | .local _ .vmem, ⟨14, _⟩ => ⟨S1x1x2816x1024, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_8 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1x1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnPreRefIdeal.lean ====
abbrev S2x8192x1024 : Shape := ⟨3, ![2, 8192, 1024]⟩
abbrev S1024x1024 : Shape := ⟨2, ![1024, 1024]⟩
abbrev S2x1x1024 : Shape := ⟨3, ![2, 1, 1024]⟩
abbrev S4x2x1024x5632 : Shape := ⟨4, ![4, 2, 1024, 5632]⟩
abbrev S4x2x2816x1024 : Shape := ⟨4, ![4, 2, 2816, 1024]⟩
abbrev S_ : Shape := ⟨0, ![]⟩
abbrev S2x8192 : Shape := ⟨2, ![2, 8192]⟩
abbrev S2x8192x1 : Shape := ⟨3, ![2, 8192, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S2x8192x5632 : Shape := ⟨3, ![2, 8192, 5632]⟩
abbrev S2x8192x2816 : Shape := ⟨3, ![2, 8192, 2816]⟩
abbrev S16384x1024 : Shape := ⟨2, ![16384, 1024]⟩

abbrev nBuf : Space → Nat
  | .hbm => 59
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S1024x1024, .f32⟩
  | .hbm, ⟨3, _⟩ => ⟨S2x1x1024, .f32⟩
  | .hbm, ⟨4, _⟩ => ⟨S2x1x1024, .f32⟩
  | .hbm, ⟨5, _⟩ => ⟨S2x1x1024, .f32⟩
  | .hbm, ⟨6, _⟩ => ⟨S2x1x1024, .f32⟩
  | .hbm, ⟨7, _⟩ => ⟨S4x2x1024x5632, .f32⟩
  | .hbm, ⟨8, _⟩ => ⟨S4x2x2816x1024, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S2x8192x1024, .f32⟩
  | .hbm, ⟨13, _⟩ => ⟨S2x8192x1024, .f32⟩
  | .hbm, ⟨14, _⟩ => ⟨S_, .f32⟩
  | .hbm, ⟨15, _⟩ => ⟨S2x1x1024, .f32⟩
  | .hbm, ⟨16, _⟩ => ⟨S2x1x1024, .f32⟩
  | .hbm, ⟨17, _⟩ => ⟨S2x8192x1024, .f32⟩
  | .hbm, ⟨18, _⟩ => ⟨S_, .f32⟩
  | .hbm, ⟨19, _⟩ => ⟨S2x8192, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S2x8192x1, .f32⟩
  | .hbm, ⟨28, _⟩ => ⟨S2x8192x1024, .f32⟩
  | .hbm, ⟨29, _⟩ => ⟨S2x8192x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S1x1x1024x5632, .f32⟩
  | .hbm, ⟨38, _⟩ => ⟨S1024x5632, .f32⟩
  | .hbm, ⟨39, _⟩ => ⟨S1x1x2816x1024, .f32⟩
  | .hbm, ⟨40, _⟩ => ⟨S2816x1024, .f32⟩
  | .hbm, ⟨41, _⟩ => ⟨S2x8192x5632, .f32⟩
  | .hbm, ⟨42, _⟩ => ⟨S2x8192x2816, .f32⟩
  | .hbm, ⟨43, _⟩ => ⟨S2x8192x2816, .f32⟩
  | .hbm, ⟨44, _⟩ => ⟨S2x8192x2816, .f32⟩
  | .hbm, ⟨45, _⟩ => ⟨S2x8192x2816, .f32⟩
  | .hbm, ⟨46, _⟩ => ⟨S_, .f32⟩
  | .hbm, ⟨47, _⟩ => ⟨S2x8192x2816, .f32⟩
  | .hbm, ⟨48, _⟩ => ⟨S2x8192x2816, .f32⟩
  | .hbm, ⟨49, _⟩ => ⟨S_, .f32⟩
  | .hbm, ⟨50, _⟩ => ⟨S2x8192x2816, .f32⟩
  | .hbm, ⟨51, _⟩ => ⟨S2x8192x2816, .f32⟩
  | .hbm, ⟨52, _⟩ => ⟨S2x8192x2816, .f32⟩
  | .hbm, ⟨53, _⟩ => ⟨S2x8192x2816, .f32⟩
  | .hbm, ⟨54, _⟩ => ⟨S2x8192x1024, .f32⟩
  | .hbm, ⟨55, _⟩ => ⟨S2x8192x1024, .f32⟩
  | .hbm, ⟨56, _⟩ => ⟨S2x8192x1024, .f32⟩
  | .hbm, ⟨57, _⟩ => ⟨S2x8192x1024, .f32⟩
  | .hbm, ⟨58, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== Ffn.lean ====
abbrev S2x8192x1024 : Shape := ⟨3, ![2, 8192, 1024]⟩
abbrev S2x1x1024 : Shape := ⟨3, ![2, 1, 1024]⟩
abbrev S4x2x1024x5632 : Shape := ⟨4, ![4, 2, 1024, 5632]⟩
abbrev S4x2x2816x1024 : Shape := ⟨4, ![4, 2, 2816, 1024]⟩
abbrev S16384x1024 : Shape := ⟨2, ![16384, 1024]⟩
abbrev S1024x1024 : Shape := ⟨2, ![1024, 1024]⟩
abbrev S1x1x1024 : Shape := ⟨3, ![1, 1, 1024]⟩
abbrev S1x1x1024x5632 : Shape := ⟨4, ![1, 1, 1024, 5632]⟩
abbrev S1x1x2816x1024 : Shape := ⟨4, ![1, 1, 2816, 1024]⟩
abbrev S1x1024 : Shape := ⟨2, ![1, 1024]⟩
abbrev S1024 : Shape := ⟨1, ![1024]⟩
abbrev S1024x1 : Shape := ⟨2, ![1024, 1]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩

abbrev nBuf : Space → Nat
  | .hbm => 10
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S4x2x1024x5632, .f32⟩
  | .hbm, ⟨5, _⟩ => ⟨S4x2x2816x1024, .f32⟩
  | .hbm, ⟨6, _⟩ => ⟨S16384x1024, .f32⟩
  | .hbm, ⟨7, _⟩ => ⟨S4x2x1024x5632, .bf16⟩
  | .hbm, ⟨8, _⟩ => ⟨S4x2x2816x1024, .bf16⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024x5632, .bf16⟩
  | .local _ .vmem, ⟨9, _⟩ => ⟨S1x1x2816x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S2x8192x1024 : Shape := ⟨3, ![2, 8192, 1024]⟩
abbrev S2x1x1024 : Shape := ⟨3, ![2, 1, 1024]⟩
abbrev S4x2x1024x5632 : Shape := ⟨4, ![4, 2, 1024, 5632]⟩
abbrev S4x2x2816x1024 : Shape := ⟨4, ![4, 2, 2816, 1024]⟩
abbrev S_ : Shape := ⟨0, ![]⟩
abbrev S2x8192 : Shape := ⟨2, ![2, 8192]⟩
abbrev S2x8192x1 : Shape := ⟨3, ![2, 8192, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S2x8192x5632 : Shape := ⟨3, ![2, 8192, 5632]⟩
abbrev S2x8192x2816 : Shape := ⟨3, ![2, 8192, 2816]⟩
abbrev S16384x1024 : Shape := ⟨2, ![16384, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S4x2x1024x5632, .f32⟩
  | .hbm, ⟨5, _⟩ => ⟨S4x2x2816x1024, .f32⟩
  | .hbm, ⟨6, _⟩ => ⟨S_, .f32⟩
  | .hbm, ⟨7, _⟩ => ⟨S2x1x1024, .f32⟩
  | .hbm, ⟨8, _⟩ => ⟨S2x1x1024, .f32⟩
  | .hbm, ⟨9, _⟩ => ⟨S2x8192x1024, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x1, .f32⟩
  | .hbm, ⟨20, _⟩ => ⟨S2x8192x1024, .f32⟩
  | .hbm, ⟨21, _⟩ => ⟨S2x8192x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S1x1x1024x5632, .f32⟩
  | .hbm, ⟨30, _⟩ => ⟨S1024x5632, .f32⟩
  | .hbm, ⟨31, _⟩ => ⟨S1x1x2816x1024, .f32⟩
  | .hbm, ⟨32, _⟩ => ⟨S2816x1024, .f32⟩
  | .hbm, ⟨33, _⟩ => ⟨S2x8192x5632, .f32⟩
  | .hbm, ⟨34, _⟩ => ⟨S2x8192x2816, .f32⟩
  | .hbm, ⟨35, _⟩ => ⟨S2x8192x2816, .f32⟩
  | .hbm, ⟨36, _⟩ => ⟨S2x8192x2816, .f32⟩
  | .hbm, ⟨37, _⟩ => ⟨S2x8192x2816, .f32⟩
  | .hbm, ⟨38, _⟩ => ⟨S_, .f32⟩
  | .hbm, ⟨39, _⟩ => ⟨S2x8192x2816, .f32⟩
  | .hbm, ⟨40, _⟩ => ⟨S2x8192x2816, .f32⟩
  | .hbm, ⟨41, _⟩ => ⟨S_, .f32⟩
  | .hbm, ⟨42, _⟩ => ⟨S2x8192x2816, .f32⟩
  | .hbm, ⟨43, _⟩ => ⟨S2x8192x2816, .f32⟩
  | .hbm, ⟨44, _⟩ => ⟨S2x8192x2816, .f32⟩
  | .hbm, ⟨45, _⟩ => ⟨S2x8192x2816, .f32⟩
  | .hbm, ⟨46, _⟩ => ⟨S2x8192x1024, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== SConv.lean ====
abbrev S32x1x1024 : Shape := ⟨3, ![32, 1, 1024]⟩
abbrev S1024x3072 : Shape := ⟨2, ![1024, 3072]⟩
abbrev S3x1024 : Shape := ⟨2, ![3, 1024]⟩
abbrev S32x2x1024 : Shape := ⟨3, ![32, 2, 1024]⟩
abbrev S32x1024 : Shape := ⟨2, ![32, 1024]⟩
abbrev S1x32x1024 : Shape := ⟨3, ![1, 32, 1024]⟩
abbrev S_ : Shape := ⟨0, ![]⟩
abbrev S8x1024 : Shape := ⟨2, ![8, 1024]⟩
abbrev S32 : Shape := ⟨1, ![32]⟩
abbrev S32x1 : Shape := ⟨2, ![32, 1]⟩
abbrev S1024x1024 : Shape := ⟨2, ![1024, 1024]⟩
abbrev S1x1024 : Shape := ⟨2, ![1, 1024]⟩

abbrev nBuf : Space → Nat
  | .hbm => 19
  | .vmem => 9
  | .smem => 0
  | _ => 0

abbrev bufTy : (tb : Table) → Fin (tcTables nBuf tb) → BufTy
  | .hbm, ⟨0, _⟩ => ⟨S32x1x1024, .f32⟩
  | .hbm, ⟨1, _⟩ => ⟨S32x1x1024, .f32⟩
  | .hbm, ⟨2, _⟩ => ⟨S32x1x1024, .f32⟩
  | .hbm, ⟨3, _⟩ => ⟨S1024x3072, .f32⟩
  | .hbm, ⟨4, _⟩ => ⟨S3x1024, .f32⟩
  | .hbm, ⟨5, _⟩ => ⟨S32x2x1024, .f32⟩
  | .hbm, ⟨6, _⟩ => ⟨S32x1024, .f32⟩
  | .hbm, ⟨7, _⟩ => ⟨S1x32x1024, .f32⟩
  | .hbm, ⟨8, _⟩ => ⟨S1x32x1024, .f32⟩
  | .hbm, ⟨9, _⟩ => ⟨S1024x3072, .bf16⟩
  | .hbm, ⟨10, _⟩ => ⟨S_, .i32⟩
  | .hbm, ⟨11, _⟩ => ⟨S_, .f32⟩
  | .hbm, ⟨12, _⟩ => ⟨S8x1024, .f32⟩
  | .hbm, ⟨13, _⟩ => ⟨S32x1x1024, .f32⟩
  | .hbm, ⟨14, _⟩ => ⟨S32x1024, .f32⟩
  | .hbm, ⟨15, _⟩ => ⟨S32x1x1024, .f32⟩
  | .hbm, ⟨16, _⟩ => ⟨S32x1024, .f32⟩
  | .hbm, ⟨17, _⟩ => ⟨S32x1024, .bf16⟩
  | .hbm, ⟨18, _⟩ => ⟨S32x1024, .f32⟩
  | .local _ .vmem, ⟨0, _⟩ => ⟨S32x1024, .f32⟩
  | .local _ .vmem, ⟨1, _⟩ => ⟨S1x32x1024, .f32⟩
  | .local _ .vmem, ⟨2, _⟩ => ⟨S1x32x1024, .f32⟩
  | .local _ .vmem, ⟨3, _⟩ => ⟨S1024x3072, .bf16⟩
  | .local _ .vmem, ⟨4, _⟩ => ⟨S8x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .bf16⟩
  | .local _ .vmem, ⟨8, _⟩ => ⟨S32x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== SConvRefIdeal.lean ====
abbrev S32x1x1024 : Shape := ⟨3, ![32, 1, 1024]⟩
abbrev S1024x3072 : Shape := ⟨2, ![1024, 3072]⟩
abbrev S3x1024 : Shape := ⟨2, ![3, 1024]⟩
abbrev S32x2x1024 : Shape := ⟨3, ![32, 2, 1024]⟩
abbrev S_ : Shape := ⟨0, ![]⟩
abbrev S32x1 : Shape := ⟨2, ![32, 1]⟩
abbrev S32x1x1 : Shape := ⟨3, ![32, 1, 1]⟩
abbrev S32x1x3072 : Shape := ⟨3, ![32, 1, 3072]⟩
abbrev S32x3x1024 : Shape := ⟨3, ![32, 3, 1024]⟩
abbrev S1x1024 : Shape := ⟨2, ![1, 1024]⟩
abbrev S1024 : Shape := ⟨1, ![1024]⟩
abbrev S1x1x1024 : Shape := ⟨3, ![1, 1, 1024]⟩
abbrev S32x1024 : Shape := ⟨2, ![32, 1024]⟩

abbrev nBuf : Space → Nat
  | .hbm => 55
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x1x1024, .f32⟩
  | .hbm, ⟨2, _⟩ => ⟨S32x1x1024, .f32⟩
  | .hbm, ⟨3, _⟩ => ⟨S1024x3072, .f32⟩
  | .hbm, ⟨4, _⟩ => ⟨S3x1024, .f32⟩
  | .hbm, ⟨5, _⟩ => ⟨S32x2x1024, .f32⟩
  | .hbm, ⟨6, _⟩ => ⟨S32x1x1024, .f32⟩
  | .hbm, ⟨7, _⟩ => ⟨S_, .f32⟩
  | .hbm, ⟨8, _⟩ => ⟨S32x1, .f32⟩
  | .hbm, ⟨9, _⟩ => ⟨S32x1x1, .f32⟩
  | .hbm, ⟨10, _⟩ => ⟨S_, .f32⟩
  | .hbm, ⟨11, _⟩ => ⟨S32x1x1, .f32⟩
  | .hbm, ⟨12, _⟩ => ⟨S32x1x1, .f32⟩
  | .hbm, ⟨13, _⟩ => ⟨S_, .f32⟩
  | .hbm, ⟨14, _⟩ => ⟨S32x1x1, .f32⟩
  | .hbm, ⟨15, _⟩ => ⟨S32x1x1, .f32⟩
  | .hbm, ⟨16, _⟩ => ⟨S32x1x1, .f32⟩
  | .hbm, ⟨17, _⟩ => ⟨S32x1x1024, .f32⟩
  | .hbm, ⟨18, _⟩ => ⟨S32x1x1024, .f32⟩
  | .hbm, ⟨19, _⟩ => ⟨S_, .f32⟩
  | .hbm, ⟨20, _⟩ => ⟨S32x1x1024, .f32⟩
  | .hbm, ⟨21, _⟩ => ⟨S32x1x1024, .f32⟩
  | .hbm, ⟨22, _⟩ => ⟨S32x1x1024, .f32⟩
  | .hbm, ⟨23, _⟩ => ⟨S32x1x1024, .f32⟩
  | .hbm, ⟨24, _⟩ => ⟨S32x1x3072, .f32⟩
  | .hbm, ⟨25, _⟩ => ⟨S32x1x1024, .f32⟩
  | .hbm, ⟨26, _⟩ => ⟨S32x1x1024, .f32⟩
  | .hbm, ⟨27, _⟩ => ⟨S32x1x1024, .f32⟩
  | .hbm, ⟨28, _⟩ => ⟨S32x1x1024, .f32⟩
  | .hbm, ⟨29, _⟩ => ⟨S32x3x1024, .f32⟩
  | .hbm, ⟨30, _⟩ => ⟨S1x1024, .f32⟩
  | .hbm, ⟨31, _⟩ => ⟨S1024, .f32⟩
  | .hbm, ⟨32, _⟩ => ⟨S32x1x1024, .f32⟩
  | .hbm, ⟨33, _⟩ => ⟨S1x1x1024, .f32⟩
  | .hbm, ⟨34, _⟩ => ⟨S32x1x1024, .f32⟩
  | .hbm, ⟨35, _⟩ => ⟨S32x1x1024, .f32⟩
  | .hbm, ⟨36, _⟩ => ⟨S1x1024, .f32⟩
  | .hbm, ⟨37, _⟩ => ⟨S1024, .f32⟩
  | .hbm, ⟨38, _⟩ => ⟨S32x1x1024, .f32⟩
  | .hbm, ⟨39, _⟩ => ⟨S1x1x1024, .f32⟩
  | .hbm, ⟨40, _⟩ => ⟨S32x1x1024, .f32⟩
  | .hbm, ⟨41, _⟩ => ⟨S32x1x1024, .f32⟩
  | .hbm, ⟨42, _⟩ => ⟨S32x1x1024, .f32⟩
  | .hbm, ⟨43, _⟩ => ⟨S1x1024, .f32⟩
  | .hbm, ⟨44, _⟩ => ⟨S1024, .f32⟩
  | .hbm, ⟨45, _⟩ => ⟨S32x1x1024, .f32⟩
  | .hbm, ⟨46, _⟩ => ⟨S1x1x1024, .f32⟩
  | .hbm, ⟨47, _⟩ => ⟨S32x1x1024, .f32⟩
  | .hbm, ⟨48, _⟩ => ⟨S32x1x1024, .f32⟩
  | .hbm, ⟨49, _⟩ => ⟨S32x1x1024, .f32⟩
  | .hbm, ⟨50, _⟩ => ⟨S32x1x1024, .f32⟩
  | .hbm, ⟨51, _⟩ => ⟨S32x1024, .f32⟩
  | .hbm, ⟨52, _⟩ => ⟨S32x1024, .bf16⟩
  | .hbm, ⟨53, _⟩ => ⟨S32x1x1024, .f32⟩
  | .hbm, ⟨54, _⟩ => ⟨S32x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]
-- ==== SFfnPre.lean ====
abbrev S32x1x1024 : Shape := ⟨3, ![32, 1, 1024]⟩
abbrev S32x1024 : Shape := ⟨2, ![32, 1024]⟩
abbrev S1024x1024 : Shape := ⟨2, ![1024, 1024]⟩
abbrev S4x2x1024x5632 : Shape := ⟨4, ![4, 2, 1024, 5632]⟩
abbrev S4x2x2816x1024 : Shape := ⟨4, ![4, 2, 2816, 1024]⟩
abbrev S1x32x1024 : Shape := ⟨3, ![1, 32, 1024]⟩
abbrev S1x1x1024x5632 : Shape := ⟨4, ![1, 1, 1024, 5632]⟩
abbrev S1x1x2816x1024 : Shape := ⟨4, ![1, 1, 2816, 1024]⟩
abbrev S32 : Shape := ⟨1, ![32]⟩
abbrev S32x1 : Shape := ⟨2, ![32, 1]⟩
abbrev S1x1x1024x256 : Shape := ⟨4, ![1, 1, 1024, 256]⟩
abbrev S1024x256 : Shape := ⟨2, ![1024, 256]⟩
abbrev S32x256 : Shape := ⟨2, ![32, 256]⟩
abbrev S1x1x256x1024 : Shape := ⟨4, ![1, 1, 256, 1024]⟩
abbrev S256x1024 : Shape := ⟨2, ![256, 1024]⟩

abbrev nBuf : Space → Nat
  | .hbm => 18
  | .vmem => 11
  | .smem => 0
  | _ => 0

abbrev bufTy : (tb : Table) → Fin (tcTables nBuf tb) → BufTy
  | .hbm, ⟨0, _⟩ => ⟨S32x1x1024, .f32⟩
  | .hbm, ⟨1, _⟩ => ⟨S32x1024, .bf16⟩
  | .hbm, ⟨2, _⟩ => ⟨S1024x1024, .f32⟩
  | .hbm, ⟨3, _⟩ => ⟨S32x1x1024, .f32⟩
  | .hbm, ⟨4, _⟩ => ⟨S32x1x1024, .f32⟩
  | .hbm, ⟨5, _⟩ => ⟨S32x1x1024, .f32⟩
  | .hbm, ⟨6, _⟩ => ⟨S32x1x1024, .f32⟩
  | .hbm, ⟨7, _⟩ => ⟨S4x2x1024x5632, .f32⟩
  | .hbm, ⟨8, _⟩ => ⟨S4x2x2816x1024, .f32⟩
  | .hbm, ⟨9, _⟩ => ⟨S32x1024, .f32⟩
  | .hbm, ⟨10, _⟩ => ⟨S1x32x1024, .f32⟩
  | .hbm, ⟨11, _⟩ => ⟨S1x32x1024, .f32⟩
  | .hbm, ⟨12, _⟩ => ⟨S1x32x1024, .f32⟩
  | .hbm, ⟨13, _⟩ => ⟨S4x2x1024x5632, .bf16⟩
  | .hbm, ⟨14, _⟩ => ⟨S4x2x2816x1024, .bf16⟩
  | .hbm, ⟨15, _⟩ => ⟨S1024x1024, .bf16⟩
  | .hbm, ⟨16, _⟩ => ⟨S1x32x1024, .f32⟩
  | .hbm, ⟨17, _⟩ => ⟨S32x1024, .f32⟩
  | .local _ .vmem, ⟨0, _⟩ => ⟨S32x1024, .f32⟩
  | .local _ .vmem, ⟨1, _⟩ => ⟨S32x1024, .bf16⟩
  | .local _ .vmem, ⟨2, _⟩ => ⟨S1024x1024, .bf16⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x1x1024x5632, .bf16⟩
  | .local _ .vmem, ⟨8, _⟩ => ⟨S1x1x2816x1024, .bf16⟩
  | .local _ .vmem, ⟨9, _⟩ => ⟨S32x1024, .f32⟩
  | .local _ .vmem, ⟨10, _⟩ => ⟨S32x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_7 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_8 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1x1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== SFfnPreRefIdeal.lean ====
abbrev S32x1x1024 : Shape := ⟨3, ![32, 1, 1024]⟩
abbrev S32x1024 : Shape := ⟨2, ![32, 1024]⟩
abbrev S1024x1024 : Shape := ⟨2, ![1024, 1024]⟩
abbrev S4x2x1024x5632 : Shape := ⟨4, ![4, 2, 1024, 5632]⟩
abbrev S4x2x2816x1024 : Shape := ⟨4, ![4, 2, 2816, 1024]⟩
abbrev S_ : Shape := ⟨0, ![]⟩
abbrev S32x1 : Shape := ⟨2, ![32, 1]⟩
abbrev S32x1x1 : Shape := ⟨3, ![32, 1, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S32x1x5632 : Shape := ⟨3, ![32, 1, 5632]⟩
abbrev S32x1x2816 : Shape := ⟨3, ![32, 1, 2816]⟩

abbrev nBuf : Space → Nat
  | .hbm => 56
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x1024, .bf16⟩
  | .hbm, ⟨2, _⟩ => ⟨S1024x1024, .f32⟩
  | .hbm, ⟨3, _⟩ => ⟨S32x1x1024, .f32⟩
  | .hbm, ⟨4, _⟩ => ⟨S32x1x1024, .f32⟩
  | .hbm, ⟨5, _⟩ => ⟨S32x1x1024, .f32⟩
  | .hbm, ⟨6, _⟩ => ⟨S32x1x1024, .f32⟩
  | .hbm, ⟨7, _⟩ => ⟨S4x2x1024x5632, .f32⟩
  | .hbm, ⟨8, _⟩ => ⟨S4x2x2816x1024, .f32⟩
  | .hbm, ⟨9, _⟩ => ⟨S32x1x1024, .bf16⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x1x1024, .f32⟩
  | .hbm, ⟨14, _⟩ => ⟨S_, .f32⟩
  | .hbm, ⟨15, _⟩ => ⟨S32x1x1024, .f32⟩
  | .hbm, ⟨16, _⟩ => ⟨S32x1x1024, .f32⟩
  | .hbm, ⟨17, _⟩ => ⟨S32x1x1024, .f32⟩
  | .hbm, ⟨18, _⟩ => ⟨S_, .f32⟩
  | .hbm, ⟨19, _⟩ => ⟨S32x1, .f32⟩
  | .hbm, ⟨20, _⟩ => ⟨S32x1x1, .f32⟩
  | .hbm, ⟨21, _⟩ => ⟨S_, .f32⟩
  | .hbm, ⟨22, _⟩ => ⟨S32x1x1, .f32⟩
  | .hbm, ⟨23, _⟩ => ⟨S32x1x1, .f32⟩
  | .hbm, ⟨24, _⟩ => ⟨S_, .f32⟩
  | .hbm, ⟨25, _⟩ => ⟨S32x1x1, .f32⟩
  | .hbm, ⟨26, _⟩ => ⟨S32x1x1, .f32⟩
  | .hbm, ⟨27, _⟩ => ⟨S32x1x1, .f32⟩
  | .hbm, ⟨28, _⟩ => ⟨S32x1x1024, .f32⟩
  | .hbm, ⟨29, _⟩ => ⟨S32x1x1024, .f32⟩
  | .hbm, ⟨30, _⟩ => ⟨S_, .f32⟩
  | .hbm, ⟨31, _⟩ => ⟨S32x1x1024, .f32⟩
  | .hbm, ⟨32, _⟩ => ⟨S32x1x1024, .f32⟩
  | .hbm, ⟨33, _⟩ => ⟨S32x1x1024, .f32⟩
  | .hbm, ⟨34, _⟩ => ⟨S32x1x1024, .f32⟩
  | .hbm, ⟨35, _⟩ => ⟨S1x1x1024x5632, .f32⟩
  | .hbm, ⟨36, _⟩ => ⟨S1024x5632, .f32⟩
  | .hbm, ⟨37, _⟩ => ⟨S1x1x2816x1024, .f32⟩
  | .hbm, ⟨38, _⟩ => ⟨S2816x1024, .f32⟩
  | .hbm, ⟨39, _⟩ => ⟨S32x1x5632, .f32⟩
  | .hbm, ⟨40, _⟩ => ⟨S32x1x2816, .f32⟩
  | .hbm, ⟨41, _⟩ => ⟨S32x1x2816, .f32⟩
  | .hbm, ⟨42, _⟩ => ⟨S32x1x2816, .f32⟩
  | .hbm, ⟨43, _⟩ => ⟨S32x1x2816, .f32⟩
  | .hbm, ⟨44, _⟩ => ⟨S_, .f32⟩
  | .hbm, ⟨45, _⟩ => ⟨S32x1x2816, .f32⟩
  | .hbm, ⟨46, _⟩ => ⟨S32x1x2816, .f32⟩
  | .hbm, ⟨47, _⟩ => ⟨S_, .f32⟩
  | .hbm, ⟨48, _⟩ => ⟨S32x1x2816, .f32⟩
  | .hbm, ⟨49, _⟩ => ⟨S32x1x2816, .f32⟩
  | .hbm, ⟨50, _⟩ => ⟨S32x1x2816, .f32⟩
  | .hbm, ⟨51, _⟩ => ⟨S32x1x2816, .f32⟩
  | .hbm, ⟨52, _⟩ => ⟨S32x1x1024, .f32⟩
  | .hbm, ⟨53, _⟩ => ⟨S32x1x1024, .f32⟩
  | .hbm, ⟨54, _⟩ => ⟨S32x1x1024, .f32⟩
  | .hbm, ⟨55, _⟩ => ⟨S32x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩

abbrev nD : Nat := 1
abbrev τ : Topo := Topo.v7x

variable {F : FTy → Type} [FloatOps F]
-- ==== Proj.lean ====
abbrev S2x8192x1024 : Shape := ⟨3, ![2, 8192, 1024]⟩
abbrev S2x1x1024 : Shape := ⟨3, ![2, 1, 1024]⟩
abbrev S1024x2120 : Shape := ⟨2, ![1024, 2120]⟩
abbrev S64 : Shape := ⟨1, ![64]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1024x72 : Shape := ⟨2, ![1024, 72]⟩
abbrev S1024x128 : Shape := ⟨2, ![1024, 128]⟩
abbrev S1024x1024 : Shape := ⟨2, ![1024, 1024]⟩
abbrev S1024x256 : Shape := ⟨2, ![1024, 256]⟩
abbrev S1024x512 : Shape := ⟨2, ![1024, 512]⟩
abbrev S1x64 : Shape := ⟨2, ![1, 64]⟩
abbrev S16x64 : Shape := ⟨2, ![16, 64]⟩
abbrev S1024 : Shape := ⟨1, ![1024]⟩
abbrev S1x1024 : Shape := ⟨2, ![1, 1024]⟩
abbrev S4x64 : Shape := ⟨2, ![4, 64]⟩
abbrev S2x32x1024x256 : Shape := ⟨4, ![2, 32, 1024, 256]⟩
abbrev S2x8192x256 : Shape := ⟨3, ![2, 8192, 256]⟩
abbrev S2x32x320x256 : Shape := ⟨4, ![2, 32, 320, 256]⟩
abbrev S2x32x512x256 : Shape := ⟨4, ![2, 32, 512, 256]⟩
abbrev S2x8192x64 : Shape := ⟨3, ![2, 8192, 64]⟩
abbrev S2x32x8x256 : Shape := ⟨4, ![2, 32, 8, 256]⟩
abbrev S1x256x1024 : Shape := ⟨3, ![1, 256, 1024]⟩
abbrev S1x1x1024 : Shape := ⟨3, ![1, 1, 1024]⟩
abbrev S1x1x1024x256 : Shape := ⟨4, ![1, 1, 1024, 256]⟩
abbrev S1x256x256 : Shape := ⟨3, ![1, 256, 256]⟩
abbrev S1x1x320x256 : Shape := ⟨4, ![1, 1, 320, 256]⟩
abbrev S1x1x512x256 : Shape := ⟨4, ![1, 1, 512, 256]⟩
abbrev S1x256x64 : Shape := ⟨3, ![1, 256, 64]⟩
abbrev S1x1x8x256 : Shape := ⟨4, ![1, 1, 8, 256]⟩
abbrev S256x1024 : Shape := ⟨2, ![256, 1024]⟩
abbrev S256x512 : Shape := ⟨2, ![256, 512]⟩
abbrev S256x128 : Shape := ⟨2, ![256, 128]⟩
abbrev S16x256 : Shape := ⟨2, ![16, 256]⟩
abbrev S64x256 : Shape := ⟨2, ![64, 256]⟩
abbrev S1x1x64x256 : Shape := ⟨4, ![1, 1, 64, 256]⟩
abbrev S1x1x16x256 : Shape := ⟨4, ![1, 1, 16, 256]⟩
abbrev S512x256 : Shape := ⟨2, ![512, 256]⟩
abbrev S256x64 : Shape := ⟨2, ![256, 64]⟩
abbrev S128x256 : Shape := ⟨2, ![128, 256]⟩
abbrev S8x256 : Shape := ⟨2, ![8, 256]⟩

abbrev nBuf : Space → Nat
  | .hbm => 62
  | .vmem => 32
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x2120, .f32⟩
  | .hbm, ⟨4, _⟩ => ⟨S64, .f32⟩
  | .hbm, ⟨5, _⟩ => ⟨S64, .f32⟩
  | .hbm, ⟨6, _⟩ => ⟨S256, .i32⟩
  | .hbm, ⟨7, _⟩ => ⟨S_, .i32⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S_, .i32⟩
  | .hbm, ⟨13, _⟩ => ⟨S256, .i32⟩
  | .hbm, ⟨14, _⟩ => ⟨S256, .i1⟩
  | .hbm, ⟨15, _⟩ => ⟨S256, .i32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S256, .i1⟩
  | .hbm, ⟨21, _⟩ => ⟨S_, .i32⟩
  | .hbm, ⟨22, _⟩ => ⟨S256, .i32⟩
  | .hbm, ⟨23, _⟩ => ⟨S256, .i32⟩
  | .hbm, ⟨24, _⟩ => ⟨S256, .i32⟩
  | .hbm, ⟨25, _⟩ => ⟨S256x1, .i32⟩
  | .hbm, ⟨26, _⟩ => ⟨S1x256, .i32⟩
  | .hbm, ⟨27, _⟩ => ⟨S256x256, .i32⟩
  | .hbm, ⟨28, _⟩ => ⟨S256x256, .i32⟩
  | .hbm, ⟨29, _⟩ => ⟨S256x256, .i1⟩
  | .hbm, ⟨30, _⟩ => ⟨S_, .f32⟩
  | .hbm, ⟨31, _⟩ => ⟨S_, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S256x256, .bf16⟩
  | .hbm, ⟨36, _⟩ => ⟨S1024x2120, .bf16⟩
  | .hbm, ⟨37, _⟩ => ⟨S1024x72, .bf16⟩
  | .hbm, ⟨38, _⟩ => ⟨S_, .i32⟩
  | .hbm, ⟨39, _⟩ => ⟨S_, .bf16⟩
  | .hbm, ⟨40, _⟩ => ⟨S1024x128, .bf16⟩
  | .hbm, ⟨41, _⟩ => ⟨S1024x1024, .bf16⟩
  | .hbm, ⟨42, _⟩ => ⟨S1024x256, .bf16⟩
  | .hbm, ⟨43, _⟩ => ⟨S1024x256, .bf16⟩
  | .hbm, ⟨44, _⟩ => ⟨S1024x512, .bf16⟩
  | .hbm, ⟨45, _⟩ => ⟨S1x64, .f32⟩
  | .hbm, ⟨46, _⟩ => ⟨S16x64, .f32⟩
  | .hbm, ⟨47, _⟩ => ⟨S1024, .f32⟩
  | .hbm, ⟨48, _⟩ => ⟨S1x1024, .f32⟩
  | .hbm, ⟨49, _⟩ => ⟨S1x64, .f32⟩
  | .hbm, ⟨50, _⟩ => ⟨S4x64, .f32⟩
  | .hbm, ⟨51, _⟩ => ⟨S256, .f32⟩
  | .hbm, ⟨52, _⟩ => ⟨S1x256, .f32⟩
  | .hbm, ⟨53, _⟩ => ⟨S2x32x1024x256, .bf16⟩
  | .hbm, ⟨54, _⟩ => ⟨S2x8192x256, .f32⟩
  | .hbm, ⟨55, _⟩ => ⟨S2x8192x256, .bf16⟩
  | .hbm, ⟨56, _⟩ => ⟨S2x8192x256, .f32⟩
  | .hbm, ⟨57, _⟩ => ⟨S2x32x320x256, .bf16⟩
  | .hbm, ⟨58, _⟩ => ⟨S2x32x512x256, .bf16⟩
  | .hbm, ⟨59, _⟩ => ⟨S2x8192x64, .f32⟩
  | .hbm, ⟨60, _⟩ => ⟨S2x8192x64, .bf16⟩
  | .hbm, ⟨61, _⟩ => ⟨S2x32x8x256, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1024x256, .bf16⟩
  | .local _ .vmem, ⟨8, _⟩ => ⟨S1024x256, .bf16⟩
  | .local _ .vmem, ⟨9, _⟩ => ⟨S1024x512, .bf16⟩
  | .local _ .vmem, ⟨10, _⟩ => ⟨S1024x128, .bf16⟩
  | .local _ .vmem, ⟨11, _⟩ => ⟨S1x1024, .f32⟩
  | .local _ .vmem, ⟨12, _⟩ => ⟨S1x256, .f32⟩
  | .local _ .vmem, ⟨13, _⟩ => ⟨S256x256, .bf16⟩
  | .local _ .vmem, ⟨14, _⟩ => ⟨S1x1x1024x256, .bf16⟩
  | .local _ .vmem, ⟨15, _⟩ => ⟨S1x1x1024x256, .bf16⟩
  | .local _ .vmem, ⟨16, _⟩ => ⟨S1x256x256, .f32⟩
  | .local _ .vmem, ⟨17, _⟩ => ⟨S1x256x256, .f32⟩
  | .local _ .vmem, ⟨18, _⟩ => ⟨S1x256x256, .bf16⟩
  | .local _ .vmem, ⟨19, _⟩ => ⟨S1x256x256, .bf16⟩
  | .local _ .vmem, ⟨20, _⟩ => ⟨S1x256x256, .f32⟩
  | .local _ .vmem, ⟨21, _⟩ => ⟨S1x256x256, .f32⟩
  | .local _ .vmem, ⟨22, _⟩ => ⟨S1x1x320x256, .bf16⟩
  | .local _ .vmem, ⟨23, _⟩ => ⟨S1x1x320x256, .bf16⟩
  | .local _ .vmem, ⟨24, _⟩ => ⟨S1x1x512x256, .bf16⟩
  | .local _ .vmem, ⟨25, _⟩ => ⟨S1x1x512x256, .bf16⟩
  | .local _ .vmem, ⟨26, _⟩ => ⟨S1x256x64, .f32⟩
  | .local _ .vmem, ⟨27, _⟩ => ⟨S1x256x64, .f32⟩
  | .local _ .vmem, ⟨28, _⟩ => ⟨S1x256x64, .bf16⟩
  | .local _ .vmem, ⟨29, _⟩ => ⟨S1x256x64, .bf16⟩
  | .local _ .vmem, ⟨30, _⟩ => ⟨S1x1x8x256, .f32⟩
  | .local _ .vmem, ⟨31, _⟩ => ⟨S1x1x8x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_c_1 : Ref sig .tc := ⟨.hbm, 38, rfl⟩
abbrev main_call2_v0 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24_0 : Ref sig .tc := ⟨.hbm, 53, rfl⟩
abbrev main_v24_1 : Ref sig .tc := ⟨.hbm, 54, rfl⟩
abbrev main_v24_2 : Ref sig .tc := ⟨.hbm, 55, rfl⟩
abbrev main_v24_3 : Ref sig .tc := ⟨.hbm, 56, rfl⟩
abbrev main_v24_4 : Ref sig .tc := ⟨.hbm, 57, rfl⟩
abbrev main_v24_5 : Ref sig .tc := ⟨.hbm, 58, rfl⟩
abbrev main_v24_6 : Ref sig .tc := ⟨.hbm, 59, rfl⟩
abbrev main_v24_7 : Ref sig .tc := ⟨.hbm, 60, rfl⟩
abbrev main_v24_8 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x320x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x64 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x8x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ProjRefIdeal.lean ====
abbrev S2x8192x1024 : Shape := ⟨3, ![2, 8192, 1024]⟩
abbrev S2x1x1024 : Shape := ⟨3, ![2, 1, 1024]⟩
abbrev S1024x2120 : Shape := ⟨2, ![1024, 2120]⟩
abbrev S64 : Shape := ⟨1, ![64]⟩
abbrev S_ : Shape := ⟨0, ![]⟩
abbrev S2x8192 : Shape := ⟨2, ![2, 8192]⟩
abbrev S2x8192x1 : Shape := ⟨3, ![2, 8192, 1]⟩
abbrev S2x8192x2120 : Shape := ⟨3, ![2, 8192, 2120]⟩
abbrev S2x8192x256 : Shape := ⟨3, ![2, 8192, 256]⟩
abbrev S2x8192x512 : Shape := ⟨3, ![2, 8192, 512]⟩
abbrev S2x8192x64 : Shape := ⟨3, ![2, 8192, 64]⟩
abbrev S2x8192x8 : Shape := ⟨3, ![2, 8192, 8]⟩
abbrev S2x8192x16x64 : Shape := ⟨4, ![2, 8192, 16, 64]⟩
abbrev S2x8192x16 : Shape := ⟨3, ![2, 8192, 16]⟩
abbrev S2x8192x16x1 : Shape := ⟨4, ![2, 8192, 16, 1]⟩
abbrev S1x1x1x64 : Shape := ⟨4, ![1, 1, 1, 64]⟩
abbrev S2x8192x4x64 : Shape := ⟨4, ![2, 8192, 4, 64]⟩
abbrev S2x8192x4 : Shape := ⟨3, ![2, 8192, 4]⟩
abbrev S2x8192x4x1 : Shape := ⟨4, ![2, 8192, 4, 1]⟩
abbrev S2x8192x8x64 : Shape := ⟨4, ![2, 8192, 8, 64]⟩

abbrev nBuf : Space → Nat
  | .hbm => 74
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x2120, .f32⟩
  | .hbm, ⟨4, _⟩ => ⟨S64, .f32⟩
  | .hbm, ⟨5, _⟩ => ⟨S64, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S_, .f32⟩
  | .hbm, ⟨20, _⟩ => ⟨S2x1x1024, .f32⟩
  | .hbm, ⟨21, _⟩ => ⟨S2x1x1024, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S2x8192x2120, .f32⟩
  | .hbm, ⟨27, _⟩ => ⟨S2x8192x1024, .f32⟩
  | .hbm, ⟨28, _⟩ => ⟨S2x8192x256, .f32⟩
  | .hbm, ⟨29, _⟩ => ⟨S2x8192x256, .f32⟩
  | .hbm, ⟨30, _⟩ => ⟨S2x8192x512, .f32⟩
  | .hbm, ⟨31, _⟩ => ⟨S2x8192x64, .f32⟩
  | .hbm, ⟨32, _⟩ => ⟨S2x8192x8, .f32⟩
  | .hbm, ⟨33, _⟩ => ⟨S2x8192x16x64, .f32⟩
  | .hbm, ⟨34, _⟩ => ⟨S2x8192x16x64, .f32⟩
  | .hbm, ⟨35, _⟩ => ⟨S_, .f32⟩
  | .hbm, ⟨36, _⟩ => ⟨S2x8192x16, .f32⟩
  | .hbm, ⟨37, _⟩ => ⟨S2x8192x16x1, .f32⟩
  | .hbm, ⟨38, _⟩ => ⟨S_, .f32⟩
  | .hbm, ⟨39, _⟩ => ⟨S2x8192x16x1, .f32⟩
  | .hbm, ⟨40, _⟩ => ⟨S2x8192x16x1, .f32⟩
  | .hbm, ⟨41, _⟩ => ⟨S_, .f32⟩
  | .hbm, ⟨42, _⟩ => ⟨S2x8192x16x1, .f32⟩
  | .hbm, ⟨43, _⟩ => ⟨S2x8192x16x1, .f32⟩
  | .hbm, ⟨44, _⟩ => ⟨S2x8192x16x1, .f32⟩
  | .hbm, ⟨45, _⟩ => ⟨S2x8192x16x64, .f32⟩
  | .hbm, ⟨46, _⟩ => ⟨S2x8192x16x64, .f32⟩
  | .hbm, ⟨47, _⟩ => ⟨S1x1x1x64, .f32⟩
  | .hbm, ⟨48, _⟩ => ⟨S2x8192x16x64, .f32⟩
  | .hbm, ⟨49, _⟩ => ⟨S2x8192x16x64, .f32⟩
  | .hbm, ⟨50, _⟩ => ⟨S2x8192x4x64, .f32⟩
  | .hbm, ⟨51, _⟩ => ⟨S2x8192x4x64, .f32⟩
  | .hbm, ⟨52, _⟩ => ⟨S_, .f32⟩
  | .hbm, ⟨53, _⟩ => ⟨S2x8192x4, .f32⟩
  | .hbm, ⟨54, _⟩ => ⟨S2x8192x4x1, .f32⟩
  | .hbm, ⟨55, _⟩ => ⟨S_, .f32⟩
  | .hbm, ⟨56, _⟩ => ⟨S2x8192x4x1, .f32⟩
  | .hbm, ⟨57, _⟩ => ⟨S2x8192x4x1, .f32⟩
  | .hbm, ⟨58, _⟩ => ⟨S_, .f32⟩
  | .hbm, ⟨59, _⟩ => ⟨S2x8192x4x1, .f32⟩
  | .hbm, ⟨60, _⟩ => ⟨S2x8192x4x1, .f32⟩
  | .hbm, ⟨61, _⟩ => ⟨S2x8192x4x1, .f32⟩
  | .hbm, ⟨62, _⟩ => ⟨S2x8192x4x64, .f32⟩
  | .hbm, ⟨63, _⟩ => ⟨S2x8192x4x64, .f32⟩
  | .hbm, ⟨64, _⟩ => ⟨S1x1x1x64, .f32⟩
  | .hbm, ⟨65, _⟩ => ⟨S2x8192x4x64, .f32⟩
  | .hbm, ⟨66, _⟩ => ⟨S2x8192x4x64, .f32⟩
  | .hbm, ⟨67, _⟩ => ⟨S2x8192x4x64, .f32⟩
  | .hbm, ⟨68, _⟩ => ⟨S2x8192x8x64, .f32⟩
  | .hbm, ⟨69, _⟩ => ⟨S_, .f32⟩
  | .hbm, ⟨70, _⟩ => ⟨S2x8192x8, .f32⟩
  | .hbm, ⟨71, _⟩ => ⟨S2x8192x8, .f32⟩
  | .hbm, ⟨72, _⟩ => ⟨S2x8192x256, .f32⟩
  | .hbm, ⟨73, _⟩ => ⟨S2x8192x256, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]
-- ==== SProj.lean ====
abbrev S32x1x1024 : Shape := ⟨3, ![32, 1, 1024]⟩
abbrev S1024x2120 : Shape := ⟨2, ![1024, 2120]⟩
abbrev S64 : Shape := ⟨1, ![64]⟩
abbrev S32x1024 : Shape := ⟨2, ![32, 1024]⟩
abbrev S1x32x1024 : Shape := ⟨3, ![1, 32, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1024x72 : Shape := ⟨2, ![1024, 72]⟩
abbrev S1024x128 : Shape := ⟨2, ![1024, 128]⟩
abbrev S1024x1024 : Shape := ⟨2, ![1024, 1024]⟩
abbrev S1024x256 : Shape := ⟨2, ![1024, 256]⟩
abbrev S1024x512 : Shape := ⟨2, ![1024, 512]⟩
abbrev S1x64 : Shape := ⟨2, ![1, 64]⟩
abbrev S16x64 : Shape := ⟨2, ![16, 64]⟩
abbrev S1024 : Shape := ⟨1, ![1024]⟩
abbrev S1x1024 : Shape := ⟨2, ![1, 1024]⟩
abbrev S4x64 : Shape := ⟨2, ![4, 64]⟩
abbrev S32x256 : Shape := ⟨2, ![32, 256]⟩
abbrev S32x512 : Shape := ⟨2, ![32, 512]⟩
abbrev S32x64 : Shape := ⟨2, ![32, 64]⟩
abbrev S32x8 : Shape := ⟨2, ![32, 8]⟩
abbrev S32 : Shape := ⟨1, ![32]⟩
abbrev S32x1 : Shape := ⟨2, ![32, 1]⟩
abbrev S32x128 : Shape := ⟨2, ![32, 128]⟩

abbrev nBuf : Space → Nat
  | .hbm => 62
  | .vmem => 17
  | .smem => 0
  | _ => 0

abbrev bufTy : (tb : Table) → Fin (tcTables nBuf tb) → BufTy
  | .hbm, ⟨0, _⟩ => ⟨S32x1x1024, .f32⟩
  | .hbm, ⟨1, _⟩ => ⟨S32x1x1024, .f32⟩
  | .hbm, ⟨2, _⟩ => ⟨S32x1x1024, .f32⟩
  | .hbm, ⟨3, _⟩ => ⟨S1024x2120, .f32⟩
  | .hbm, ⟨4, _⟩ => ⟨S64, .f32⟩
  | .hbm, ⟨5, _⟩ => ⟨S64, .f32⟩
  | .hbm, ⟨6, _⟩ => ⟨S32x1024, .f32⟩
  | .hbm, ⟨7, _⟩ => ⟨S1x32x1024, .f32⟩
  | .hbm, ⟨8, _⟩ => ⟨S1x32x1024, .f32⟩
  | .hbm, ⟨9, _⟩ => ⟨S256, .i32⟩
  | .hbm, ⟨10, _⟩ => ⟨S_, .i32⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S256, .i32⟩
  | .hbm, ⟨15, _⟩ => ⟨S_, .i32⟩
  | .hbm, ⟨16, _⟩ => ⟨S256, .i32⟩
  | .hbm, ⟨17, _⟩ => ⟨S256, .i1⟩
  | .hbm, ⟨18, _⟩ => ⟨S256, .i32⟩
  | .hbm, ⟨19, _⟩ => ⟨S256, .i32⟩
  | .hbm, ⟨20, _⟩ => ⟨S_, .i32⟩
  | .hbm, ⟨21, _⟩ => ⟨S256, .i32⟩
  | .hbm, ⟨22, _⟩ => ⟨S256, .i1⟩
  | .hbm, ⟨23, _⟩ => ⟨S256, .i1⟩
  | .hbm, ⟨24, _⟩ => ⟨S_, .i32⟩
  | .hbm, ⟨25, _⟩ => ⟨S256, .i32⟩
  | .hbm, ⟨26, _⟩ => ⟨S256, .i32⟩
  | .hbm, ⟨27, _⟩ => ⟨S256, .i32⟩
  | .hbm, ⟨28, _⟩ => ⟨S256x1, .i32⟩
  | .hbm, ⟨29, _⟩ => ⟨S1x256, .i32⟩
  | .hbm, ⟨30, _⟩ => ⟨S256x256, .i32⟩
  | .hbm, ⟨31, _⟩ => ⟨S256x256, .i32⟩
  | .hbm, ⟨32, _⟩ => ⟨S256x256, .i1⟩
  | .hbm, ⟨33, _⟩ => ⟨S_, .f32⟩
  | .hbm, ⟨34, _⟩ => ⟨S_, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S256x256, .bf16⟩
  | .hbm, ⟨39, _⟩ => ⟨S1024x2120, .bf16⟩
  | .hbm, ⟨40, _⟩ => ⟨S1024x72, .bf16⟩
  | .hbm, ⟨41, _⟩ => ⟨S_, .i32⟩
  | .hbm, ⟨42, _⟩ => ⟨S_, .bf16⟩
  | .hbm, ⟨43, _⟩ => ⟨S1024x128, .bf16⟩
  | .hbm, ⟨44, _⟩ => ⟨S1024x1024, .bf16⟩
  | .hbm, ⟨45, _⟩ => ⟨S1024x256, .bf16⟩
  | .hbm, ⟨46, _⟩ => ⟨S1024x256, .bf16⟩
  | .hbm, ⟨47, _⟩ => ⟨S1024x512, .bf16⟩
  | .hbm, ⟨48, _⟩ => ⟨S1x64, .f32⟩
  | .hbm, ⟨49, _⟩ => ⟨S16x64, .f32⟩
  | .hbm, ⟨50, _⟩ => ⟨S1024, .f32⟩
  | .hbm, ⟨51, _⟩ => ⟨S1x1024, .f32⟩
  | .hbm, ⟨52, _⟩ => ⟨S1x64, .f32⟩
  | .hbm, ⟨53, _⟩ => ⟨S4x64, .f32⟩
  | .hbm, ⟨54, _⟩ => ⟨S256, .f32⟩
  | .hbm, ⟨55, _⟩ => ⟨S1x256, .f32⟩
  | .hbm, ⟨56, _⟩ => ⟨S32x1024, .bf16⟩
  | .hbm, ⟨57, _⟩ => ⟨S32x256, .f32⟩
  | .hbm, ⟨58, _⟩ => ⟨S32x256, .f32⟩
  | .hbm, ⟨59, _⟩ => ⟨S32x512, .bf16⟩
  | .hbm, ⟨60, _⟩ => ⟨S32x64, .f32⟩
  | .hbm, ⟨61, _⟩ => ⟨S32x8, .f32⟩
  | .local _ .vmem, ⟨0, _⟩ => ⟨S32x1024, .f32⟩
  | .local _ .vmem, ⟨1, _⟩ => ⟨S1x32x1024, .f32⟩
  | .local _ .vmem, ⟨2, _⟩ => ⟨S1x32x1024, .f32⟩
  | .local _ .vmem, ⟨3, _⟩ => ⟨S1024x1024, .bf16⟩
  | .local _ .vmem, ⟨4, _⟩ => ⟨S1024x256, .bf16⟩
  | .local _ .vmem, ⟨5, _⟩ => ⟨S1024x256, .bf16⟩
  | .local _ .vmem, ⟨6, _⟩ => ⟨S1024x512, .bf16⟩
  | .local _ .vmem, ⟨7, _⟩ => ⟨S1024x128, .bf16⟩
  | .local _ .vmem, ⟨8, _⟩ => ⟨S1x1024, .f32⟩
  | .local _ .vmem, ⟨9, _⟩ => ⟨S1x256, .f32⟩
  | .local _ .vmem, ⟨10, _⟩ => ⟨S256x256, .bf16⟩
  | .local _ .vmem, ⟨11, _⟩ => ⟨S32x1024, .bf16⟩
  | .local _ .vmem, ⟨12, _⟩ => ⟨S32x256, .f32⟩
  | .local _ .vmem, ⟨13, _⟩ => ⟨S32x256, .f32⟩
  | .local _ .vmem, ⟨14, _⟩ => ⟨S32x512, .bf16⟩
  | .local _ .vmem, ⟨15, _⟩ => ⟨S32x64, .f32⟩
  | .local _ .vmem, ⟨16, _⟩ => ⟨S32x8, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c_1 : Ref sig .tc := ⟨.hbm, 41, rfl⟩
abbrev main_call2_v0 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27_0 : Ref sig .tc := ⟨.hbm, 56, rfl⟩
abbrev main_v27_1 : Ref sig .tc := ⟨.hbm, 57, rfl⟩
abbrev main_v27_2 : Ref sig .tc := ⟨.hbm, 58, rfl⟩
abbrev main_v27_3 : Ref sig .tc := ⟨.hbm, 59, rfl⟩
abbrev main_v27_4 : Ref sig .tc := ⟨.hbm, 60, rfl⟩
abbrev main_v27_5 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== SProjRefIdeal.lean ====
abbrev S32x1x1024 : Shape := ⟨3, ![32, 1, 1024]⟩
abbrev S1024x2120 : Shape := ⟨2, ![1024, 2120]⟩
abbrev S64 : Shape := ⟨1, ![64]⟩
abbrev S_ : Shape := ⟨0, ![]⟩
abbrev S32x1 : Shape := ⟨2, ![32, 1]⟩
abbrev S32x1x1 : Shape := ⟨3, ![32, 1, 1]⟩
abbrev S32x1x2120 : Shape := ⟨3, ![32, 1, 2120]⟩
abbrev S32x1x256 : Shape := ⟨3, ![32, 1, 256]⟩
abbrev S32x1x512 : Shape := ⟨3, ![32, 1, 512]⟩
abbrev S32x1x64 : Shape := ⟨3, ![32, 1, 64]⟩
abbrev S32x1x8 : Shape := ⟨3, ![32, 1, 8]⟩
abbrev S32x1x16x64 : Shape := ⟨4, ![32, 1, 16, 64]⟩
abbrev S32x1x16 : Shape := ⟨3, ![32, 1, 16]⟩
abbrev S32x1x16x1 : Shape := ⟨4, ![32, 1, 16, 1]⟩
abbrev S1x1x1x64 : Shape := ⟨4, ![1, 1, 1, 64]⟩
abbrev S32x1x4x64 : Shape := ⟨4, ![32, 1, 4, 64]⟩
abbrev S32x1x4 : Shape := ⟨3, ![32, 1, 4]⟩
abbrev S32x1x4x1 : Shape := ⟨4, ![32, 1, 4, 1]⟩
abbrev S32x1x8x64 : Shape := ⟨4, ![32, 1, 8, 64]⟩
abbrev S32x1024 : Shape := ⟨2, ![32, 1024]⟩
abbrev S32x512 : Shape := ⟨2, ![32, 512]⟩
abbrev S32x256 : Shape := ⟨2, ![32, 256]⟩
abbrev S32x64 : Shape := ⟨2, ![32, 64]⟩
abbrev S32x8 : Shape := ⟨2, ![32, 8]⟩

abbrev nBuf : Space → Nat
  | .hbm => 84
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x1x1024, .f32⟩
  | .hbm, ⟨2, _⟩ => ⟨S32x1x1024, .f32⟩
  | .hbm, ⟨3, _⟩ => ⟨S1024x2120, .f32⟩
  | .hbm, ⟨4, _⟩ => ⟨S64, .f32⟩
  | .hbm, ⟨5, _⟩ => ⟨S64, .f32⟩
  | .hbm, ⟨6, _⟩ => ⟨S32x1x1024, .f32⟩
  | .hbm, ⟨7, _⟩ => ⟨S_, .f32⟩
  | .hbm, ⟨8, _⟩ => ⟨S32x1, .f32⟩
  | .hbm, ⟨9, _⟩ => ⟨S32x1x1, .f32⟩
  | .hbm, ⟨10, _⟩ => ⟨S_, .f32⟩
  | .hbm, ⟨11, _⟩ => ⟨S32x1x1, .f32⟩
  | .hbm, ⟨12, _⟩ => ⟨S32x1x1, .f32⟩
  | .hbm, ⟨13, _⟩ => ⟨S_, .f32⟩
  | .hbm, ⟨14, _⟩ => ⟨S32x1x1, .f32⟩
  | .hbm, ⟨15, _⟩ => ⟨S32x1x1, .f32⟩
  | .hbm, ⟨16, _⟩ => ⟨S32x1x1, .f32⟩
  | .hbm, ⟨17, _⟩ => ⟨S32x1x1024, .f32⟩
  | .hbm, ⟨18, _⟩ => ⟨S32x1x1024, .f32⟩
  | .hbm, ⟨19, _⟩ => ⟨S_, .f32⟩
  | .hbm, ⟨20, _⟩ => ⟨S32x1x1024, .f32⟩
  | .hbm, ⟨21, _⟩ => ⟨S32x1x1024, .f32⟩
  | .hbm, ⟨22, _⟩ => ⟨S32x1x1024, .f32⟩
  | .hbm, ⟨23, _⟩ => ⟨S32x1x1024, .f32⟩
  | .hbm, ⟨24, _⟩ => ⟨S32x1x2120, .f32⟩
  | .hbm, ⟨25, _⟩ => ⟨S32x1x1024, .f32⟩
  | .hbm, ⟨26, _⟩ => ⟨S32x1x256, .f32⟩
  | .hbm, ⟨27, _⟩ => ⟨S32x1x256, .f32⟩
  | .hbm, ⟨28, _⟩ => ⟨S32x1x512, .f32⟩
  | .hbm, ⟨29, _⟩ => ⟨S32x1x64, .f32⟩
  | .hbm, ⟨30, _⟩ => ⟨S32x1x8, .f32⟩
  | .hbm, ⟨31, _⟩ => ⟨S32x1x16x64, .f32⟩
  | .hbm, ⟨32, _⟩ => ⟨S32x1x16x64, .f32⟩
  | .hbm, ⟨33, _⟩ => ⟨S_, .f32⟩
  | .hbm, ⟨34, _⟩ => ⟨S32x1x16, .f32⟩
  | .hbm, ⟨35, _⟩ => ⟨S32x1x16x1, .f32⟩
  | .hbm, ⟨36, _⟩ => ⟨S_, .f32⟩
  | .hbm, ⟨37, _⟩ => ⟨S32x1x16x1, .f32⟩
  | .hbm, ⟨38, _⟩ => ⟨S32x1x16x1, .f32⟩
  | .hbm, ⟨39, _⟩ => ⟨S_, .f32⟩
  | .hbm, ⟨40, _⟩ => ⟨S32x1x16x1, .f32⟩
  | .hbm, ⟨41, _⟩ => ⟨S32x1x16x1, .f32⟩
  | .hbm, ⟨42, _⟩ => ⟨S32x1x16x1, .f32⟩
  | .hbm, ⟨43, _⟩ => ⟨S32x1x16x64, .f32⟩
  | .hbm, ⟨44, _⟩ => ⟨S32x1x16x64, .f32⟩
  | .hbm, ⟨45, _⟩ => ⟨S1x1x1x64, .f32⟩
  | .hbm, ⟨46, _⟩ => ⟨S32x1x16x64, .f32⟩
  | .hbm, ⟨47, _⟩ => ⟨S32x1x16x64, .f32⟩
  | .hbm, ⟨48, _⟩ => ⟨S32x1x4x64, .f32⟩
  | .hbm, ⟨49, _⟩ => ⟨S32x1x4x64, .f32⟩
  | .hbm, ⟨50, _⟩ => ⟨S_, .f32⟩
  | .hbm, ⟨51, _⟩ => ⟨S32x1x4, .f32⟩
  | .hbm, ⟨52, _⟩ => ⟨S32x1x4x1, .f32⟩
  | .hbm, ⟨53, _⟩ => ⟨S_, .f32⟩
  | .hbm, ⟨54, _⟩ => ⟨S32x1x4x1, .f32⟩
  | .hbm, ⟨55, _⟩ => ⟨S32x1x4x1, .f32⟩
  | .hbm, ⟨56, _⟩ => ⟨S_, .f32⟩
  | .hbm, ⟨57, _⟩ => ⟨S32x1x4x1, .f32⟩
  | .hbm, ⟨58, _⟩ => ⟨S32x1x4x1, .f32⟩
  | .hbm, ⟨59, _⟩ => ⟨S32x1x4x1, .f32⟩
  | .hbm, ⟨60, _⟩ => ⟨S32x1x4x64, .f32⟩
  | .hbm, ⟨61, _⟩ => ⟨S32x1x4x64, .f32⟩
  | .hbm, ⟨62, _⟩ => ⟨S1x1x1x64, .f32⟩
  | .hbm, ⟨63, _⟩ => ⟨S32x1x4x64, .f32⟩
  | .hbm, ⟨64, _⟩ => ⟨S32x1x4x64, .f32⟩
  | .hbm, ⟨65, _⟩ => ⟨S32x1x4x64, .f32⟩
  | .hbm, ⟨66, _⟩ => ⟨S32x1x8x64, .f32⟩
  | .hbm, ⟨67, _⟩ => ⟨S_, .f32⟩
  | .hbm, ⟨68, _⟩ => ⟨S32x1x8, .f32⟩
  | .hbm, ⟨69, _⟩ => ⟨S32x1x8, .f32⟩
  | .hbm, ⟨70, _⟩ => ⟨S_, .f32⟩
  | .hbm, ⟨71, _⟩ => ⟨S32x1x16x64, .f32⟩
  | .hbm, ⟨72, _⟩ => ⟨S32x1x16x64, .f32⟩
  | .hbm, ⟨73, _⟩ => ⟨S32x1024, .f32⟩
  | .hbm, ⟨74, _⟩ => ⟨S32x1024, .bf16⟩
  | .hbm, ⟨75, _⟩ => ⟨S32x512, .f32⟩
  | .hbm, ⟨76, _⟩ => ⟨S32x512, .bf16⟩
  | .hbm, ⟨77, _⟩ => ⟨S32x256, .f32⟩
  | .hbm, ⟨78, _⟩ => ⟨S32x256, .f32⟩
  | .hbm, ⟨79, _⟩ => ⟨S32x64, .f32⟩
  | .hbm, ⟨80, _⟩ => ⟨S_, .f32⟩
  | .hbm, ⟨81, _⟩ => ⟨S32x1x8, .f32⟩
  | .hbm, ⟨82, _⟩ => ⟨S32x1x8, .f32⟩
  | .hbm, ⟨83, _⟩ => ⟨S32x8, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_11 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩

abbrev nD : Nat := 1
abbrev τ : Topo := Topo.v7x

variable {F : FTy → Type} [FloatOps F]
-- ==== Proof.Conv.Point.lean ====
module

public import proofs.«01_k».proof.Proof.Gen.ConvIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvIdeal.Mix

open Cert.ConvIdeal Cert.ConvIdeal.Gen

/-- One entry of the normalised, scaled and shifted activations: `x / rms(x) * (1 + scale) + shift`. -/
def hid (X : FVec Ideal S2x8192x1024 .f32) (sh sc : FVec Ideal S2x1x1024 .f32) (b : Fin 2) (r : Fin 8192) (k : Fin 1024) : EReal :=
  X (ix3 b r k) * Ideal.rsqrt (Ideal.div (∑ l : Fin 1024, X (ix3 b r l) * X (ix3 b r l)) (Ideal.ofBits .f32 0x44800000#32)
    + Ideal.ofBits .f32 0x358637BD#32) * (1 + sc (ix3 b 0 k)) + sh (ix3 b 0 k)

/-- One entry of the input projection of the mixer. -/
def proj (X : FVec Ideal S2x8192x1024 .f32) (sh sc : FVec Ideal S2x1x1024 .f32) (W : FVec Ideal S1024x3072 .f32)
    (b : Fin 2) (r : Fin 8192) (j : Fin 3072) : EReal :=
  ∑ k : Fin 1024, hid X sh sc b r k * W (ix2 k j)

/-- One entry of the convolution's input `c_gate * u`. -/
def zin (X : FVec Ideal S2x8192x1024 .f32) (sh sc : FVec Ideal S2x1x1024 .f32) (W : FVec Ideal S1024x3072 .f32)
    (b : Fin 2) (r : Fin 8192) (j : Fin 1024) : EReal :=
  proj X sh sc W b r ⟨1024 + j.val, by omega⟩ * proj X sh sc W b r ⟨2048 + j.val, by omega⟩

/-- The convolution's input `d` rows earlier, zero before the sequence begins. -/
def zback (X : FVec Ideal S2x8192x1024 .f32) (sh sc : FVec Ideal S2x1x1024 .f32) (W : FVec Ideal S1024x3072 .f32)
    (d : ℕ) (b : Fin 2) (r : Fin 8192) (j : Fin 1024) : EReal :=
  if h : d ≤ r.val then zin X sh sc W b ⟨r.val - d, by omega⟩ j else 0

/-- One entry of the gated convolution. -/
def mixed (X : FVec Ideal S2x8192x1024 .f32) (sh sc : FVec Ideal S2x1x1024 .f32) (W : FVec Ideal S1024x3072 .f32)
    (cw : FVec Ideal S3x1024 .f32) (b : Fin 2) (r : Fin 8192) (j : Fin 1024) : EReal :=
  proj X sh sc W b r ⟨j.val, by omega⟩ *
    (cw (ix2 0 j) * zback X sh sc W 2 b r j + cw (ix2 1 j) * zback X sh sc W 1 b r j + cw (ix2 2 j) * zin X sh sc W b r j)

variable (m : (ℓ : Loc nD τ sig) → Buf (Elt Ideal) ℓ)

/-- The block index of every window at every grid point. -/
theorem idx : ∀ t : Fin cfg0.N, win0_0.index t = ![t.val / 8, t.val % 8, 0] ∧ win0_1.index t = ![t.val / 8, 0, 0]
    ∧ win0_2.index t = ![t.val / 8, 0, 0] ∧ win0_3.index t = ![0, 0] ∧ win0_4.index t = ![0, 0]
    ∧ win0_5.index t = ![t.val / 8, t.val % 8, 0] ∧ win0_6.index t = ![t.val / 8, 0, 0] ∧ t.val / 8 < 2 :=
  (by decide +kernel : ∀ t : Fin grid0.N, _)

/-- The batch and the row of the array that row `p` of point `t`'s block is. -/
def bat (t : Fin cfg0.N) : Fin 2 := ⟨t.val / 8, (idx t).2.2.2.2.2.2.2⟩
def row (t : Fin cfg0.N) (p : Fin 1024) : Fin 8192 := ⟨t.val % 8 * 1024 + p.val, by omega⟩

/-- The five arguments of the call, as arrays. -/
abbrev aX (c : Dev nD) : FVec Ideal S2x8192x1024 .f32 := m ((c : Thread nD τ).loc main_arg0)
abbrev aSh (c : Dev nD) : FVec Ideal S2x1x1024 .f32 := m ((c : Thread nD τ).loc main_arg1)
abbrev aSc (c : Dev nD) : FVec Ideal S2x1x1024 .f32 := m ((c : Thread nD τ).loc main_arg2)
abbrev aW (c : Dev nD) : FVec Ideal S1024x3072 .f32 := m ((c : Thread nD τ).loc main_arg3)
abbrev aCw (c : Dev nD) : FVec Ideal S3x1024 .f32 := m ((c : Thread nD τ).loc main_arg4)

theorem x_at (c : Dev nD) (t : Fin cfg0.N) (p k : Fin 1024) :
    (iblk m c 0 t : Vec Ideal S1x1024x1024 .f32) (ix3 0 p k) = aX m c (ix3 (bat t) (row t p) k) := by
  blk_ext [iblk, V, idx t, bat, row]

theorem sh_at (c : Dev nD) (t : Fin cfg0.N) (k : Fin 1024) :
    (iblk m c 1 t : Vec Ideal S1x1x1024 .f32) (ix3 0 0 k) = aSh m c (ix3 (bat t) 0 k) := by
  blk_ext [iblk, V, idx t, bat, row]

theorem sc_at (c : Dev nD) (t : Fin cfg0.N) (k : Fin 1024) :
    (iblk m c 2 t : Vec Ideal S1x1x1024 .f32) (ix3 0 0 k) = aSc m c (ix3 (bat t) 0 k) := by
  blk_ext [iblk, V, idx t, bat, row]

theorem w_at (c : Dev nD) (t : Fin cfg0.N) (k : Fin 1024) (j : Fin 3072) :
    (iblk m c 3 t : Vec Ideal S1024x3072 .bf16) (ix2 k j) = aW m c (ix2 k j) := by
  blk_point [iblk, idx t]

/-- The convolution's weights as the host hands them to the call: eight rows, the last five zero. -/
theorem cw_entry (c : Dev nD) : (V m c main_v1 : Vec Ideal S8x1024 .f32)
    = pad S8x1024 ![0, 0] ![5, 0] ![0, 0] (aCw m c) (sitofp .f32 (constantI S_ 32 0#32)) pads_S3x1024_S8x1024_050_000 h_S_ := by
  show StableHlo.after [hostOps0, hostOps0_1].flatten (fun b => m (c, b)) (Proc.tc.devRef main_v1) = _
  simp only [List.flatten_cons, List.flatten_nil, List.append_nil, List.cons_append, List.nil_append, hostOps0, hostOps0_1]
  after_results_simp
  all_goals rfl

theorem cw_at (c : Dev nD) (t : Fin cfg0.N) (k : Fin 8) (h : k.val < 3) (j : Fin 1024) :
    (iblk m c 4 t : Vec Ideal S8x1024 .f32) (ix2 k j) = aCw m c (ix2 ⟨k.val, h⟩ j) := by
  have e : (iblk m c 4 t : Vec Ideal S8x1024 .f32) (ix2 k j) = (V m c main_v1 : Vec Ideal S8x1024 .f32) (ix2 k j) := by
    blk_ext [iblk, idx t]
  rw [e, cw_entry]
  pointwise!
  exact dif_pos h

theorem pay5_at (x : Vec Ideal S1x1024x1024 .f32) (sh sc : Vec Ideal S1x1x1024 .f32) (w : Vec Ideal S1024x1024 .bf16) (p j : Fin 1024) :
    k0_pay5 x sh sc w (ix2 p j) = ∑ k : Fin 1024, (x (ix3 0 p k) * Ideal.rsqrt (Ideal.div (∑ l : Fin 1024, x (ix3 0 p l) * x (ix3 0 p l)) (Ideal.ofBits .f32 0x44800000#32) + Ideal.ofBits .f32 0x358637BD#32) * (1 + sc (ix3 0 0 k)) + sh (ix3 0 0 k)) * w (ix2 k j) := by
  pointwise [k0_pay5, k0_pay4]

/-- A projection of the block of point `t`, its weights the columns from `o` on, is the projection of the array. -/
theorem proj_at (c : Dev nD) (t : Fin cfg0.N) (w : Vec Ideal S1024x1024 .bf16) (o : ℕ) (ho : o + 1024 ≤ 3072)
    (hw : ∀ k j : Fin 1024, w (ix2 k j) = (iblk m c 3 t : Vec Ideal S1024x3072 .bf16) (ix2 k ⟨o + j.val, by omega⟩)) (p j : Fin 1024) :
    k0_pay5 (iblk m c 0 t) (iblk m c 1 t) (iblk m c 2 t) w (ix2 p j)
      = proj (aX m c) (aSh m c) (aSc m c) (aW m c) (bat t) (row t p) ⟨o + j.val, by omega⟩ := by
  rw [pay5_at, proj]
  refine Finset.sum_congr rfl fun k _ => ?_
  rw [hw, w_at, hid, sc_at, sh_at, x_at]
  simp only [x_at]

/-- The convolution's input at row `p` of point `t`'s block. -/
theorem zin_at (c : Dev nD) (t : Fin cfg0.N) (w w' : Vec Ideal S1024x1024 .bf16)
    (hw : ∀ k j : Fin 1024, w (ix2 k j) = (iblk m c 3 t : Vec Ideal S1024x3072 .bf16) (ix2 k ⟨1024 + j.val, by omega⟩))
    (hw' : ∀ k j : Fin 1024, w' (ix2 k j) = (iblk m c 3 t : Vec Ideal S1024x3072 .bf16) (ix2 k ⟨2048 + j.val, by omega⟩)) (p j : Fin 1024) :
    k0_pay6 (iblk m c 0 t) (iblk m c 1 t) (iblk m c 2 t) w w' (ix2 p j)
      = zin (aX m c) (aSh m c) (aSc m c) (aW m c) (bat t) (row t p) j := by
  rw [zin, ← proj_at m c t w 1024 (by omega) hw p j, ← proj_at m c t w' 2048 (by omega) hw' p j]
  pointwise [k0_pay6, k0_pay5, k0_pay4]

/-- What a column block of the weights, read at an offset, holds. -/
theorem wld_at (x : Vec Ideal S1024x3072 .bf16) (o : ℕ) (ho : o + 1024 ≤ 3072) (inb) (k j : Fin 1024) :
    (View.ld x (Rect.unit ![0, o] ![1024, 1024] inb) : Vec Ideal S1024x1024 .bf16) (ix2 k j) = x (ix2 k ⟨o + j.val, by omega⟩) := by
  refine congrArg x ?_
  blk_ext
  all_goals simp [ix2]

/-- A row of an eight-row array, read at an offset. -/
theorem rld_at (x : Vec Ideal S8x1024 .f32) (o : ℕ) (ho : o < 8) (inb) (j : Fin 1024) :
    (View.ld x (Rect.unit ![o, 0] ![1, 1024] inb) : Vec Ideal S1x1024 .f32) (ix2 0 j) = x (ix2 ⟨o, ho⟩ j) := by
  refine congrArg x ?_
  blk_ext
  all_goals simp [ix2]

/-- A row of the convolution's weights as the kernel reads it. -/
theorem cwld_at (c : Dev nD) (t : Fin cfg0.N) (o : ℕ) (ho : o < 3) (inb) (j : Fin 1024) :
    (View.ld (iblk m c 4 t : Vec Ideal S8x1024 .f32) (Rect.unit ![o, 0] ![1, 1024] inb) : Vec Ideal S1x1024 .f32) (ix2 0 j) = aCw m c (ix2 ⟨o, ho⟩ j) :=
  (rld_at _ o (by omega) inb j).trans (cw_at m c t ⟨o, by omega⟩ ho j)

theorem pay1_at (z : FVec Ideal S1024x1024 .f32) (q : Fin 8) (j : Fin 1024) :
    (k0_pay2 z : Vec Ideal S8x1024 .f32) (ix2 q j) = z (ix2 ⟨1016 + q.val, by omega⟩ j) := by
  pointwise [k0_pay2, k0_pay1]

/-- The rows the kernel keeps for the next grid point: the last eight of its block. -/
theorem kept_at (c : Dev nD) (t : Fin cfg0.N) (q : Fin 8) (j : Fin 1024) :
    ((outsAt0 m c t.val t.isLt).2.2 : Vec Ideal S8x1024 .f32) (ix2 q j)
      = zin (aX m c) (aSh m c) (aSc m c) (aW m c) (bat t) (row t ⟨1016 + q.val, by omega⟩) j := by
  by_cases h : t.val % 8 = 0
  · rw [outsAt0_A m c t h]
    frame_out
    refine (pay1_at _ q j).trans ?_
    exact (zin_at m c t _ _ (fun k j => wld_at (iblk m c 3 t) 1024 (by omega) inb_S1024x3072_S1024x1024_0_1024 k j) (fun k j => wld_at (iblk m c 3 t) 2048 (by omega) inb_S1024x3072_S1024x1024_0_2048 k j) _ j)
  · rw [outsAt0_B m c t h]
    frame_out
    refine (pay1_at _ q j).trans ?_
    exact (zin_at m c t _ _ (fun k j => wld_at (iblk m c 3 t) 1024 (by omega) inb_S1024x3072_S1024x1024_0_1024 k j) (fun k j => wld_at (iblk m c 3 t) 2048 (by omega) inb_S1024x3072_S1024x1024_0_2048 k j) _ j)

theorem tail_at (c : Dev nD) (t : Fin cfg0.N) (q : Fin 8) (j : Fin 1024) :
    ((dats m 0 c).after 6 t : Vec Ideal S1x8x1024 .f32) (ix3 0 q j)
      = zin (aX m c) (aSh m c) (aSc m c) (aW m c) (bat t) (row t ⟨1016 + q.val, by omega⟩) j := by
  rw [after0_6]
  by_cases h : t.val % 8 = 0
  · rw [outsAt0_A m c t h]
    frame_out
    rw [← zin_at m c t _ _ (fun k j => wld_at (iblk m c 3 t) 1024 (by omega) inb_S1024x3072_S1024x1024_0_1024 k j) (fun k j => wld_at (iblk m c 3 t) 2048 (by omega) inb_S1024x3072_S1024x1024_0_2048 k j)]
    pointwise [k0_pay3, k0_pay1]
  · rw [outsAt0_B m c t h]
    frame_out
    rw [← zin_at m c t _ _ (fun k j => wld_at (iblk m c 3 t) 1024 (by omega) inb_S1024x3072_S1024x1024_0_1024 k j) (fun k j => wld_at (iblk m c 3 t) 2048 (by omega) inb_S1024x3072_S1024x1024_0_2048 k j)]
    pointwise [k0_pay3, k0_pay1]

/-- The block's gated convolution, from the projections of its rows and the two rows before them. -/
theorem pay8_at (g z : Vec Ideal S1024x1024 .f32) (p1 p2 c0 c1 c2 : Vec Ideal S1x1024 .f32) (p j : Fin 1024) :
    (k0_pay8 g z p1 p2 c0 c1 c2 : Vec Ideal S1x1024x1024 .bf16) (ix3 0 p j)
      = g (ix2 p j) * (c0 (ix2 0 j) * (if h : 2 ≤ p.val then z (ix2 ⟨p.val - 2, by omega⟩ j) else if p.val = 0 then p2 (ix2 0 j) else p1 (ix2 0 j))
        + c1 (ix2 0 j) * (if h : 1 ≤ p.val then z (ix2 ⟨p.val - 1, by omega⟩ j) else p1 (ix2 0 j)) + c2 (ix2 0 j) * z (ix2 p j)) := by
  have e0 : IntOp.cmpi .eq (BitVec.ofNat 32 p.val) 0#32 = if p.val = 0 then 1#1 else 0#1 := by
    obtain ⟨n, hn⟩ := p
    by_cases h : n = 0
    · subst h; rfl
    · have : BitVec.ofNat 32 n ≠ 0#32 := fun e => h (by have := congrArg BitVec.toNat e; simp at this; omega)
      simp [IntOp.cmpi, h, beq_eq_false_iff_ne.mpr this]
  have e1 : IntOp.cmpi .eq (BitVec.ofNat 32 p.val) 1#32 = if p.val = 1 then 1#1 else 0#1 := by
    obtain ⟨n, hn⟩ := p
    by_cases h : n = 1
    · subst h; rfl
    · have : BitVec.ofNat 32 n ≠ 1#32 := fun e => h (by have := congrArg BitVec.toNat e; simp at this; omega)
      simp [IntOp.cmpi, h, beq_eq_false_iff_ne.mpr this]
  pointwise [k0_pay8]
  rw [e0, e1]
  rcases Nat.lt_or_ge p.val 2 with hp | hp
  · rcases (by omega : p.val = 0 ∨ p.val = 1) with h | h <;> simp [h, Scalar.select]
  · have h0 : p.val ≠ 0 := by omega
    have h1 : p.val ≠ 1 := by omega
    have h2 : 1 ≤ p.val := by omega
    have i1 : (p.val + 1023) % 1024 = p.val - 1 := by omega
    have i2 : (p.val + 1022) % 1024 = p.val - 2 := by omega
    simp [h0, h1, h2, hp, Scalar.select, i1, i2]

section Back
variable (X : FVec Ideal S2x8192x1024 .f32) (sh sc : FVec Ideal S2x1x1024 .f32) (W : FVec Ideal S1024x3072 .f32)

theorem back2 (t : Fin cfg0.N) (p j : Fin 1024) :
    (if h : 2 ≤ p.val then zin X sh sc W (bat t) (row t ⟨p.val - 2, by omega⟩) j
      else if p.val = 0 then zback X sh sc W 2 (bat t) (row t 0) j else zback X sh sc W 1 (bat t) (row t 0) j)
      = zback X sh sc W 2 (bat t) (row t p) j := by
  unfold zback
  have hp := p.isLt
  have r0 : (row t 0).val = t.val % 8 * 1024 := by simp [row]
  have rp : (row t p).val = t.val % 8 * 1024 + p.val := rfl
  split_ifs <;> first | rfl | (exfalso; omega) | (congr 1; simp only [row, Fin.val_zero, Fin.mk.injEq]; omega)

theorem back1 (t : Fin cfg0.N) (p j : Fin 1024) :
    (if h : 1 ≤ p.val then zin X sh sc W (bat t) (row t ⟨p.val - 1, by omega⟩) j else zback X sh sc W 1 (bat t) (row t 0) j)
      = zback X sh sc W 1 (bat t) (row t p) j := by
  unfold zback
  have hp := p.isLt
  have r0 : (row t 0).val = t.val % 8 * 1024 := by simp [row]
  have rp : (row t p).val = t.val % 8 * 1024 + p.val := rfl
  split_ifs <;> first | rfl | (exfalso; omega) | (congr 1; simp only [row, Fin.val_zero, Fin.mk.injEq]; omega)

theorem back_first (t : Fin cfg0.N) (h : t.val % 8 = 0) (d : ℕ) (hd : 0 < d) (j : Fin 1024) :
    zback X sh sc W d (bat t) (row t 0) j = 0 := by
  rw [zback, dif_neg]
  simp only [row, Fin.val_zero]
  omega

theorem back_next (t : Fin cfg0.N) (h : ¬ t.val % 8 = 0) (d : ℕ) (hd : 0 < d) (hd' : d ≤ 8) (j : Fin 1024) :
    zback X sh sc W d (bat t) (row t 0) j
      = zin X sh sc W (bat ⟨t.val - 1, by omega⟩) (row ⟨t.val - 1, by omega⟩ ⟨1016 + (8 - d), by omega⟩) j := by
  have hr : (row t 0).val = t.val % 8 * 1024 := by simp [row]
  rw [zback, dif_pos (by omega)]
  congr 1
  · simp only [bat, Fin.mk.injEq]; omega
  · simp only [row, Fin.mk.injEq, Fin.val_zero]; omega
end Back

/-- Before the first block of a batch the kernel clears the rows it keeps. -/
theorem cleared (r : Rect S8x1024) :
    (View.whole cc0_scratch0).readCov (Val := Elt Ideal) [⟨Rect.unit ![0, 0] ![8, 1024] inb_S8x1024_S8x1024_0_0, (k0_pay7 (F := Ideal))⟩] r.toLoadRect
      = View.ld (Val := Elt Ideal) (e' := .f32) (k0_pay7 (F := Ideal)) r :=
  View.readCov_fill (Val := Elt Ideal) (View.whole cc0_scratch0) inb_S8x1024_S8x1024_0_0 (k0_pay7 (F := Ideal)) [] r (by decide)

theorem zero_at (q : Fin 8) (j : Fin 1024) : (k0_pay7 (F := Ideal) : Vec Ideal S8x1024 .f32) (ix2 q j) = 0 := by
  pointwise [k0_pay7]

theorem block_at (c : Dev nD) (t : Fin cfg0.N) (p : Fin 1024) (j : Fin 1024) :
    ((dats m 0 c).after 5 t : Vec Ideal S1x1024x1024 .bf16) (ix3 0 p j)
      = mixed (aX m c) (aSh m c) (aSc m c) (aW m c) (aCw m c) (bat t) (row t p) j := by
  rw [after0_5]
  have e0 : (⟨0 + j.val, by omega⟩ : Fin 3072) = ⟨j.val, by omega⟩ := Fin.ext (by simp)
  by_cases h : t.val % 8 = 0
  · rw [outsAt0_A m c t h]
    frame_out
    rw [pay8_at, proj_at m c t _ 0 (by omega) (fun k j => wld_at (iblk m c 3 t) 0 (by omega) inb_S1024x3072_S1024x1024_0_0 k j)]
    rw [cwld_at m c t 0 (by decide), cwld_at m c t 1 (by decide), cwld_at m c t 2 (by decide)]
    simp only [zin_at m c t _ _ (fun k j => wld_at (iblk m c 3 t) 1024 (by omega) inb_S1024x3072_S1024x1024_0_1024 k j) (fun k j => wld_at (iblk m c 3 t) 2048 (by omega) inb_S1024x3072_S1024x1024_0_2048 k j)]
    rw [mixed, ← back1, ← back2, back_first _ _ _ _ t h 1 (by omega), back_first _ _ _ _ t h 2 (by omega), e0]
    rw [cleared, cleared, rld_at _ 6 (by omega), rld_at _ 7 (by omega), zero_at, zero_at]
    rfl
  · rw [outsAt0_B m c t h]
    frame_out
    rw [pay8_at, proj_at m c t _ 0 (by omega) (fun k j => wld_at (iblk m c 3 t) 0 (by omega) inb_S1024x3072_S1024x1024_0_0 k j)]
    rw [cwld_at m c t 0 (by decide), cwld_at m c t 1 (by decide), cwld_at m c t 2 (by decide)]
    simp only [zin_at m c t _ _ (fun k j => wld_at (iblk m c 3 t) 1024 (by omega) inb_S1024x3072_S1024x1024_0_1024 k j) (fun k j => wld_at (iblk m c 3 t) 2048 (by omega) inb_S1024x3072_S1024x1024_0_2048 k j)]
    rw [mixed, ← back1, ← back2, back_next _ _ _ _ t h 1 (by omega) (by omega), back_next _ _ _ _ t h 2 (by omega) (by omega), e0]
    rw [rld_at _ 6 (by omega), rld_at _ 7 (by omega)]
    have k6 := kept_at m c ⟨t.val - 1, by omega⟩ 6 j
    have k7 := kept_at m c ⟨t.val - 1, by omega⟩ 7 j
    rw [read_unread_whole]
    refine Eq.trans ?_ (congrArg₂ (fun u v : EReal => proj (aX m c) (aSh m c) (aSc m c) (aW m c) (bat t) (row t p) ⟨j.val, by omega⟩ *
      (aCw m c (ix2 0 j) * (if h : 2 ≤ p.val then zin (aX m c) (aSh m c) (aSc m c) (aW m c) (bat t) (row t ⟨p.val - 2, by omega⟩) j
            else if p.val = 0 then u else v) +
          aCw m c (ix2 1 j) * (if h : 1 ≤ p.val then zin (aX m c) (aSh m c) (aSc m c) (aW m c) (bat t) (row t ⟨p.val - 1, by omega⟩) j else v) +
        aCw m c (ix2 2 j) * zin (aX m c) (aSh m c) (aSc m c) (aW m c) (bat t) (row t p) j)) k6 k7)
    rfl

/-- The mixer's gated convolution as the whole array the call leaves. -/
def outA (c : Dev nD) : FVec Ideal S2x8192x1024 .bf16 :=
  fun i => mixed (aX m c) (aSh m c) (aSc m c) (aW m c) (aCw m c) (i 0) (i 1) (i 2)

/-- The last eight rows of the convolution's input as the array the call leaves. -/
def outS (c : Dev nD) : FVec Ideal S2x8x1024 .f32 :=
  fun i => zin (aX m c) (aSh m c) (aSc m c) (aW m c) (i 0) ⟨8184 + (i 1).val, by idx_bounds; omega⟩ (i 2)

theorem final5 (c : Dev nD) : (dats m 0 c).arrAt 5 cfg0.N = outA m c := by
  refine (dats m 0 c).arrAt_eq_of_covers 5 _ (by decide +kernel) fun t _ y => ?_
  idx_vars y
  blk_simp
  rw [Subsingleton.elim y0 0]
  refine (block_at m c t y1 y2).trans ?_
  have e : (((View.whole main_v2_0).slice ((win0 5).rect t)).emb (ix3 0 y1 y2) : S2x8192x1024.Idx) = ix3 (bat t) (row t y1) y2 := by
    blk_ext [idx t, bat, row]
  rw [e]
  rfl

theorem final6 (c : Dev nD) : (dats m 0 c).arrAt 6 cfg0.N = outS m c := by
  refine (dats m 0 c).arrAt_eq_of_covers 6 _ (by decide +kernel) fun t hf y => ?_
  have h7 := (flush0_6 t).mp hf
  idx_vars y
  blk_simp
  rw [Subsingleton.elim y0 0]
  refine (tail_at m c t y1 y2).trans ?_
  have e : (((View.whole main_v2_1).slice ((win0 6).rect t)).emb (ix3 0 y1 y2) : S2x8x1024.Idx) = ix3 (bat t) y1 y2 := by
    blk_ext [idx t, bat, row]
  rw [e]
  exact congrArg (fun r => zin (aX m c) (aSh m c) (aSc m c) (aW m c) (bat t) r y2)
    (Fin.ext (show t.val % 8 * 1024 + (1016 + y1.val) = 8184 + y1.val by omega))

end Cert.ConvIdeal.Mix
end
-- ==== Proof.Conv.Ref.lean ====
module

public import proofs.«01_k».proof.Proof.Conv.Point
public import proofs.«01_k».proof.Proof.Gen.ConvRefIdeal.Run
public import proofs.«01_k».proof.Defs

@[expose] public section

set_option maxRecDepth 16384

noncomputable section

open Idealize.ShloMosaic Idealize.ShloMosaic.TcCoe Idealize.SL.Sem

namespace Cert.ConvIdeal.Mix

open Cert.ConvIdeal

/-- The reference's gated convolution, entry by entry. -/
theorem ref0 (m : (ℓ : Loc Cert.ConvRefIdeal.nD Cert.ConvRefIdeal.τ Cert.ConvRefIdeal.sig) → Buf (Elt Ideal) ℓ) (c : Dev Cert.ConvRefIdeal.nD)
    (b : Fin 2) (r : Fin 8192) (j : Fin 1024) :
    (Cert.ConvRefIdeal.Value.res_main_v44 m c : FVec Ideal S2x8192x1024 .bf16) (ix3 b r j)
      = mixed (m ((c.tc : Thread _ _).loc Cert.ConvRefIdeal.main_arg0)) (m ((c.tc : Thread _ _).loc Cert.ConvRefIdeal.main_arg1))
          (m ((c.tc : Thread _ _).loc Cert.ConvRefIdeal.main_arg2)) (m ((c.tc : Thread _ _).loc Cert.ConvRefIdeal.main_arg3))
          (m ((c.tc : Thread _ _).loc Cert.ConvRefIdeal.main_arg4)) b r j := by
  pointwise [Cert.ConvRefIdeal.Value.res_main_v44, mixed, zback, zin, proj, hid]
  have hr := r.isLt
  have e1 : 1 + r.val - 2 = r.val - 1 := by omega
  have e2 : 2 + r.val - 2 = r.val := by omega
  have a0 : ¬ 2 + r.val < 2 := by omega
  by_cases a2 : r.val < 2
  · have b2 : ¬ 2 ≤ r.val := by omega
    by_cases a1 : 1 + r.val < 2
    · have b1 : ¬ 1 ≤ r.val := by omega
      simp only [a0, a1, a2, b1, b2, e1, e2, ↓reduceDIte]
    · have b1 : 1 ≤ r.val := by omega
      simp only [a0, a1, a2, b1, b2, e1, e2, ↓reduceDIte]
  · have b2 : 2 ≤ r.val := by omega
    have a1 : ¬ 1 + r.val < 2 := by omega
    have b1 : 1 ≤ r.val := by omega
    simp only [a0, a1, a2, b1, b2, e1, e2, ↓reduceDIte]

/-- The reference runs to its end, leaves its arguments alone, and has no counter to leave raised. -/
theorem ref_frame : Cert.quiescent_ConvRefIdeal := fun m g _ =>
  (θ_run _ _ _).mono (fun r h => ⟨fun c => (h c).2.2, sem_eq_zero_of_no_sems (by decide) r.2⟩) (Cert.ConvRefIdeal.Value.run m g)

theorem algebraic : Cert.algebraic_ConvIdeal_ConvRefIdeal := by
  pair_intro
  · run_from Cert.ConvIdeal.Value.run_blocks m g
  · run_from Cert.ConvRefIdeal.Value.run m' g'
    · rw [final5]
      funext i
      idx_vars i
      refine (ref0 m' c _ _ _).trans ?_
      rw [(hagree c).1, (hagree c).2.1, (hagree c).2.2.1, (hagree c).2.2.2.1, (hagree c).2.2.2.2]
      rfl
    · rw [final6]
      funext i
      idx_vars i
      show _ = zin (aX m c) (aSh m c) (aSc m c) (aW m c) _ _ _
      pointwise [zin, proj, hid]
      have e : 8186 + i1.val - 2 = 8184 + i1.val := by omega
      rw [dif_neg (by omega)]
      simp only [e]

end Cert.ConvIdeal.Mix
end
-- ==== Proof.Ffn.Spec.lean ====
module

public import Idealize.ShloMosaic.PureOps.ShapeOps
public import Idealize.ShloMosaic.Lib.Pipeline.ValueKit
public import Idealize.ShloMosaic.Lib.Pointwise

@[expose] public section

noncomputable section

open Idealize.ShloMosaic

namespace Cert.FfnRow

/-- One entry of a row after the root-mean-square normalisation, the scale and the shift. -/
def hid (x sh sc : Fin 1024 → EReal) (k : Fin 1024) : EReal :=
  x k * Ideal.rsqrt (Ideal.div (∑ l : Fin 1024, x l * x l) (Ideal.ofBits .f32 0x44800000#32) + Ideal.ofBits .f32 0x358637BD#32)
    * (1 + sc k) + sh k

/-- `u * sigmoid(u) * v`. -/
def glu (u v : EReal) : EReal := u * Ideal.div 1 (1 + Ideal.exp (-u)) * v

/-- One entry of the gated activation: the two halves of the input projection are its gate and its value. -/
def act (h : Fin 1024 → EReal) (W : Fin 1024 → Fin 5632 → EReal) (f : Fin 2816) : EReal :=
  glu (∑ k, h k * W k ⟨f.val, by omega⟩) (∑ k, h k * W k ⟨2816 + f.val, by omega⟩)

/-- One entry of a row of the feed-forward layer with its residual. -/
def out (x sh sc g : Fin 1024 → EReal) (Wi : Fin 1024 → Fin 5632 → EReal) (Wo : Fin 2816 → Fin 1024 → EReal) (j : Fin 1024) : EReal :=
  x j + Ideal.ofBits .f32 0x3F000000#32 * g j * ∑ f : Fin 2816, act (hid x sh sc) Wi f * Wo f j

/-- The share of 256 hidden units, from `o` on, in one entry of the output projection. -/
def part (h : Fin 1024 → EReal) (Wi : Fin 1024 → Fin 5632 → EReal) (Wo : Fin 2816 → Fin 1024 → EReal) (o : ℕ) (ho : o + 256 ≤ 2816) (j : Fin 1024) : EReal :=
  ∑ x : Fin 256, act h Wi ⟨o + x.val, by omega⟩ * Wo ⟨o + x.val, by omega⟩ j

theorem sum_eleven (F : Fin 11 → EReal) :
    ∑ k, F k = F 0 + F 1 + F 2 + F 3 + F 4 + F 5 + F 6 + F 7 + F 8 + F 9 + F 10 := by
  simp only [Fin.sum_univ_castSucc, Fin.sum_univ_zero, zero_add]
  rfl

/-- The output projection, summed eleven shares one after another. -/
theorem sum_parts (h : Fin 1024 → EReal) (Wi : Fin 1024 → Fin 5632 → EReal) (Wo : Fin 2816 → Fin 1024 → EReal) (j : Fin 1024) :
    ∑ f : Fin 2816, act h Wi f * Wo f j
      = part h Wi Wo 0 (by decide) j + part h Wi Wo 256 (by decide) j + part h Wi Wo 512 (by decide) j + part h Wi Wo 768 (by decide) j
        + part h Wi Wo 1024 (by decide) j + part h Wi Wo 1280 (by decide) j + part h Wi Wo 1536 (by decide) j + part h Wi Wo 1792 (by decide) j
        + part h Wi Wo 2048 (by decide) j + part h Wi Wo 2304 (by decide) j + part h Wi Wo 2560 (by decide) j := by
  refine (Fin.sum_univ_tiles 11 256 rfl fun f => act h Wi f * Wo f j).trans ?_
  refine (sum_eleven _).trans ?_
  rfl

/-- The same share from three tiles: 256 columns of the gate's weights, 256 of the value's, 256 rows of the output's. -/
def tile (h : Fin 1024 → EReal) (wa wb : Fin 1024 → Fin 256 → EReal) (wo : Fin 256 → Fin 1024 → EReal) (j : Fin 1024) : EReal :=
  ∑ x : Fin 256, glu (∑ k, h k * wa k x) (∑ k, h k * wb k x) * wo x j

theorem tile_eq_part (h : Fin 1024 → EReal) (Wi : Fin 1024 → Fin 5632 → EReal) (Wo : Fin 2816 → Fin 1024 → EReal) (wa wb : Fin 1024 → Fin 256 → EReal)
    (wo : Fin 256 → Fin 1024 → EReal) (o : ℕ) (ho : o + 256 ≤ 2816) (ha : ∀ k x, wa k x = Wi k ⟨o + x.val, by omega⟩)
    (hb : ∀ k x, wb k x = Wi k ⟨2816 + (o + x.val), by omega⟩) (hw : ∀ x j, wo x j = Wo ⟨o + x.val, by omega⟩ j) (j : Fin 1024) :
    tile h wa wb wo j = part h Wi Wo o ho j := by
  simp only [tile, part, act, ha, hb, hw]

end Cert.FfnRow
end
-- ==== Proof.Ffn.Pre.lean ====
module

public import proofs.«01_k».proof.Proof.Gen.FfnPreIdeal.Value
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Ffn.Spec

@[expose] public section

set_option maxRecDepth 16384

noncomputable section

open Idealize.ShloMosaic Idealize.ShloMosaic.TcCoe Idealize.SL.Sem
open Idealize.ShloMosaic.Pipeline (Dat)

namespace Cert.FfnPreIdeal.Mix

open Cert.FfnPreIdeal Cert.FfnPreIdeal.Gen

section Tiles
variable (H : FVec Ideal S1024x1024 .bf16) (wa wb : Vec Ideal S1x1x1024x256 .bf16) (wo : Vec Ideal S1x1x256x1024 .bf16)
  (acc : Vec Ideal S1024x1024 .f32) (p j : Fin 1024)

/-- What one tile of hidden units adds to entry `(p, j)` of the accumulator. -/
abbrev tileAt : EReal :=
  FfnRow.tile (fun k => H (ix2 p k)) (fun k x => wa (ix4 0 0 k x)) (fun k x => wb (ix4 0 0 k x)) (fun x j => wo (ix4 0 0 x j)) j

theorem tile0 : (k0_pay6 H (k0_pay5 wa) wb wo : FVec Ideal S1024x1024 .f32) (ix2 p j) = tileAt H wa wb wo p j := by
  pointwise [k0_pay6, k0_pay5, tileAt, FfnRow.tile, FfnRow.glu]
  simp only [zero_sub]

theorem tile1 : (k0_pay10 (k0_pay7 H wa) (k0_pay8 H wb) (k0_pay9 H wa) wo acc : FVec Ideal S1024x1024 .f32) (ix2 p j) = acc (ix2 p j) + tileAt H wa wb wo p j := by
  pointwise [k0_pay10, k0_pay7, k0_pay8, k0_pay9, tileAt, FfnRow.tile, FfnRow.glu]
  simp only [zero_sub]

theorem tile2 : (k0_pay13 (k0_pay11 H wa wb) (k0_pay12 wo) (constant S1024x1024 .f32 0#32) acc : FVec Ideal S1024x1024 .f32) (ix2 p j) = acc (ix2 p j) + tileAt H wa wb wo p j := by
  pointwise [k0_pay13, k0_pay11, k0_pay12, tileAt, FfnRow.tile, FfnRow.glu]
  simp only [zero_sub]

theorem tile3 : (k0_pay14 H wa wb wo acc : FVec Ideal S1024x1024 .f32) (ix2 p j) = acc (ix2 p j) + tileAt H wa wb wo p j := by
  pointwise [k0_pay14, tileAt, FfnRow.tile, FfnRow.glu]
  simp only [zero_sub]

theorem tile4 : (k0_pay15 H wa wb wo acc : FVec Ideal S1024x1024 .f32) (ix2 p j) = acc (ix2 p j) + tileAt H wa wb wo p j := by
  pointwise [k0_pay15, tileAt, FfnRow.tile, FfnRow.glu]
  simp only [zero_sub]

theorem tile5 : (k0_pay18 H (k0_pay16 H wa) (k0_pay17 wb) (constant S1024x256 .f32 0#32) wo acc : FVec Ideal S1024x1024 .f32) (ix2 p j) = acc (ix2 p j) + tileAt H wa wb wo p j := by
  pointwise [k0_pay18, k0_pay16, k0_pay17, tileAt, FfnRow.tile, FfnRow.glu]
  simp only [zero_sub]

theorem tile6 : (k0_pay20 (k0_pay19 H wa wb) wo acc : FVec Ideal S1024x1024 .f32) (ix2 p j) = acc (ix2 p j) + tileAt H wa wb wo p j := by
  pointwise [k0_pay20, k0_pay19, tileAt, FfnRow.tile, FfnRow.glu]
  simp only [zero_sub]

theorem tile7 : (k0_pay22 (k0_pay21 H wa wb wo acc) : FVec Ideal S1024x1024 .f32) (ix2 p j) = acc (ix2 p j) + tileAt H wa wb wo p j := by
  pointwise [k0_pay22, k0_pay21, tileAt, FfnRow.tile, FfnRow.glu]
  simp only [zero_sub]

theorem tile8 : (k0_pay23 H wa wb wo acc : FVec Ideal S1024x1024 .f32) (ix2 p j) = acc (ix2 p j) + tileAt H wa wb wo p j := by
  pointwise [k0_pay23, tileAt, FfnRow.tile, FfnRow.glu]
  simp only [zero_sub]

theorem tile9 : (k0_pay25 H (k0_pay24 wa) (constant S1024x256 .f32 0#32) wb wo acc : FVec Ideal S1024x1024 .f32) (ix2 p j) = acc (ix2 p j) + tileAt H wa wb wo p j := by
  pointwise [k0_pay25, k0_pay24, tileAt, FfnRow.tile, FfnRow.glu]
  simp only [zero_sub]

theorem tile10 : (k0_pay1 (k0_pay26 H wa) (k0_pay27 H wb) (k0_pay28 H wa) wo acc : FVec Ideal S1024x1024 .f32) (ix2 p j) = acc (ix2 p j) + tileAt H wa wb wo p j := by
  pointwise [k0_pay1, k0_pay26, k0_pay27, k0_pay28, tileAt, FfnRow.tile, FfnRow.glu]
  simp only [zero_sub]

end Tiles

section Rows
variable (x : Vec Ideal S1024x1024 .f32) (gm : Vec Ideal S1x1x1024 .f32) (a w : Vec Ideal S1024x1024 .bf16) (sh sc g : Vec Ideal S1x1x1024 .f32)
  (acc : Vec Ideal S1024x1024 .f32) (p j : Fin 1024)

/-- A row of the residual stream once the mixer's output is projected, gated and added. -/
abbrev resRow (k : Fin 1024) : EReal := x (ix2 p k) + gm (ix3 0 0 k) * ∑ l : Fin 1024, a (ix2 p l) * w (ix2 l k)

theorem res_at : (k0_pay3 x gm a w : FVec Ideal S1024x1024 .f32) (ix2 p j) = resRow x gm a w p j := by
  pointwise [k0_pay3, resRow]

theorem hid_at : (k0_pay4 x gm a w sh sc : FVec Ideal S1024x1024 .bf16) (ix2 p j)
    = FfnRow.hid (resRow x gm a w p) (fun k => sh (ix3 0 0 k)) (fun k => sc (ix3 0 0 k)) j := by
  pointwise [k0_pay4, k0_pay3, FfnRow.hid, resRow]

theorem add_at (r : FVec Ideal S1024x1024 .f32) : (k0_pay2 r g acc : FVec Ideal S1024x1024 .f32) (ix2 p j)
    = r (ix2 p j) + Ideal.ofBits .f32 0x3F000000#32 * g (ix3 0 0 j) * acc (ix2 p j) := by
  pointwise [k0_pay2]
end Rows

section Loads
variable (Wi : Vec Ideal S1x1x1024x5632 .bf16) (Wo : Vec Ideal S1x1x2816x1024 .bf16)

theorem wi_ld (o : ℕ) (ho : o + 256 ≤ 5632) (inb) (k : Fin 1024) (x : Fin 256) :
    (View.ld Wi (Rect.unit ![0, 0, 0, o] ![1, 1, 1024, 256] inb) : Vec Ideal S1x1x1024x256 .bf16) (ix4 0 0 k x) = Wi (ix4 0 0 k ⟨o + x.val, by omega⟩) := by
  refine congrArg Wi ?_
  blk_ext
  all_goals simp [ix4]

theorem wo_ld (o : ℕ) (ho : o + 256 ≤ 2816) (inb) (x : Fin 256) (j : Fin 1024) :
    (View.ld Wo (Rect.unit ![0, 0, o, 0] ![1, 1, 256, 1024] inb) : Vec Ideal S1x1x256x1024 .bf16) (ix4 0 0 x j) = Wo (ix4 0 0 ⟨o + x.val, by omega⟩ j) := by
  refine congrArg Wo ?_
  blk_ext
  all_goals simp [ix4]

/-- The tile at hidden unit `o` is that share of the whole projection. -/
theorem tile_ld (H : FVec Ideal S1024x1024 .bf16) (o o' : ℕ) (ho : o + 256 ≤ 2816) (ho' : o' = 2816 + o) (i1 i2 i3) (p j : Fin 1024) :
    tileAt H (View.ld Wi (Rect.unit ![0, 0, 0, o] ![1, 1, 1024, 256] i1)) (View.ld Wi (Rect.unit ![0, 0, 0, o'] ![1, 1, 1024, 256] i2))
        (View.ld Wo (Rect.unit ![0, 0, o, 0] ![1, 1, 256, 1024] i3)) p j
      = FfnRow.part (fun k => H (ix2 p k)) (fun k f => Wi (ix4 0 0 k f)) (fun f j => Wo (ix4 0 0 f j)) o ho j := by
  subst ho'
  refine FfnRow.tile_eq_part _ _ _ _ _ _ o ho (fun k x => wi_ld Wi o (by omega) i1 k x) (fun k x => ?_) (fun x j => wo_ld Wo o ho i3 x j) j
  refine (wi_ld Wi (2816 + o) (by omega) i2 k x).trans ?_
  exact congrArg (fun f => Wi (ix4 0 0 k f)) (Fin.ext (Nat.add_assoc _ _ _))
end Loads

variable (m : (ℓ : Loc nD τ sig) → Buf (Elt Ideal) ℓ)

/-- The nine arguments of the call, as arrays. -/
abbrev aX (c : Dev nD) : FVec Ideal S2x8192x1024 .f32 := m ((c : Thread nD τ).loc main_arg0)
abbrev aA (c : Dev nD) : FVec Ideal S2x8192x1024 .bf16 := m ((c : Thread nD τ).loc main_arg1)
abbrev aW (c : Dev nD) : FVec Ideal S1024x1024 .f32 := m ((c : Thread nD τ).loc main_arg2)
abbrev aGm (c : Dev nD) : FVec Ideal S2x1x1024 .f32 := m ((c : Thread nD τ).loc main_arg3)
abbrev aSh (c : Dev nD) : FVec Ideal S2x1x1024 .f32 := m ((c : Thread nD τ).loc main_arg4)
abbrev aSc (c : Dev nD) : FVec Ideal S2x1x1024 .f32 := m ((c : Thread nD τ).loc main_arg5)
abbrev aG (c : Dev nD) : FVec Ideal S2x1x1024 .f32 := m ((c : Thread nD τ).loc main_arg6)
abbrev aWi (c : Dev nD) : FVec Ideal S4x2x1024x5632 .f32 := m ((c : Thread nD τ).loc main_arg7)
abbrev aWo (c : Dev nD) : FVec Ideal S4x2x2816x1024 .f32 := m ((c : Thread nD τ).loc main_arg8)

/-- The block index of every window at every grid point. -/
theorem idx : ∀ t : Fin cfg0.N, win0_0.index t = ![t.val, 0] ∧ win0_1.index t = ![t.val, 0] ∧ win0_2.index t = ![0, 0]
    ∧ win0_3.index t = ![t.val / 8, 0, 0] ∧ win0_4.index t = ![t.val / 8, 0, 0] ∧ win0_5.index t = ![t.val / 8, 0, 0]
    ∧ win0_6.index t = ![t.val / 8, 0, 0] ∧ win0_7.index t = ![3, 1, 0, 0] ∧ win0_8.index t = ![3, 1, 0, 0] ∧ win0_9.index t = ![t.val, 0]
    ∧ t.val / 8 < 2 :=
  (by decide +kernel : ∀ t : Fin grid0.N, _)

/-- The batch and the row of the array that row `p` of point `t`'s block is. -/
def bat (t : Fin cfg0.N) : Fin 2 := ⟨t.val / 8, (idx t).2.2.2.2.2.2.2.2.2.2⟩
def row (t : Fin cfg0.N) (p : Fin 1024) : Fin 8192 := ⟨t.val % 8 * 1024 + p.val, by omega⟩

theorem x_at (c : Dev nD) (t : Fin cfg0.N) (p k : Fin 1024) :
    (iblk m c 0 t : Vec Ideal S1024x1024 .f32) (ix2 p k) = aX m c (ix3 (bat t) (row t p) k) := by
  blk_point [iblk, idx t, bat, row]
theorem a_at (c : Dev nD) (t : Fin cfg0.N) (p k : Fin 1024) :
    (iblk m c 1 t : Vec Ideal S1024x1024 .bf16) (ix2 p k) = aA m c (ix3 (bat t) (row t p) k) := by
  blk_point [iblk, idx t, bat, row]
theorem w_at (c : Dev nD) (t : Fin cfg0.N) (p k : Fin 1024) :
    (iblk m c 2 t : Vec Ideal S1024x1024 .bf16) (ix2 p k) = aW m c (ix2 p k) := by
  blk_point [iblk, idx t]
theorem gm_at (c : Dev nD) (t : Fin cfg0.N) (k : Fin 1024) :
    (iblk m c 3 t : Vec Ideal S1x1x1024 .f32) (ix3 0 0 k) = aGm m c (ix3 (bat t) 0 k) := by
  blk_ext [iblk, V, idx t, bat]
theorem sh_at (c : Dev nD) (t : Fin cfg0.N) (k : Fin 1024) :
    (iblk m c 4 t : Vec Ideal S1x1x1024 .f32) (ix3 0 0 k) = aSh m c (ix3 (bat t) 0 k) := by
  blk_ext [iblk, V, idx t, bat]
theorem sc_at (c : Dev nD) (t : Fin cfg0.N) (k : Fin 1024) :
    (iblk m c 5 t : Vec Ideal S1x1x1024 .f32) (ix3 0 0 k) = aSc m c (ix3 (bat t) 0 k) := by
  blk_ext [iblk, V, idx t, bat]
theorem g_at (c : Dev nD) (t : Fin cfg0.N) (k : Fin 1024) :
    (iblk m c 6 t : Vec Ideal S1x1x1024 .f32) (ix3 0 0 k) = aG m c (ix3 (bat t) 0 k) := by
  blk_ext [iblk, V, idx t, bat]
theorem wi_at (c : Dev nD) (t : Fin cfg0.N) (k : Fin 1024) (f : Fin 5632) :
    (iblk m c 7 t : Vec Ideal S1x1x1024x5632 .bf16) (ix4 0 0 k f) = aWi m c (ix4 3 1 k f) := by
  blk_point [iblk, idx t]
theorem wo_at (c : Dev nD) (t : Fin cfg0.N) (f : Fin 2816) (k : Fin 1024) :
    (iblk m c 8 t : Vec Ideal S1x1x2816x1024 .bf16) (ix4 0 0 f k) = aWo m c (ix4 3 1 f k) := by
  blk_point [iblk, idx t]

/-- One entry of the call's result, over the arguments. -/
def val (X : FVec Ideal S2x8192x1024 .f32) (A : FVec Ideal S2x8192x1024 .bf16) (W : FVec Ideal S1024x1024 .f32) (gm sh sc g : FVec Ideal S2x1x1024 .f32)
    (Wi : FVec Ideal S4x2x1024x5632 .f32) (Wo : FVec Ideal S4x2x2816x1024 .f32) (b : Fin 2) (r : Fin 8192) (j : Fin 1024) : EReal :=
  FfnRow.out (fun k => X (ix3 b r k) + gm (ix3 b 0 k) * ∑ l : Fin 1024, A (ix3 b r l) * W (ix2 l k)) (fun k => sh (ix3 b 0 k)) (fun k => sc (ix3 b 0 k))
    (fun k => g (ix3 b 0 k)) (fun k f => Wi (ix4 3 1 k f)) (fun f j => Wo (ix4 3 1 f j)) j

abbrev valM (c : Dev nD) : Fin 2 → Fin 8192 → Fin 1024 → EReal :=
  val (aX m c) (aA m c) (aW m c) (aGm m c) (aSh m c) (aSc m c) (aG m c) (aWi m c) (aWo m c)

/-- The accumulator after each of the eleven tiles of hidden units, over the blocks of one grid point. -/
def acc0 (H : FVec Ideal S1024x1024 .bf16) (I7 : Vec Ideal S1x1x1024x5632 .bf16) (I8 : Vec Ideal S1x1x2816x1024 .bf16) : FVec Ideal S1024x1024 .f32 :=
  k0_pay6 H (k0_pay5 (View.ld I7 (Rect.unit ![0, 0, 0, 0] ![1, 1, 1024, 256] inb_S1x1x1024x5632_S1x1x1024x256_0_0_0_0))) (View.ld I7 (Rect.unit ![0, 0, 0, 2816] ![1, 1, 1024, 256] inb_S1x1x1024x5632_S1x1x1024x256_0_0_0_2816)) (View.ld I8 (Rect.unit ![0, 0, 0, 0] ![1, 1, 256, 1024] inb_S1x1x2816x1024_S1x1x256x1024_0_0_0_0))
def acc1 (H : FVec Ideal S1024x1024 .bf16) (I7 : Vec Ideal S1x1x1024x5632 .bf16) (I8 : Vec Ideal S1x1x2816x1024 .bf16) : FVec Ideal S1024x1024 .f32 :=
  k0_pay10 (k0_pay7 H (View.ld I7 (Rect.unit ![0, 0, 0, 256] ![1, 1, 1024, 256] inb_S1x1x1024x5632_S1x1x1024x256_0_0_0_256))) (k0_pay8 H (View.ld I7 (Rect.unit ![0, 0, 0, 3072] ![1, 1, 1024, 256] inb_S1x1x1024x5632_S1x1x1024x256_0_0_0_3072))) (k0_pay9 H (View.ld I7 (Rect.unit ![0, 0, 0, 256] ![1, 1, 1024, 256] inb_S1x1x1024x5632_S1x1x1024x256_0_0_0_256))) (View.ld I8 (Rect.unit ![0, 0, 256, 0] ![1, 1, 256, 1024] inb_S1x1x2816x1024_S1x1x256x1024_0_0_256_0)) (acc0 H I7 I8)
def acc2 (H : FVec Ideal S1024x1024 .bf16) (I7 : Vec Ideal S1x1x1024x5632 .bf16) (I8 : Vec Ideal S1x1x2816x1024 .bf16) : FVec Ideal S1024x1024 .f32 :=
  k0_pay13 (k0_pay11 H (View.ld I7 (Rect.unit ![0, 0, 0, 512] ![1, 1, 1024, 256] inb_S1x1x1024x5632_S1x1x1024x256_0_0_0_512)) (View.ld I7 (Rect.unit ![0, 0, 0, 3328] ![1, 1, 1024, 256] inb_S1x1x1024x5632_S1x1x1024x256_0_0_0_3328))) (k0_pay12 (View.ld I8 (Rect.unit ![0, 0, 512, 0] ![1, 1, 256, 1024] inb_S1x1x2816x1024_S1x1x256x1024_0_0_512_0))) (constant S1024x1024 .f32 0#32) (acc1 H I7 I8)
def acc3 (H : FVec Ideal S1024x1024 .bf16) (I7 : Vec Ideal S1x1x1024x5632 .bf16) (I8 : Vec Ideal S1x1x2816x1024 .bf16) : FVec Ideal S1024x1024 .f32 :=
  k0_pay14 H (View.ld I7 (Rect.unit ![0, 0, 0, 768] ![1, 1, 1024, 256] inb_S1x1x1024x5632_S1x1x1024x256_0_0_0_768)) (View.ld I7 (Rect.unit ![0, 0, 0, 3584] ![1, 1, 1024, 256] inb_S1x1x1024x5632_S1x1x1024x256_0_0_0_3584)) (View.ld I8 (Rect.unit ![0, 0, 768, 0] ![1, 1, 256, 1024] inb_S1x1x2816x1024_S1x1x256x1024_0_0_768_0)) (acc2 H I7 I8)
def acc4 (H : FVec Ideal S1024x1024 .bf16) (I7 : Vec Ideal S1x1x1024x5632 .bf16) (I8 : Vec Ideal S1x1x2816x1024 .bf16) : FVec Ideal S1024x1024 .f32 :=
  k0_pay15 H (View.ld I7 (Rect.unit ![0, 0, 0, 1024] ![1, 1, 1024, 256] inb_S1x1x1024x5632_S1x1x1024x256_0_0_0_1024)) (View.ld I7 (Rect.unit ![0, 0, 0, 3840] ![1, 1, 1024, 256] inb_S1x1x1024x5632_S1x1x1024x256_0_0_0_3840)) (View.ld I8 (Rect.unit ![0, 0, 1024, 0] ![1, 1, 256, 1024] inb_S1x1x2816x1024_S1x1x256x1024_0_0_1024_0)) (acc3 H I7 I8)
def acc5 (H : FVec Ideal S1024x1024 .bf16) (I7 : Vec Ideal S1x1x1024x5632 .bf16) (I8 : Vec Ideal S1x1x2816x1024 .bf16) : FVec Ideal S1024x1024 .f32 :=
  k0_pay18 H (k0_pay16 H (View.ld I7 (Rect.unit ![0, 0, 0, 1280] ![1, 1, 1024, 256] inb_S1x1x1024x5632_S1x1x1024x256_0_0_0_1280))) (k0_pay17 (View.ld I7 (Rect.unit ![0, 0, 0, 4096] ![1, 1, 1024, 256] inb_S1x1x1024x5632_S1x1x1024x256_0_0_0_4096))) (constant S1024x256 .f32 0#32) (View.ld I8 (Rect.unit ![0, 0, 1280, 0] ![1, 1, 256, 1024] inb_S1x1x2816x1024_S1x1x256x1024_0_0_1280_0)) (acc4 H I7 I8)
def acc6 (H : FVec Ideal S1024x1024 .bf16) (I7 : Vec Ideal S1x1x1024x5632 .bf16) (I8 : Vec Ideal S1x1x2816x1024 .bf16) : FVec Ideal S1024x1024 .f32 :=
  k0_pay20 (k0_pay19 H (View.ld I7 (Rect.unit ![0, 0, 0, 1536] ![1, 1, 1024, 256] inb_S1x1x1024x5632_S1x1x1024x256_0_0_0_1536)) (View.ld I7 (Rect.unit ![0, 0, 0, 4352] ![1, 1, 1024, 256] inb_S1x1x1024x5632_S1x1x1024x256_0_0_0_4352))) (View.ld I8 (Rect.unit ![0, 0, 1536, 0] ![1, 1, 256, 1024] inb_S1x1x2816x1024_S1x1x256x1024_0_0_1536_0)) (acc5 H I7 I8)
def acc7 (H : FVec Ideal S1024x1024 .bf16) (I7 : Vec Ideal S1x1x1024x5632 .bf16) (I8 : Vec Ideal S1x1x2816x1024 .bf16) : FVec Ideal S1024x1024 .f32 :=
  k0_pay22 (k0_pay21 H (View.ld I7 (Rect.unit ![0, 0, 0, 1792] ![1, 1, 1024, 256] inb_S1x1x1024x5632_S1x1x1024x256_0_0_0_1792)) (View.ld I7 (Rect.unit ![0, 0, 0, 4608] ![1, 1, 1024, 256] inb_S1x1x1024x5632_S1x1x1024x256_0_0_0_4608)) (View.ld I8 (Rect.unit ![0, 0, 1792, 0] ![1, 1, 256, 1024] inb_S1x1x2816x1024_S1x1x256x1024_0_0_1792_0)) (acc6 H I7 I8))
def acc8 (H : FVec Ideal S1024x1024 .bf16) (I7 : Vec Ideal S1x1x1024x5632 .bf16) (I8 : Vec Ideal S1x1x2816x1024 .bf16) : FVec Ideal S1024x1024 .f32 :=
  k0_pay23 H (View.ld I7 (Rect.unit ![0, 0, 0, 2048] ![1, 1, 1024, 256] inb_S1x1x1024x5632_S1x1x1024x256_0_0_0_2048)) (View.ld I7 (Rect.unit ![0, 0, 0, 4864] ![1, 1, 1024, 256] inb_S1x1x1024x5632_S1x1x1024x256_0_0_0_4864)) (View.ld I8 (Rect.unit ![0, 0, 2048, 0] ![1, 1, 256, 1024] inb_S1x1x2816x1024_S1x1x256x1024_0_0_2048_0)) (acc7 H I7 I8)
def acc9 (H : FVec Ideal S1024x1024 .bf16) (I7 : Vec Ideal S1x1x1024x5632 .bf16) (I8 : Vec Ideal S1x1x2816x1024 .bf16) : FVec Ideal S1024x1024 .f32 :=
  k0_pay25 H (k0_pay24 (View.ld I7 (Rect.unit ![0, 0, 0, 2304] ![1, 1, 1024, 256] inb_S1x1x1024x5632_S1x1x1024x256_0_0_0_2304))) (constant S1024x256 .f32 0#32) (View.ld I7 (Rect.unit ![0, 0, 0, 5120] ![1, 1, 1024, 256] inb_S1x1x1024x5632_S1x1x1024x256_0_0_0_5120)) (View.ld I8 (Rect.unit ![0, 0, 2304, 0] ![1, 1, 256, 1024] inb_S1x1x2816x1024_S1x1x256x1024_0_0_2304_0)) (acc8 H I7 I8)
def acc10 (H : FVec Ideal S1024x1024 .bf16) (I7 : Vec Ideal S1x1x1024x5632 .bf16) (I8 : Vec Ideal S1x1x2816x1024 .bf16) : FVec Ideal S1024x1024 .f32 :=
  k0_pay1 (k0_pay26 H (View.ld I7 (Rect.unit ![0, 0, 0, 2560] ![1, 1, 1024, 256] inb_S1x1x1024x5632_S1x1x1024x256_0_0_0_2560))) (k0_pay27 H (View.ld I7 (Rect.unit ![0, 0, 0, 5376] ![1, 1, 1024, 256] inb_S1x1x1024x5632_S1x1x1024x256_0_0_0_5376))) (k0_pay28 H (View.ld I7 (Rect.unit ![0, 0, 0, 2560] ![1, 1, 1024, 256] inb_S1x1x1024x5632_S1x1x1024x256_0_0_0_2560))) (View.ld I8 (Rect.unit ![0, 0, 2560, 0] ![1, 1, 256, 1024] inb_S1x1x2816x1024_S1x1x256x1024_0_0_2560_0)) (acc9 H I7 I8)

/-- After the last tile the accumulator holds the whole output projection. -/
theorem acc_at (H : FVec Ideal S1024x1024 .bf16) (I7 : Vec Ideal S1x1x1024x5632 .bf16) (I8 : Vec Ideal S1x1x2816x1024 .bf16) (p j : Fin 1024) :
    acc10 H I7 I8 (ix2 p j) = ∑ f : Fin 2816, FfnRow.act (fun k => H (ix2 p k)) (fun k f => I7 (ix4 0 0 k f)) f * I8 (ix4 0 0 f j) := by
  refine Eq.trans ?_ (FfnRow.sum_parts (fun k => H (ix2 p k)) (fun k f => I7 (ix4 0 0 k f)) (fun f j => I8 (ix4 0 0 f j)) j).symm
  refine (tile10 _ _ _ _ _ _ _).trans ?_
  refine congrArg₂ (· + ·) ?_ (tile_ld I7 I8 H 2560 5376 (by decide) rfl _ _ _ p j)
  refine (tile9 _ _ _ _ _ _ _).trans ?_
  refine congrArg₂ (· + ·) ?_ (tile_ld I7 I8 H 2304 5120 (by decide) rfl _ _ _ p j)
  refine (tile8 _ _ _ _ _ _ _).trans ?_
  refine congrArg₂ (· + ·) ?_ (tile_ld I7 I8 H 2048 4864 (by decide) rfl _ _ _ p j)
  refine (tile7 _ _ _ _ _ _ _).trans ?_
  refine congrArg₂ (· + ·) ?_ (tile_ld I7 I8 H 1792 4608 (by decide) rfl _ _ _ p j)
  refine (tile6 _ _ _ _ _ _ _).trans ?_
  refine congrArg₂ (· + ·) ?_ (tile_ld I7 I8 H 1536 4352 (by decide) rfl _ _ _ p j)
  refine (tile5 _ _ _ _ _ _ _).trans ?_
  refine congrArg₂ (· + ·) ?_ (tile_ld I7 I8 H 1280 4096 (by decide) rfl _ _ _ p j)
  refine (tile4 _ _ _ _ _ _ _).trans ?_
  refine congrArg₂ (· + ·) ?_ (tile_ld I7 I8 H 1024 3840 (by decide) rfl _ _ _ p j)
  refine (tile3 _ _ _ _ _ _ _).trans ?_
  refine congrArg₂ (· + ·) ?_ (tile_ld I7 I8 H 768 3584 (by decide) rfl _ _ _ p j)
  refine (tile2 _ _ _ _ _ _ _).trans ?_
  refine congrArg₂ (· + ·) ?_ (tile_ld I7 I8 H 512 3328 (by decide) rfl _ _ _ p j)
  refine (tile1 _ _ _ _ _ _ _).trans ?_
  refine congrArg₂ (· + ·) ?_ (tile_ld I7 I8 H 256 3072 (by decide) rfl _ _ _ p j)
  refine (tile0 _ _ _ _ _ _).trans ?_
  exact tile_ld I7 I8 H 0 2816 (by decide) rfl _ _ _ p j

/-- The block a grid point writes, over the blocks it reads. -/
theorem write_at (I0 : Vec Ideal S1024x1024 .f32) (I1 I2 : Vec Ideal S1024x1024 .bf16) (I3 I4 I5 I6 : Vec Ideal S1x1x1024 .f32)
    (I7 : Vec Ideal S1x1x1024x5632 .bf16) (I8 : Vec Ideal S1x1x2816x1024 .bf16) (p j : Fin 1024) :
    (k0_pay2 (k0_pay3 I0 I3 I1 I2) I6 (acc10 (k0_pay4 I0 I3 I1 I2 I4 I5) I7 I8) : FVec Ideal S1024x1024 .f32) (ix2 p j)
      = FfnRow.out (resRow I0 I3 I1 I2 p) (fun k => I4 (ix3 0 0 k)) (fun k => I5 (ix3 0 0 k)) (fun k => I6 (ix3 0 0 k))
          (fun k f => I7 (ix4 0 0 k f)) (fun f k => I8 (ix4 0 0 f k)) j := by
  refine (add_at _ _ _ _ _).trans ?_
  rw [res_at, acc_at]
  simp only [hid_at]
  rfl

theorem out_eq {x x' sh sh' sc sc' g g' : Fin 1024 → EReal} {Wi Wi' : Fin 1024 → Fin 5632 → EReal} {Wo Wo' : Fin 2816 → Fin 1024 → EReal}
    (hx : x = x') (h1 : sh = sh') (h2 : sc = sc') (h3 : g = g') (h4 : Wi = Wi') (h5 : Wo = Wo') (j : Fin 1024) :
    FfnRow.out x sh sc g Wi Wo j = FfnRow.out x' sh' sc' g' Wi' Wo' j := by
  subst hx h1 h2 h3 h4 h5; rfl

theorem block_at (c : Dev nD) (t : Fin cfg0.N) (p j : Fin 1024) :
    ((dats m 0 c).after 9 t : Vec Ideal S1024x1024 .f32) (ix2 p j) = valM m c (bat t) (row t p) j := by
  rw [after0_9]
  unfold outsAt0
  frame_out
  refine (write_at (iblk m c 0 t) (iblk m c 1 t) (iblk m c 2 t) (iblk m c 3 t) (iblk m c 4 t) (iblk m c 5 t) (iblk m c 6 t) (iblk m c 7 t)
    (iblk m c 8 t) p j).trans ?_
  refine out_eq (funext fun k => ?_) (funext fun k => ?_) (funext fun k => ?_) (funext fun k => ?_) (funext fun k => funext fun f => ?_)
    (funext fun f => funext fun k => ?_) j
  · simp only [resRow, x_at, a_at, w_at, gm_at]
  · exact sh_at m c t k
  · exact sc_at m c t k
  · exact g_at m c t k
  · exact wi_at m c t k f
  · exact wo_at m c t f k

/-- The call's result as the whole array it leaves: rows numbered through both batches. -/
def outF (c : Dev nD) : FVec Ideal S16384x1024 .f32 :=
  fun i => valM m c ⟨(i 0).val / 8192, by idx_bounds; omega⟩ ⟨(i 0).val % 8192, by omega⟩ (i 1)

theorem final (c : Dev nD) : (dats m 0 c).arrAt 9 cfg0.N = outF m c := by
  refine (dats m 0 c).arrAt_eq_of_covers 9 _ (by decide +kernel) fun t _ y => ?_
  idx_vars y
  blk_simp
  refine (block_at m c t y0 y1).trans ?_
  have e : (((View.whole main_v5).slice ((win0 9).rect t)).emb (ix2 y0 y1) : S16384x1024.Idx) = ix2 ⟨t.val * 1024 + y0.val, by have := (idx t).2.2.2.2.2.2.2.2.2.2; omega⟩ y1 := by
    blk_ext [idx t]
  rw [e]
  have hb : bat t = ⟨(t.val * 1024 + y0.val) / 8192, by have := (idx t).2.2.2.2.2.2.2.2.2.2; omega⟩ := Fin.ext (by simp only [bat]; omega)
  have hr : row t y0 = ⟨(t.val * 1024 + y0.val) % 8192, by omega⟩ := Fin.ext (by simp only [row]; omega)
  rw [hb, hr]
  rfl

end Cert.FfnPreIdeal.Mix
end
-- ==== Proof.Ffn.PreRef.lean ====
module

public import proofs.«01_k».proof.Proof.Ffn.Pre
public import proofs.«01_k».proof.Proof.Gen.FfnPreRefIdeal.Run
public import proofs.«01_k».proof.Defs

@[expose] public section

set_option maxRecDepth 16384

noncomputable section

open Idealize.ShloMosaic Idealize.ShloMosaic.TcCoe Idealize.SL.Sem

namespace Cert.FfnPreIdeal.Mix

open Cert.FfnPreIdeal

section Stages
open Cert.FfnPreRefIdeal Cert.FfnPreRefIdeal.Gen
variable (X : FVec Ideal S2x8192x1024 .f32) (A : FVec Ideal S2x8192x1024 .bf16) (W : FVec Ideal S1024x1024 .f32) (gm sh sc g : FVec Ideal S2x1x1024 .f32)
    (Wi : FVec Ideal S4x2x1024x5632 .f32) (Wo : FVec Ideal S4x2x2816x1024 .f32)

/-- The residual stream after the mixer's projection is added. -/
def resV : FVec Ideal S2x8192x1024 .f32 :=
  addf X (mulf (broadcastInDim S2x8192x1024 ![0, 1, 2] bcast_S2x1x1024_S2x8192x1024_0_1_2 gm)
    (Host.dotGeneral dot_S2x8192x1024_S1024x1024_S2x8192x1024_2_0_01_1_n_n none (extf .f32 A bitsLt_bf16_f32) W))

/-- The normalised, scaled and shifted rows. -/
def hidV (Y : FVec Ideal S2x8192x1024 .f32) : FVec Ideal S2x8192x1024 .f32 :=
  addf (mulf (mulf Y (broadcastInDim S2x8192x1024 ![0, 1, 2] bcast_S2x8192x1_S2x8192x1024_0_1_2 (Host.rsqrt (addf (Host.divf
    (broadcastInDim S2x8192x1 ![0, 1] bcast_S2x8192_S2x8192x1_0_1 (Host.reduceAdd (mulf Y Y) (constant S_ .f32 0x00000000#32) reducesTo_S2x8192x1024_S2x8192_d2 h_S_))
    (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S2x1x1024_S2x8192x1024_0_1_2 (addf (broadcastInDim S2x1x1024 ![] bcast_S_S2x1x1024 (constant S_ .f32 0x3F800000#32)) sc)))
    (broadcastInDim S2x8192x1024 ![0, 1, 2] bcast_S2x1x1024_S2x8192x1024_0_1_2 sh)

/-- The input projection of a feed-forward layer. -/
def inV (H : FVec Ideal S2x8192x1024 .f32) : FVec Ideal S2x8192x5632 .f32 :=
  Host.dotGeneral dot_S2x8192x1024_S1024x5632_S2x8192x5632_2_0_01_1_n_n none H
    (shapeCast _ (extractStridedSlice S1x1x1024x5632 ![3, 1, 0, 0] Wi slices_S4x2x1024x5632_S1x1x1024x5632_3_1_0_0) shapeCasts_S1x1x1024x5632_S1024x5632)

/-- The gated activation. -/
def gluV (U : FVec Ideal S2x8192x5632 .f32) : FVec Ideal S2x8192x2816 .f32 :=
  mulf (mulf (extractStridedSlice S2x8192x2816 ![0, 0, 0] U slices_S2x8192x5632_S2x8192x2816_0_0_0)
    (Host.divf (broadcastInDim S2x8192x2816 ![] bcast_S_S2x8192x2816 (constant S_ .f32 0x3F800000#32))
      (addf (broadcastInDim S2x8192x2816 ![] bcast_S_S2x8192x2816 (constant S_ .f32 0x3F800000#32))
        (Host.exp (Host.negf (extractStridedSlice S2x8192x2816 ![0, 0, 0] U slices_S2x8192x5632_S2x8192x2816_0_0_0))))))
    (extractStridedSlice S2x8192x2816 ![0, 0, 2816] U slices_S2x8192x5632_S2x8192x2816_0_0_2816)

/-- The gated output projection on top of the residual stream. -/
def outV (Y : FVec Ideal S2x8192x1024 .f32) (G : FVec Ideal S2x8192x2816 .f32) : FVec Ideal S2x8192x1024 .f32 :=
  addf Y (mulf (broadcastInDim S2x8192x1024 ![0, 1, 2] bcast_S2x1x1024_S2x8192x1024_0_1_2 (mulf (broadcastInDim S2x1x1024 ![] bcast_S_S2x1x1024 (constant S_ .f32 0x3F000000#32)) g))
    (Host.dotGeneral dot_S2x8192x2816_S2816x1024_S2x8192x1024_2_0_01_1_n_n none G
      (shapeCast _ (extractStridedSlice S1x1x2816x1024 ![3, 1, 0, 0] Wo slices_S4x2x2816x1024_S1x1x2816x1024_3_1_0_0) shapeCasts_S1x1x2816x1024_S2816x1024)))

theorem resV_at (b : Fin 2) (r : Fin 8192) (k : Fin 1024) :
    resV X A W gm (ix3 b r k) = X (ix3 b r k) + gm (ix3 b 0 k) * ∑ l : Fin 1024, A (ix3 b r l) * W (ix2 l k) := by
  pointwise [resV]

theorem hidV_at (Y : FVec Ideal S2x8192x1024 .f32) (b : Fin 2) (r : Fin 8192) (k : Fin 1024) :
    hidV sh sc Y (ix3 b r k) = FfnRow.hid (fun k => Y (ix3 b r k)) (fun k => sh (ix3 b 0 k)) (fun k => sc (ix3 b 0 k)) k := by
  pointwise [hidV, FfnRow.hid]

theorem inV_at (H : FVec Ideal S2x8192x1024 .f32) (b : Fin 2) (r : Fin 8192) (f : Fin 5632) :
    inV Wi H (ix3 b r f) = ∑ k : Fin 1024, H (ix3 b r k) * Wi (ix4 3 1 k f) := by
  pointwise [inV]

theorem gluV_at (U : FVec Ideal S2x8192x5632 .f32) (b : Fin 2) (r : Fin 8192) (f : Fin 2816) :
    gluV U (ix3 b r f) = FfnRow.glu (U (ix3 b r ⟨f.val, by omega⟩)) (U (ix3 b r ⟨2816 + f.val, by omega⟩)) := by
  pointwise [gluV, FfnRow.glu]

theorem outV_at (Y : FVec Ideal S2x8192x1024 .f32) (G : FVec Ideal S2x8192x2816 .f32) (b : Fin 2) (r : Fin 8192) (j : Fin 1024) :
    outV g Wo Y G (ix3 b r j) = Y (ix3 b r j) + Ideal.ofBits .f32 0x3F000000#32 * g (ix3 b 0 j) * ∑ f : Fin 2816, G (ix3 b r f) * Wo (ix4 3 1 f j) := by
  pointwise [outV]

/-- The reference's feed-forward layer, entry by entry. -/
theorem ffnV_at (Y : FVec Ideal S2x8192x1024 .f32) (b : Fin 2) (r : Fin 8192) (j : Fin 1024) :
    outV g Wo Y (gluV (inV Wi (hidV sh sc Y))) (ix3 b r j)
      = FfnRow.out (fun k => Y (ix3 b r k)) (fun k => sh (ix3 b 0 k)) (fun k => sc (ix3 b 0 k)) (fun k => g (ix3 b 0 k))
          (fun k f => Wi (ix4 3 1 k f)) (fun f j => Wo (ix4 3 1 f j)) j := by
  rw [outV_at]
  simp only [gluV_at, inV_at, hidV_at]
  rfl

theorem flat_at (Z : FVec Ideal S2x8192x1024 .f32) (i : S16384x1024.Idx) :
    (shapeCast _ Z shapeCasts_S2x8192x1024_S16384x1024 : FVec Ideal S16384x1024 .f32) i
      = Z (ix3 ⟨(i 0).val / 8192, by idx_bounds; omega⟩ ⟨(i 0).val % 8192, by omega⟩ (i 1)) := by
  idx_vars i
  pointwise []

/-- The reference's feed-forward layer on the projected rows, flattened. -/
theorem whole_at (i : S16384x1024.Idx) :
    (shapeCast _ (outV g Wo (resV X A W gm) (gluV (inV Wi (hidV sh sc (resV X A W gm))))) shapeCasts_S2x8192x1024_S16384x1024 : FVec Ideal S16384x1024 .f32) i
      = val X A W gm sh sc g Wi Wo ⟨(i 0).val / 8192, by idx_bounds; omega⟩ ⟨(i 0).val % 8192, by omega⟩ (i 1) := by
  refine (flat_at _ i).trans ((ffnV_at sh sc g Wi Wo _ _ _ _).trans ?_)
  simp only [resV_at]
  rfl
end Stages

/-- The reference's result, entry by entry. -/
theorem ref_at (m : (ℓ : Loc Cert.FfnPreRefIdeal.nD Cert.FfnPreRefIdeal.τ Cert.FfnPreRefIdeal.sig) → Buf (Elt Ideal) ℓ) (c : Dev Cert.FfnPreRefIdeal.nD)
    (i : S16384x1024.Idx) :
    (Cert.FfnPreRefIdeal.Value.res_main_v36 m c : FVec Ideal S16384x1024 .f32) i
      = val (m ((c.tc : Thread _ _).loc Cert.FfnPreRefIdeal.main_arg0)) (m ((c.tc : Thread _ _).loc Cert.FfnPreRefIdeal.main_arg1))
          (m ((c.tc : Thread _ _).loc Cert.FfnPreRefIdeal.main_arg2)) (m ((c.tc : Thread _ _).loc Cert.FfnPreRefIdeal.main_arg3))
          (m ((c.tc : Thread _ _).loc Cert.FfnPreRefIdeal.main_arg4)) (m ((c.tc : Thread _ _).loc Cert.FfnPreRefIdeal.main_arg5))
          (m ((c.tc : Thread _ _).loc Cert.FfnPreRefIdeal.main_arg6)) (m ((c.tc : Thread _ _).loc Cert.FfnPreRefIdeal.main_arg7))
          (m ((c.tc : Thread _ _).loc Cert.FfnPreRefIdeal.main_arg8)) ⟨(i 0).val / 8192, by idx_bounds; omega⟩ ⟨(i 0).val % 8192, by omega⟩ (i 1) := by
  exact whole_at _ _ _ _ _ _ _ _ _ i

/-- The reference runs to its end, leaves its arguments alone, and has no counter to leave raised. -/
theorem ref_frame : Cert.quiescent_FfnPreRefIdeal := fun m g _ =>
  (θ_run _ _ _).mono (fun r h => ⟨fun c => (h c).2, sem_eq_zero_of_no_sems (by decide) r.2⟩) (Cert.FfnPreRefIdeal.Value.run m g)

theorem algebraic : Cert.algebraic_FfnPreIdeal_FfnPreRefIdeal := by
  pair_intro
  · run_from Cert.FfnPreIdeal.Value.run_blocks m g
  · run_from Cert.FfnPreRefIdeal.Value.run m' g'
    rw [final]
    funext i
    refine (ref_at m' c i).trans ?_
    obtain ⟨h0, h1, h2, h3, h4, h5, h6, h7, h8⟩ := hagree c
    rw [h0, h1, h2, h3, h4, h5, h6, h7, h8]
    rfl

end Cert.FfnPreIdeal.Mix
end
-- ==== Proof.Ffn.Plain.lean ====
module

public import proofs.«01_k».proof.Proof.Ffn.Pre
public import proofs.«01_k».proof.Proof.Gen.FfnIdeal.Value

@[expose] public section

set_option maxRecDepth 16384

noncomputable section

open Idealize.ShloMosaic Idealize.ShloMosaic.TcCoe Idealize.SL.Sem
open Idealize.ShloMosaic.Pipeline (Dat)

namespace Cert.FfnIdeal.Mix

open Cert.FfnIdeal Cert.FfnIdeal.Gen Cert.FfnIdeal.Value

section Rows
variable (x : Vec Ideal S1024x1024 .f32) (sh sc g : Vec Ideal S1x1x1024 .f32) (acc : FVec Ideal S1024x1024 .f32) (p j : Fin 1024)

theorem hid_at : (k0_pay4 x sh sc : FVec Ideal S1024x1024 .bf16) (ix2 p j)
    = FfnRow.hid (fun k => x (ix2 p k)) (fun k => sh (ix3 0 0 k)) (fun k => sc (ix3 0 0 k)) j := by
  pointwise [k0_pay4, k0_pay3, FfnRow.hid]

theorem add_at : (k0_pay2 (k0_pay3 x) g acc : FVec Ideal S1024x1024 .f32) (ix2 p j)
    = x (ix2 p j) + Ideal.ofBits .f32 0x3F000000#32 * g (ix3 0 0 j) * acc (ix2 p j) := by
  pointwise [k0_pay2, k0_pay3]
end Rows

/-- The block a grid point writes, over the blocks it reads: the accumulator goes through the same eleven tiles as after a mixer. -/
theorem write_at (I0 : Vec Ideal S1024x1024 .f32) (I1 I2 I3 : Vec Ideal S1x1x1024 .f32)
    (I4 : Vec Ideal S1x1x1024x5632 .bf16) (I5 : Vec Ideal S1x1x2816x1024 .bf16) (p j : Fin 1024) :
    (k0_pay2 (k0_pay3 I0) I3 (Cert.FfnPreIdeal.Mix.acc10 (k0_pay4 I0 I1 I2) I4 I5) : FVec Ideal S1024x1024 .f32) (ix2 p j)
      = FfnRow.out (fun k => I0 (ix2 p k)) (fun k => I1 (ix3 0 0 k)) (fun k => I2 (ix3 0 0 k)) (fun k => I3 (ix3 0 0 k))
          (fun k f => I4 (ix4 0 0 k f)) (fun f k => I5 (ix4 0 0 f k)) j := by
  refine (add_at _ _ _ _ _).trans ?_
  rw [Cert.FfnPreIdeal.Mix.acc_at]
  simp only [hid_at]
  rfl

variable (m : (ℓ : Loc nD τ sig) → Buf (Elt Ideal) ℓ)

/-- The six arguments of the call, as arrays. -/
abbrev aX (c : Dev nD) : FVec Ideal S2x8192x1024 .f32 := m ((c : Thread nD τ).loc main_arg0)
abbrev aSh (c : Dev nD) : FVec Ideal S2x1x1024 .f32 := m ((c : Thread nD τ).loc main_arg1)
abbrev aSc (c : Dev nD) : FVec Ideal S2x1x1024 .f32 := m ((c : Thread nD τ).loc main_arg2)
abbrev aG (c : Dev nD) : FVec Ideal S2x1x1024 .f32 := m ((c : Thread nD τ).loc main_arg3)
abbrev aWi (c : Dev nD) : FVec Ideal S4x2x1024x5632 .f32 := m ((c : Thread nD τ).loc main_arg4)
abbrev aWo (c : Dev nD) : FVec Ideal S4x2x2816x1024 .f32 := m ((c : Thread nD τ).loc main_arg5)

/-- The block index of every window at every grid point. -/
theorem idx : ∀ t : Fin cfg0.N, win0_0.index t = ![t.val, 0]
    ∧ win0_1.index t = ![t.val / 8, 0, 0] ∧ win0_2.index t = ![t.val / 8, 0, 0] ∧ win0_3.index t = ![t.val / 8, 0, 0]
    ∧ win0_4.index t = ![0, 0, 0, 0] ∧ win0_5.index t = ![0, 0, 0, 0] ∧ win0_6.index t = ![t.val, 0] ∧ t.val / 8 < 2 :=
  (by decide +kernel : ∀ t : Fin grid0.N, _)

/-- The batch and the row of the array that row `p` of point `t`'s block is. -/
def bat (t : Fin cfg0.N) : Fin 2 := ⟨t.val / 8, (idx t).2.2.2.2.2.2.2⟩
def row (t : Fin cfg0.N) (p : Fin 1024) : Fin 8192 := ⟨t.val % 8 * 1024 + p.val, by omega⟩

theorem x_at (c : Dev nD) (t : Fin cfg0.N) (p k : Fin 1024) :
    (iblk m c 0 t : Vec Ideal S1024x1024 .f32) (ix2 p k) = aX m c (ix3 (bat t) (row t p) k) := by
  blk_point [iblk, idx t, bat, row]
theorem sh_at (c : Dev nD) (t : Fin cfg0.N) (k : Fin 1024) :
    (iblk m c 1 t : Vec Ideal S1x1x1024 .f32) (ix3 0 0 k) = aSh m c (ix3 (bat t) 0 k) := by
  blk_ext [iblk, V, idx t, bat]
theorem sc_at (c : Dev nD) (t : Fin cfg0.N) (k : Fin 1024) :
    (iblk m c 2 t : Vec Ideal S1x1x1024 .f32) (ix3 0 0 k) = aSc m c (ix3 (bat t) 0 k) := by
  blk_ext [iblk, V, idx t, bat]
theorem g_at (c : Dev nD) (t : Fin cfg0.N) (k : Fin 1024) :
    (iblk m c 3 t : Vec Ideal S1x1x1024 .f32) (ix3 0 0 k) = aG m c (ix3 (bat t) 0 k) := by
  blk_ext [iblk, V, idx t, bat]
theorem wi_at (c : Dev nD) (t : Fin cfg0.N) (k : Fin 1024) (f : Fin 5632) :
    (iblk m c 4 t : Vec Ideal S1x1x1024x5632 .bf16) (ix4 0 0 k f) = aWi m c (ix4 0 0 k f) := by
  blk_point [iblk, idx t]
theorem wo_at (c : Dev nD) (t : Fin cfg0.N) (f : Fin 2816) (k : Fin 1024) :
    (iblk m c 5 t : Vec Ideal S1x1x2816x1024 .bf16) (ix4 0 0 f k) = aWo m c (ix4 0 0 f k) := by
  blk_point [iblk, idx t]

/-- One entry of the call's result, over the arguments. -/
def val (X : FVec Ideal S2x8192x1024 .f32) (sh sc g : FVec Ideal S2x1x1024 .f32)
    (Wi : FVec Ideal S4x2x1024x5632 .f32) (Wo : FVec Ideal S4x2x2816x1024 .f32) (b : Fin 2) (r : Fin 8192) (j : Fin 1024) : EReal :=
  FfnRow.out (fun k => X (ix3 b r k)) (fun k => sh (ix3 b 0 k)) (fun k => sc (ix3 b 0 k))
    (fun k => g (ix3 b 0 k)) (fun k f => Wi (ix4 0 0 k f)) (fun f j => Wo (ix4 0 0 f j)) j

abbrev valM (c : Dev nD) : Fin 2 → Fin 8192 → Fin 1024 → EReal :=
  val (aX m c) (aSh m c) (aSc m c) (aG m c) (aWi m c) (aWo m c)

theorem block_at (c : Dev nD) (t : Fin cfg0.N) (p j : Fin 1024) :
    ((dats m 0 c).after 6 t : Vec Ideal S1024x1024 .f32) (ix2 p j) = valM m c (bat t) (row t p) j := by
  rw [after0_6]
  unfold outsAt0
  frame_out
  refine (write_at (iblk m c 0 t) (iblk m c 1 t) (iblk m c 2 t) (iblk m c 3 t) (iblk m c 4 t) (iblk m c 5 t) p j).trans ?_
  refine Cert.FfnPreIdeal.Mix.out_eq (funext fun k => ?_) (funext fun k => ?_) (funext fun k => ?_) (funext fun k => ?_)
    (funext fun k => funext fun f => ?_) (funext fun f => funext fun k => ?_) j
  · exact x_at m c t p k
  · exact sh_at m c t k
  · exact sc_at m c t k
  · exact g_at m c t k
  · exact wi_at m c t k f
  · exact wo_at m c t f k

/-- The call's result as the whole array it leaves: rows numbered through both batches. -/
def outF (c : Dev nD) : FVec Ideal S16384x1024 .f32 :=
  fun i => valM m c ⟨(i 0).val / 8192, by idx_bounds; omega⟩ ⟨(i 0).val % 8192, by omega⟩ (i 1)

theorem final (c : Dev nD) : (dats m 0 c).arrAt 6 cfg0.N = outF m c := by
  refine (dats m 0 c).arrAt_eq_of_covers 6 _ (by decide +kernel) fun t _ y => ?_
  idx_vars y
  blk_simp
  refine (block_at m c t y0 y1).trans ?_
  have h2 := (idx t).2.2.2.2.2.2.2
  have e : (((View.whole main_v3).slice ((win0 6).rect t)).emb (ix2 y0 y1) : S16384x1024.Idx) = ix2 ⟨t.val * 1024 + y0.val, by omega⟩ y1 := by
    blk_ext [idx t]
  rw [e]
  have hb : bat t = ⟨(t.val * 1024 + y0.val) / 8192, by omega⟩ := Fin.ext (by simp only [bat]; omega)
  have hr : row t y0 = ⟨(t.val * 1024 + y0.val) % 8192, by omega⟩ := Fin.ext (by simp only [row]; omega)
  rw [hb, hr]
  rfl

end Cert.FfnIdeal.Mix
end
-- ==== Proof.Ffn.PlainRef.lean ====
module

public import proofs.«01_k».proof.Proof.Ffn.Plain
public import proofs.«01_k».proof.Proof.Ffn.PreRef
public import proofs.«01_k».proof.Proof.Gen.FfnRefIdeal.Run
public import proofs.«01_k».proof.Defs

@[expose] public section

set_option maxRecDepth 16384

noncomputable section

open Idealize.ShloMosaic Idealize.ShloMosaic.TcCoe Idealize.SL.Sem

namespace Cert.FfnIdeal.Mix

open Cert.FfnIdeal
open Cert.FfnPreIdeal.Mix (hidV gluV hidV_at gluV_at flat_at)

section Stages
open Cert.FfnRefIdeal Cert.FfnRefIdeal.Gen
variable (X : FVec Ideal S2x8192x1024 .f32) (sh sc g : FVec Ideal S2x1x1024 .f32)
    (Wi : FVec Ideal S4x2x1024x5632 .f32) (Wo : FVec Ideal S4x2x2816x1024 .f32)

/-- The input projection at the first layer's weights. -/
def inV (H : FVec Ideal S2x8192x1024 .f32) : FVec Ideal S2x8192x5632 .f32 :=
  Host.dotGeneral dot_S2x8192x1024_S1024x5632_S2x8192x5632_2_0_01_1_n_n none H
    (shapeCast _ (extractStridedSlice S1x1x1024x5632 ![0, 0, 0, 0] Wi slices_S4x2x1024x5632_S1x1x1024x5632_0_0_0_0) shapeCasts_S1x1x1024x5632_S1024x5632)

/-- The gated output projection at the first layer's weights, on top of the residual stream. -/
def outV (G : FVec Ideal S2x8192x2816 .f32) : FVec Ideal S2x8192x1024 .f32 :=
  addf X (mulf (broadcastInDim S2x8192x1024 ![0, 1, 2] bcast_S2x1x1024_S2x8192x1024_0_1_2 (mulf (broadcastInDim S2x1x1024 ![] bcast_S_S2x1x1024 (constant S_ .f32 0x3F000000#32)) g))
    (Host.dotGeneral dot_S2x8192x2816_S2816x1024_S2x8192x1024_2_0_01_1_n_n none G
      (shapeCast _ (extractStridedSlice S1x1x2816x1024 ![0, 0, 0, 0] Wo slices_S4x2x2816x1024_S1x1x2816x1024_0_0_0_0) shapeCasts_S1x1x2816x1024_S2816x1024)))

theorem inV_at (H : FVec Ideal S2x8192x1024 .f32) (b : Fin 2) (r : Fin 8192) (f : Fin 5632) :
    inV Wi H (ix3 b r f) = ∑ k : Fin 1024, H (ix3 b r k) * Wi (ix4 0 0 k f) := by
  pointwise [inV]

theorem outV_at (G : FVec Ideal S2x8192x2816 .f32) (b : Fin 2) (r : Fin 8192) (j : Fin 1024) :
    outV X g Wo G (ix3 b r j) = X (ix3 b r j) + Ideal.ofBits .f32 0x3F000000#32 * g (ix3 b 0 j) * ∑ f : Fin 2816, G (ix3 b r f) * Wo (ix4 0 0 f j) := by
  pointwise [outV]

/-- The reference's feed-forward layer, entry by entry. -/
theorem ffnV_at (b : Fin 2) (r : Fin 8192) (j : Fin 1024) :
    outV X g Wo (gluV (inV Wi (hidV sh sc X))) (ix3 b r j) = val X sh sc g Wi Wo b r j := by
  rw [outV_at]
  simp only [gluV_at, inV_at, hidV_at]
  rfl

/-- The same, flattened. -/
theorem whole_at (i : S16384x1024.Idx) :
    (shapeCast _ (outV X g Wo (gluV (inV Wi (hidV sh sc X)))) shapeCasts_S2x8192x1024_S16384x1024 : FVec Ideal S16384x1024 .f32) i
      = val X sh sc g Wi Wo ⟨(i 0).val / 8192, by idx_bounds; omega⟩ ⟨(i 0).val % 8192, by omega⟩ (i 1) :=
  (flat_at _ i).trans (ffnV_at X sh sc g Wi Wo _ _ _)
end Stages

/-- The reference's result, entry by entry. -/
theorem ref_at (m : (ℓ : Loc Cert.FfnRefIdeal.nD Cert.FfnRefIdeal.τ Cert.FfnRefIdeal.sig) → Buf (Elt Ideal) ℓ) (c : Dev Cert.FfnRefIdeal.nD)
    (i : S16384x1024.Idx) :
    (Cert.FfnRefIdeal.Value.res_out0 m c : FVec Ideal S16384x1024 .f32) i
      = val (m ((c.tc : Thread _ _).loc Cert.FfnRefIdeal.main_arg0)) (m ((c.tc : Thread _ _).loc Cert.FfnRefIdeal.main_arg1))
          (m ((c.tc : Thread _ _).loc Cert.FfnRefIdeal.main_arg2)) (m ((c.tc : Thread _ _).loc Cert.FfnRefIdeal.main_arg3))
          (m ((c.tc : Thread _ _).loc Cert.FfnRefIdeal.main_arg4)) (m ((c.tc : Thread _ _).loc Cert.FfnRefIdeal.main_arg5))
          ⟨(i 0).val / 8192, by idx_bounds; omega⟩ ⟨(i 0).val % 8192, by omega⟩ (i 1) := by
  exact whole_at _ _ _ _ _ _ i

/-- The reference runs to its end, leaves its arguments alone, and has no counter to leave raised. -/
theorem ref_frame : Cert.quiescent_FfnRefIdeal := fun m g _ =>
  (θ_run _ _ _).mono (fun r h => ⟨fun c => (h c).2, sem_eq_zero_of_no_sems (by decide) r.2⟩) (Cert.FfnRefIdeal.Value.run m g)

theorem algebraic : Cert.algebraic_FfnIdeal_FfnRefIdeal := by
  pair_intro
  · run_from Cert.FfnIdeal.Value.run_blocks m g
  · run_from Cert.FfnRefIdeal.Value.run m' g'
    rw [final]
    funext i
    refine (ref_at m' c i).trans ?_
    obtain ⟨h0, h1, h2, h3, h4, h5⟩ := hagree c
    rw [h0, h1, h2, h3, h4, h5]
    rfl

end Cert.FfnIdeal.Mix
end
-- ==== Proof.Sample.Conv.lean ====
module

public import proofs.«01_k».proof.Proof.Ffn.Spec
public import proofs.«01_k».proof.Proof.Gen.SConvIdeal.Value
public import proofs.«01_k».proof.Proof.Gen.SConvRefIdeal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SConvIdeal.Mix

open Cert.SConvIdeal Cert.SConvIdeal.Gen

section Spec
variable (X sh sc : FVec Ideal S32x1x1024 .f32) (W : FVec Ideal S1024x3072 .f32) (cw : FVec Ideal S3x1024 .f32) (P : FVec Ideal S32x2x1024 .f32)

/-- One entry of the input projection. -/
def proj (n : Fin 32) (j : Fin 3072) : EReal :=
  ∑ k : Fin 1024, FfnRow.hid (fun k => X (ix3 n 0 k)) (fun k => sh (ix3 n 0 k)) (fun k => sc (ix3 n 0 k)) k * W (ix2 k j)

/-- One entry of the convolution's new input row. -/
def zin (n : Fin 32) (j : Fin 1024) : EReal :=
  proj X sh sc W n ⟨1024 + j.val, by omega⟩ * proj X sh sc W n ⟨2048 + j.val, by omega⟩

/-- One entry of the gated convolution: the two rows of the prefix, then the new one. -/
def mixed (n : Fin 32) (j : Fin 1024) : EReal :=
  proj X sh sc W n ⟨j.val, by omega⟩ * (cw (ix2 0 j) * P (ix3 n 0 j) + cw (ix2 1 j) * P (ix3 n 1 j) + cw (ix2 2 j) * zin X sh sc W n j)
end Spec

section Rows
variable (x : Vec Ideal S32x1024 .f32) (sh sc : Vec Ideal S1x32x1024 .f32) (w w' : Vec Ideal S1024x1024 .bf16) (p : Fin 32) (j : Fin 1024)

/-- A projection of a row of the block. -/
def dotRow : EReal :=
  ∑ k : Fin 1024, FfnRow.hid (fun k => x (ix2 p k)) (fun k => sh (ix3 0 p k)) (fun k => sc (ix3 0 p k)) k * w (ix2 k j)

theorem gate_at : (k0_pay3 x sh sc w : FVec Ideal S32x1024 .f32) (ix2 p j) = dotRow x sh sc w p j := by
  pointwise [k0_pay3, k0_pay2, dotRow, FfnRow.hid]

theorem z_at : (k0_pay4 x sh sc w w' : FVec Ideal S32x1024 .f32) (ix2 p j) = dotRow x sh sc w p j * dotRow x sh sc w' p j := by
  pointwise [k0_pay4, k0_pay2, dotRow, FfnRow.hid]

theorem mix_at (g z p0 p1 : Vec Ideal S32x1024 .f32) (c0 c1 c2 : Vec Ideal S1x1024 .f32) :
    (k0_pay1 g z (k0_pay5 c0) p0 c1 p1 c2 : FVec Ideal S32x1024 .bf16) (ix2 p j)
      = g (ix2 p j) * (c0 (ix2 0 j) * p0 (ix2 p j) + c1 (ix2 0 j) * p1 (ix2 p j) + c2 (ix2 0 j) * z (ix2 p j)) := by
  pointwise [k0_pay1, k0_pay5]
end Rows

/-- What a column block of the weights, read at an offset, holds. -/
theorem wld_at (x : Vec Ideal S1024x3072 .bf16) (o : ℕ) (ho : o + 1024 ≤ 3072) (inb) (k j : Fin 1024) :
    (View.ld x (Rect.unit ![0, o] ![1024, 1024] inb) : Vec Ideal S1024x1024 .bf16) (ix2 k j) = x (ix2 k ⟨o + j.val, by omega⟩) := by
  refine congrArg x ?_
  blk_ext
  all_goals simp [ix2]

/-- A row of an eight-row array, read at an offset. -/
theorem rld_at (x : Vec Ideal S8x1024 .f32) (o : ℕ) (ho : o < 8) (inb) (j : Fin 1024) :
    (View.ld x (Rect.unit ![o, 0] ![1, 1024] inb) : Vec Ideal S1x1024 .f32) (ix2 0 j) = x (ix2 ⟨o, ho⟩ j) := by
  refine congrArg x ?_
  blk_ext
  all_goals simp [ix2]

variable (m : (ℓ : Loc nD τ sig) → Buf (Elt Ideal) ℓ)

/-- The six arguments of the call, as arrays. -/
abbrev aX (c : Dev nD) : FVec Ideal S32x1x1024 .f32 := m ((c : Thread nD τ).loc main_arg0)
abbrev aSh (c : Dev nD) : FVec Ideal S32x1x1024 .f32 := m ((c : Thread nD τ).loc main_arg1)
abbrev aSc (c : Dev nD) : FVec Ideal S32x1x1024 .f32 := m ((c : Thread nD τ).loc main_arg2)
abbrev aW (c : Dev nD) : FVec Ideal S1024x3072 .f32 := m ((c : Thread nD τ).loc main_arg3)
abbrev aCw (c : Dev nD) : FVec Ideal S3x1024 .f32 := m ((c : Thread nD τ).loc main_arg4)
abbrev aP (c : Dev nD) : FVec Ideal S32x2x1024 .f32 := m ((c : Thread nD τ).loc main_arg5)

/-- The block index of every window at the one grid point. -/
theorem idx : ∀ t : Fin cfg0.N, win0_0.index t = ![0, 0] ∧ win0_1.index t = ![0, 0, 0] ∧ win0_2.index t = ![0, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, _)

/-- The operands the host reshapes, as the call takes them. -/
theorem x_entry (c : Dev nD) : (V m c main_v0 : Vec Ideal S32x1024 .f32) = shapeCast _ (aX m c) shapeCasts_S32x1x1024_S32x1024 := by
  show StableHlo.after [hostOps0, hostOps0_1, hostOps0_2].flatten (fun b => m (c, b)) (Proc.tc.devRef main_v0) = _
  simp only [List.flatten_cons, List.flatten_nil, List.append_nil, List.cons_append, List.nil_append, hostOps0, hostOps0_1, hostOps0_2]
  after_results_simp
  all_goals rfl
theorem sh_entry (c : Dev nD) : (V m c main_v1 : Vec Ideal S1x32x1024 .f32) = shapeCast _ (aSh m c) shapeCasts_S32x1x1024_S1x32x1024 := by
  show StableHlo.after [hostOps0, hostOps0_1, hostOps0_2].flatten (fun b => m (c, b)) (Proc.tc.devRef main_v1) = _
  simp only [List.flatten_cons, List.flatten_nil, List.append_nil, List.cons_append, List.nil_append, hostOps0, hostOps0_1, hostOps0_2]
  after_results_simp
  all_goals rfl
theorem sc_entry (c : Dev nD) : (V m c main_v2 : Vec Ideal S1x32x1024 .f32) = shapeCast _ (aSc m c) shapeCasts_S32x1x1024_S1x32x1024 := by
  show StableHlo.after [hostOps0, hostOps0_1, hostOps0_2].flatten (fun b => m (c, b)) (Proc.tc.devRef main_v2) = _
  simp only [List.flatten_cons, List.flatten_nil, List.append_nil, List.cons_append, List.nil_append, hostOps0, hostOps0_1, hostOps0_2]
  after_results_simp
  all_goals rfl
theorem p0_entry (c : Dev nD) : (V m c main_v6 : Vec Ideal S32x1024 .f32) = shapeCast _ (extractStridedSlice S32x1x1024 ![0, 0, 0] (aP m c) slices_S32x2x1024_S32x1x1024_0_0_0) shapeCasts_S32x1x1024_S32x1024 := by
  show StableHlo.after [hostOps0, hostOps0_1, hostOps0_2].flatten (fun b => m (c, b)) (Proc.tc.devRef main_v6) = _
  simp only [List.flatten_cons, List.flatten_nil, List.append_nil, List.cons_append, List.nil_append, hostOps0, hostOps0_1, hostOps0_2]
  after_results_simp
  all_goals rfl
theorem p1_entry (c : Dev nD) : (V m c main_v8 : Vec Ideal S32x1024 .f32) = shapeCast _ (extractStridedSlice S32x1x1024 ![0, 1, 0] (aP m c) slices_S32x2x1024_S32x1x1024_0_1_0) shapeCasts_S32x1x1024_S32x1024 := by
  show StableHlo.after [hostOps0, hostOps0_1, hostOps0_2].flatten (fun b => m (c, b)) (Proc.tc.devRef main_v8) = _
  simp only [List.flatten_cons, List.flatten_nil, List.append_nil, List.cons_append, List.nil_append, hostOps0, hostOps0_1, hostOps0_2]
  after_results_simp
  all_goals rfl

theorem x_at (c : Dev nD) (t : Fin cfg0.N) (p : Fin 32) (k : Fin 1024) :
    (iblk m c 0 t : Vec Ideal S32x1024 .f32) (ix2 p k) = aX m c (ix3 p 0 k) := by
  have e : (iblk m c 0 t : Vec Ideal S32x1024 .f32) (ix2 p k) = (V m c main_v0 : Vec Ideal S32x1024 .f32) (ix2 p k) := by
    blk_ext [iblk, idx t]
  rw [e, x_entry]
  pointwise!
theorem sh_at (c : Dev nD) (t : Fin cfg0.N) (p : Fin 32) (k : Fin 1024) :
    (iblk m c 1 t : Vec Ideal S1x32x1024 .f32) (ix3 0 p k) = aSh m c (ix3 p 0 k) := by
  have e : (iblk m c 1 t : Vec Ideal S1x32x1024 .f32) (ix3 0 p k) = (V m c main_v1 : Vec Ideal S1x32x1024 .f32) (ix3 0 p k) := by
    blk_ext [iblk, idx t]
  rw [e, sh_entry]
  pointwise!
theorem sc_at (c : Dev nD) (t : Fin cfg0.N) (p : Fin 32) (k : Fin 1024) :
    (iblk m c 2 t : Vec Ideal S1x32x1024 .f32) (ix3 0 p k) = aSc m c (ix3 p 0 k) := by
  have e : (iblk m c 2 t : Vec Ideal S1x32x1024 .f32) (ix3 0 p k) = (V m c main_v2 : Vec Ideal S1x32x1024 .f32) (ix3 0 p k) := by
    blk_ext [iblk, idx t]
  rw [e, sc_entry]
  pointwise!
theorem w_at (c : Dev nD) (t : Fin cfg0.N) (k : Fin 1024) (j : Fin 3072) :
    (iblk m c 3 t : Vec Ideal S1024x3072 .bf16) (ix2 k j) = aW m c (ix2 k j) := by
  blk_point [iblk, idx t]
theorem p0_at (c : Dev nD) (t : Fin cfg0.N) (p : Fin 32) (k : Fin 1024) :
    (iblk m c 5 t : Vec Ideal S32x1024 .f32) (ix2 p k) = aP m c (ix3 p 0 k) := by
  have e : (iblk m c 5 t : Vec Ideal S32x1024 .f32) (ix2 p k) = (V m c main_v6 : Vec Ideal S32x1024 .f32) (ix2 p k) := by
    blk_ext [iblk, idx t]
  rw [e, p0_entry]
  pointwise!
theorem p1_at (c : Dev nD) (t : Fin cfg0.N) (p : Fin 32) (k : Fin 1024) :
    (iblk m c 6 t : Vec Ideal S32x1024 .f32) (ix2 p k) = aP m c (ix3 p 1 k) := by
  have e : (iblk m c 6 t : Vec Ideal S32x1024 .f32) (ix2 p k) = (V m c main_v8 : Vec Ideal S32x1024 .f32) (ix2 p k) := by
    blk_ext [iblk, idx t]
  rw [e, p1_entry]
  pointwise!

/-- The convolution's weights as the host hands them to the call: eight rows, the last five zero. -/
theorem cw_entry (c : Dev nD) : (V m c main_v4 : Vec Ideal S8x1024 .f32)
    = pad S8x1024 ![0, 0] ![5, 0] ![0, 0] (aCw m c) (sitofp .f32 (constantI S_ 32 0#32)) pads_S3x1024_S8x1024_050_000 h_S_ := by
  show StableHlo.after [hostOps0, hostOps0_1, hostOps0_2].flatten (fun b => m (c, b)) (Proc.tc.devRef main_v4) = _
  simp only [List.flatten_cons, List.flatten_nil, List.append_nil, List.cons_append, List.nil_append, hostOps0, hostOps0_1, hostOps0_2]
  after_results_simp
  all_goals rfl

theorem cw_at (c : Dev nD) (t : Fin cfg0.N) (k : Fin 8) (h : k.val < 3) (j : Fin 1024) :
    (iblk m c 4 t : Vec Ideal S8x1024 .f32) (ix2 k j) = aCw m c (ix2 ⟨k.val, h⟩ j) := by
  have e : (iblk m c 4 t : Vec Ideal S8x1024 .f32) (ix2 k j) = (V m c main_v4 : Vec Ideal S8x1024 .f32) (ix2 k j) := by
    blk_ext [iblk, idx t]
  rw [e, cw_entry]
  pointwise!
  exact dif_pos h

/-- A row of the convolution's weights as the kernel reads it. -/
theorem cwld_at (c : Dev nD) (t : Fin cfg0.N) (o : ℕ) (ho : o < 3) (inb) (j : Fin 1024) :
    (View.ld (iblk m c 4 t : Vec Ideal S8x1024 .f32) (Rect.unit ![o, 0] ![1, 1024] inb) : Vec Ideal S1x1024 .f32) (ix2 0 j) = aCw m c (ix2 ⟨o, ho⟩ j) :=
  (rld_at _ o (by omega) inb j).trans (cw_at m c t ⟨o, by omega⟩ ho j)

/-- A projection of the block's rows, its weights the columns from `o` on, is the projection of the array's. -/
theorem dot_at (c : Dev nD) (t : Fin cfg0.N) (o : ℕ) (ho : o + 1024 ≤ 3072) (inb) (p : Fin 32) (j : Fin 1024) :
    dotRow (iblk m c 0 t) (iblk m c 1 t) (iblk m c 2 t) (View.ld (iblk m c 3 t : Vec Ideal S1024x3072 .bf16) (Rect.unit ![0, o] ![1024, 1024] inb)) p j
      = proj (aX m c) (aSh m c) (aSc m c) (aW m c) p ⟨o + j.val, by omega⟩ := by
  unfold dotRow proj
  simp only [x_at, sh_at, sc_at]
  exact Finset.sum_congr rfl fun k _ => by rw [wld_at _ o ho, w_at]

theorem new_at (c : Dev nD) (t : Fin cfg0.N) (p : Fin 32) (j : Fin 1024) :
    ((dats m 0 c).after 8 t : Vec Ideal S32x1024 .f32) (ix2 p j) = zin (aX m c) (aSh m c) (aSc m c) (aW m c) p j := by
  rw [after0_8]
  unfold out0_8 k0_pay6
  frame_out
  simp only [r0_3, r0_4]
  refine (z_at _ _ _ _ _ p j).trans ?_
  rw [dot_at m c t 1024 (by omega), dot_at m c t 2048 (by omega)]
  rfl

theorem block_at (c : Dev nD) (t : Fin cfg0.N) (p : Fin 32) (j : Fin 1024) :
    ((dats m 0 c).after 7 t : Vec Ideal S32x1024 .bf16) (ix2 p j)
      = mixed (aX m c) (aSh m c) (aSc m c) (aW m c) (aCw m c) (aP m c) p j := by
  rw [after0_7]
  unfold out0_7 k0_pay6
  frame_out
  simp only [r0_2, r0_3, r0_4, r0_5, r0_6, r0_7]
  refine (mix_at p j _ _ _ _ _ _ _).trans ?_
  have e0 : (⟨0 + j.val, by omega⟩ : Fin 3072) = ⟨j.val, by omega⟩ := Fin.ext (by simp)
  rw [gate_at, z_at, cwld_at m c t 0 (by decide), cwld_at m c t 1 (by decide), cwld_at m c t 2 (by decide), p0_at, p1_at,
    dot_at m c t 0 (by omega), dot_at m c t 1024 (by omega), dot_at m c t 2048 (by omega), e0]
  rfl

/-- The two arrays the call leaves. -/
def outA (c : Dev nD) : FVec Ideal S32x1024 .bf16 :=
  fun i => mixed (aX m c) (aSh m c) (aSc m c) (aW m c) (aCw m c) (aP m c) (i 0) (i 1)
def outZ (c : Dev nD) : FVec Ideal S32x1024 .f32 :=
  fun i => zin (aX m c) (aSh m c) (aSc m c) (aW m c) (i 0) (i 1)

theorem final7 (c : Dev nD) : (dats m 0 c).arrAt 7 cfg0.N = outA m c := by
  refine (dats m 0 c).arrAt_eq_of_covers 7 _ (by decide +kernel) fun t _ y => ?_
  idx_vars y
  blk_simp
  refine (block_at m c t y0 y1).trans ?_
  have e : (((View.whole main_v9_0).slice ((win0 7).rect t)).emb (ix2 y0 y1) : S32x1024.Idx) = ix2 y0 y1 := by
    blk_ext [idx t]
  rw [e]
  rfl

theorem final8 (c : Dev nD) : (dats m 0 c).arrAt 8 cfg0.N = outZ m c := by
  refine (dats m 0 c).arrAt_eq_of_covers 8 _ (by decide +kernel) fun t _ y => ?_
  idx_vars y
  blk_simp
  refine (new_at m c t y0 y1).trans ?_
  have e : (((View.whole main_v9_1).slice ((win0 8).rect t)).emb (ix2 y0 y1) : S32x1024.Idx) = ix2 y0 y1 := by
    blk_ext [idx t]
  rw [e]
  rfl

/-- The reference's gated convolution, entry by entry. -/
theorem ref0 (m : (ℓ : Loc Cert.SConvRefIdeal.nD Cert.SConvRefIdeal.τ Cert.SConvRefIdeal.sig) → Buf (Elt Ideal) ℓ) (c : Dev Cert.SConvRefIdeal.nD)
    (n : Fin 32) (j : Fin 1024) :
    (Cert.SConvRefIdeal.Value.res_out0 m c : FVec Ideal S32x1024 .bf16) (ix2 n j)
      = mixed (m ((c.tc : Thread _ _).loc Cert.SConvRefIdeal.main_arg0)) (m ((c.tc : Thread _ _).loc Cert.SConvRefIdeal.main_arg1))
          (m ((c.tc : Thread _ _).loc Cert.SConvRefIdeal.main_arg2)) (m ((c.tc : Thread _ _).loc Cert.SConvRefIdeal.main_arg3))
          (m ((c.tc : Thread _ _).loc Cert.SConvRefIdeal.main_arg4)) (m ((c.tc : Thread _ _).loc Cert.SConvRefIdeal.main_arg5)) n j := by
  pointwise [Cert.SConvRefIdeal.Value.res_main_v42, mixed, zin, proj, FfnRow.hid]

/-- The reference runs to its end, leaves its arguments alone, and has no counter to leave raised. -/
theorem ref_frame : Cert.quiescent_SConvRefIdeal := fun m g _ =>
  (θ_run _ _ _).mono (fun r h => ⟨fun c => (h c).2.2, sem_eq_zero_of_no_sems (by decide) r.2⟩) (Cert.SConvRefIdeal.Value.run m g)

theorem algebraic : Cert.algebraic_SConvIdeal_SConvRefIdeal := by
  pair_intro
  · run_from Cert.SConvIdeal.Value.run_blocks m g
  · run_from Cert.SConvRefIdeal.Value.run m' g'
    · rw [final7]
      funext i
      idx_vars i
      refine (ref0 m' c _ _).trans ?_
      obtain ⟨h0, h1, h2, h3, h4, h5⟩ := hagree c
      rw [h0, h1, h2, h3, h4, h5]
      rfl
    · rw [final8]
      funext i
      idx_vars i
      show _ = zin (aX m c) (aSh m c) (aSc m c) (aW m c) _ _
      pointwise [zin, proj, FfnRow.hid]

end Cert.SConvIdeal.Mix
end
-- ==== Proof.Sample.Ffn.lean ====
module

public import proofs.«01_k».proof.Proof.Gen.SFfnPreIdeal.Value
public import proofs.«01_k».proof.Proof.Ffn.Pre

@[expose] public section

set_option maxRecDepth 16384

noncomputable section

open Idealize.ShloMosaic Idealize.ShloMosaic.TcCoe Idealize.SL.Sem
open Idealize.ShloMosaic.Pipeline (Dat)

namespace Cert.SFfnPreIdeal.Mix

open Cert.SFfnPreIdeal Cert.SFfnPreIdeal.Gen Cert.SFfnPreIdeal.Value

section Rows
variable (x : Vec Ideal S32x1024 .f32) (gm : Vec Ideal S1x32x1024 .f32) (a : Vec Ideal S32x1024 .bf16) (w : Vec Ideal S1024x1024 .bf16)
  (sh sc g : Vec Ideal S1x32x1024 .f32) (acc : Vec Ideal S32x1024 .f32) (p : Fin 32) (j : Fin 1024)

/-- A row of the residual stream once the mixer's output is projected, gated and added. -/
abbrev resRow (k : Fin 1024) : EReal := x (ix2 p k) + gm (ix3 0 p k) * ∑ l : Fin 1024, a (ix2 p l) * w (ix2 l k)

theorem res_at : (k0_pay3 x gm a w : FVec Ideal S32x1024 .f32) (ix2 p j) = resRow x gm a w p j := by
  pointwise [k0_pay3, resRow]

theorem hid_at : (k0_pay4 x gm a w sh sc : FVec Ideal S32x1024 .bf16) (ix2 p j)
    = FfnRow.hid (resRow x gm a w p) (fun k => sh (ix3 0 p k)) (fun k => sc (ix3 0 p k)) j := by
  pointwise [k0_pay4, k0_pay3, FfnRow.hid, resRow]

theorem add_at (r : FVec Ideal S32x1024 .f32) : (k0_pay2 r g acc : FVec Ideal S32x1024 .f32) (ix2 p j)
    = r (ix2 p j) + Ideal.ofBits .f32 0x3F000000#32 * g (ix3 0 p j) * acc (ix2 p j) := by
  pointwise [k0_pay2]
end Rows

section Tiles
variable (H : FVec Ideal S32x1024 .bf16) (I7 : Vec Ideal S1x1x1024x5632 .bf16) (I8 : Vec Ideal S1x1x2816x1024 .bf16) (acc : Vec Ideal S32x1024 .f32)
  (p : Fin 32) (j : Fin 1024)

/-- The first tile of hidden units starts the accumulator. -/
theorem first_at (wa wb : Vec Ideal S1x1x1024x256 .bf16) (wo : Vec Ideal S1x1x256x1024 .bf16) :
    (k0_pay6 H (k0_pay7 H wa) wb wo : FVec Ideal S32x1024 .f32) (ix2 p j)
      = FfnRow.tile (fun k => H (ix2 p k)) (fun k x => wa (ix4 0 0 k x)) (fun k x => wb (ix4 0 0 k x)) (fun x j => wo (ix4 0 0 x j)) j := by
  pointwise [k0_pay6, k0_pay7, FfnRow.tile, FfnRow.glu]
  simp only [zero_sub]

/-- Every later tile adds to it. -/
theorem later_at (wa wb : Vec Ideal S1x1x1024x256 .bf16) (wo : Vec Ideal S1x1x256x1024 .bf16) :
    (k0_pay12 H wa wb wo acc : FVec Ideal S32x1024 .f32) (ix2 p j)
      = acc (ix2 p j) + FfnRow.tile (fun k => H (ix2 p k)) (fun k x => wa (ix4 0 0 k x)) (fun k x => wb (ix4 0 0 k x)) (fun x j => wo (ix4 0 0 x j)) j := by
  pointwise [k0_pay12, FfnRow.tile, FfnRow.glu]
  simp only [zero_sub]

theorem inI (o : ℕ) (ho : o + 256 ≤ 5632) : ∀ a, (![0, 0, 0, o] : Fin 4 → ℕ) a + S1x1x1024x256.size a ≤ S1x1x1024x5632.size a := by
  intro a; fin_cases a
  exacts [(by decide : 0 + 1 ≤ 1), (by decide : 0 + 1 ≤ 1), (by decide : 0 + 1024 ≤ 1024), ho]

theorem inO (o : ℕ) (ho : o + 256 ≤ 2816) : ∀ a, (![0, 0, o, 0] : Fin 4 → ℕ) a + S1x1x256x1024.size a ≤ S1x1x2816x1024.size a := by
  intro a; fin_cases a
  exacts [(by decide : 0 + 1 ≤ 1), (by decide : 0 + 1 ≤ 1), ho, (by decide : 0 + 1024 ≤ 1024)]

/-- The three tiles of the weights that hidden units `o` to `o + 255` use: the gate's, the value's, the output's. -/
def wGate (o : ℕ) (ho : o + 256 ≤ 2816) : Vec Ideal S1x1x1024x256 .bf16 :=
  View.ld I7 (Rect.unit ![0, 0, 0, o] ![1, 1, 1024, 256] (inI o (by omega)))
def wValue (o : ℕ) (ho : o + 256 ≤ 2816) : Vec Ideal S1x1x1024x256 .bf16 :=
  View.ld I7 (Rect.unit ![0, 0, 0, 2816 + o] ![1, 1, 1024, 256] (inI (2816 + o) (by omega)))
def wOut (o : ℕ) (ho : o + 256 ≤ 2816) : Vec Ideal S1x1x256x1024 .bf16 :=
  View.ld I8 (Rect.unit ![0, 0, o, 0] ![1, 1, 256, 1024] (inO o ho))

theorem part_eq (o : ℕ) (ho : o + 256 ≤ 2816) :
    FfnRow.tile (fun k => H (ix2 p k)) (fun k x => wGate I7 o ho (ix4 0 0 k x)) (fun k x => wValue I7 o ho (ix4 0 0 k x)) (fun x j => wOut I8 o ho (ix4 0 0 x j)) j
      = FfnRow.part (fun k => H (ix2 p k)) (fun k f => I7 (ix4 0 0 k f)) (fun f j => I8 (ix4 0 0 f j)) o ho j := by
  refine FfnRow.tile_eq_part _ _ _ _ _ _ o ho (fun k x => Cert.FfnPreIdeal.Mix.wi_ld I7 o (by omega) _ k x) (fun k x => ?_)
    (fun x j => Cert.FfnPreIdeal.Mix.wo_ld I8 o ho _ x j) j
  refine (Cert.FfnPreIdeal.Mix.wi_ld I7 (2816 + o) (by omega) _ k x).trans ?_
  exact congrArg (fun f => I7 (ix4 0 0 k f)) (Fin.ext (Nat.add_assoc _ _ _))

/-- One later tile, its weights read from the whole blocks. -/
def more (o : ℕ) (ho : o + 256 ≤ 2816) : FVec Ideal S32x1024 .f32 := k0_pay12 H (wGate I7 o ho) (wValue I7 o ho) (wOut I8 o ho) acc

theorem more_at (o : ℕ) (ho : o + 256 ≤ 2816) :
    more H I7 I8 acc o ho (ix2 p j)
      = acc (ix2 p j) + FfnRow.part (fun k => H (ix2 p k)) (fun k f => I7 (ix4 0 0 k f)) (fun f j => I8 (ix4 0 0 f j)) o ho j :=
  (later_at H acc p j _ _ _).trans (congrArg (acc (ix2 p j) + ·) (part_eq H I7 I8 p j o ho))

/-- The accumulator after all eleven tiles. -/
def total : FVec Ideal S32x1024 .f32 :=
  let s0 : FVec Ideal S32x1024 .f32 := k0_pay6 H (k0_pay7 H (wGate I7 0 (by decide))) (wValue I7 0 (by decide)) (wOut I8 0 (by decide))
  more H I7 I8 (more H I7 I8 (more H I7 I8 (more H I7 I8 (more H I7 I8 (more H I7 I8 (more H I7 I8 (more H I7 I8 (more H I7 I8 (more H I7 I8 s0
    256 (by decide)) 512 (by decide)) 768 (by decide)) 1024 (by decide)) 1280 (by decide)) 1536 (by decide)) 1792 (by decide)) 2048 (by decide))
    2304 (by decide)) 2560 (by decide)

theorem total_at : total H I7 I8 (ix2 p j)
    = ∑ f : Fin 2816, FfnRow.act (fun k => H (ix2 p k)) (fun k f => I7 (ix4 0 0 k f)) f * I8 (ix4 0 0 f j) := by
  refine Eq.trans ?_ (FfnRow.sum_parts (fun k => H (ix2 p k)) (fun k f => I7 (ix4 0 0 k f)) (fun f j => I8 (ix4 0 0 f j)) j).symm
  unfold total
  simp only [more_at]
  rw [first_at, part_eq]
end Tiles

/-- The block the one grid point writes, over the blocks it reads. -/
theorem write_at (I0 : Vec Ideal S32x1024 .f32) (I1 : Vec Ideal S32x1024 .bf16) (I2 : Vec Ideal S1024x1024 .bf16) (I3 I4 I5 I6 : Vec Ideal S1x32x1024 .f32)
    (I7 : Vec Ideal S1x1x1024x5632 .bf16) (I8 : Vec Ideal S1x1x2816x1024 .bf16) (p : Fin 32) (j : Fin 1024) :
    (k0_pay2 (k0_pay3 I0 I3 I1 I2) I6 (total (k0_pay4 I0 I3 I1 I2 I4 I5) I7 I8) : FVec Ideal S32x1024 .f32) (ix2 p j)
      = FfnRow.out (resRow I0 I3 I1 I2 p) (fun k => I4 (ix3 0 p k)) (fun k => I5 (ix3 0 p k)) (fun k => I6 (ix3 0 p k))
          (fun k f => I7 (ix4 0 0 k f)) (fun f k => I8 (ix4 0 0 f k)) j := by
  refine (add_at _ _ _ _ _).trans ?_
  rw [res_at, total_at]
  simp only [hid_at]
  rfl

variable (m : (ℓ : Loc nD τ sig) → Buf (Elt Ideal) ℓ)

/-- The nine arguments of the call, as arrays. -/
abbrev aX (c : Dev nD) : FVec Ideal S32x1x1024 .f32 := m ((c : Thread nD τ).loc main_arg0)
abbrev aA (c : Dev nD) : FVec Ideal S32x1024 .bf16 := m ((c : Thread nD τ).loc main_arg1)
abbrev aW (c : Dev nD) : FVec Ideal S1024x1024 .f32 := m ((c : Thread nD τ).loc main_arg2)
abbrev aGm (c : Dev nD) : FVec Ideal S32x1x1024 .f32 := m ((c : Thread nD τ).loc main_arg3)
abbrev aSh (c : Dev nD) : FVec Ideal S32x1x1024 .f32 := m ((c : Thread nD τ).loc main_arg4)
abbrev aSc (c : Dev nD) : FVec Ideal S32x1x1024 .f32 := m ((c : Thread nD τ).loc main_arg5)
abbrev aG (c : Dev nD) : FVec Ideal S32x1x1024 .f32 := m ((c : Thread nD τ).loc main_arg6)
abbrev aWi (c : Dev nD) : FVec Ideal S4x2x1024x5632 .f32 := m ((c : Thread nD τ).loc main_arg7)
abbrev aWo (c : Dev nD) : FVec Ideal S4x2x2816x1024 .f32 := m ((c : Thread nD τ).loc main_arg8)

/-- The block index of every window at the one grid point. -/
theorem idx : ∀ t : Fin cfg0.N, win0_0.index t = ![0, 0] ∧ win0_1.index t = ![0, 0] ∧ win0_2.index t = ![0, 0]
    ∧ win0_3.index t = ![0, 0, 0] ∧ win0_4.index t = ![0, 0, 0] ∧ win0_5.index t = ![0, 0, 0]
    ∧ win0_6.index t = ![0, 0, 0] ∧ win0_7.index t = ![3, 1, 0, 0] ∧ win0_8.index t = ![3, 1, 0, 0] ∧ win0_9.index t = ![0, 0] :=
  (by decide +kernel : ∀ t : Fin grid0.N, _)

theorem x_at (c : Dev nD) (t : Fin cfg0.N) (p : Fin 32) (k : Fin 1024) :
    (iblk m c 0 t : Vec Ideal S32x1024 .f32) (ix2 p k) = aX m c (ix3 p 0 k) := by
  blk_point [iblk, idx t]
theorem a_at (c : Dev nD) (t : Fin cfg0.N) (p : Fin 32) (k : Fin 1024) :
    (iblk m c 1 t : Vec Ideal S32x1024 .bf16) (ix2 p k) = aA m c (ix2 p k) := by
  blk_ext [iblk, V, idx t]
theorem w_at (c : Dev nD) (t : Fin cfg0.N) (p k : Fin 1024) :
    (iblk m c 2 t : Vec Ideal S1024x1024 .bf16) (ix2 p k) = aW m c (ix2 p k) := by
  blk_point [iblk, idx t]
theorem gm_at (c : Dev nD) (t : Fin cfg0.N) (p : Fin 32) (k : Fin 1024) :
    (iblk m c 3 t : Vec Ideal S1x32x1024 .f32) (ix3 0 p k) = aGm m c (ix3 p 0 k) := by
  blk_point [iblk, idx t]
theorem sh_at (c : Dev nD) (t : Fin cfg0.N) (p : Fin 32) (k : Fin 1024) :
    (iblk m c 4 t : Vec Ideal S1x32x1024 .f32) (ix3 0 p k) = aSh m c (ix3 p 0 k) := by
  blk_point [iblk, idx t]
theorem sc_at (c : Dev nD) (t : Fin cfg0.N) (p : Fin 32) (k : Fin 1024) :
    (iblk m c 5 t : Vec Ideal S1x32x1024 .f32) (ix3 0 p k) = aSc m c (ix3 p 0 k) := by
  blk_point [iblk, idx t]
theorem g_at (c : Dev nD) (t : Fin cfg0.N) (p : Fin 32) (k : Fin 1024) :
    (iblk m c 6 t : Vec Ideal S1x32x1024 .f32) (ix3 0 p k) = aG m c (ix3 p 0 k) := by
  blk_point [iblk, idx t]
theorem wi_at (c : Dev nD) (t : Fin cfg0.N) (k : Fin 1024) (f : Fin 5632) :
    (iblk m c 7 t : Vec Ideal S1x1x1024x5632 .bf16) (ix4 0 0 k f) = aWi m c (ix4 3 1 k f) := by
  blk_point [iblk, idx t]
theorem wo_at (c : Dev nD) (t : Fin cfg0.N) (f : Fin 2816) (k : Fin 1024) :
    (iblk m c 8 t : Vec Ideal S1x1x2816x1024 .bf16) (ix4 0 0 f k) = aWo m c (ix4 3 1 f k) := by
  blk_point [iblk, idx t]

/-- One entry of the call's result, over the arguments. -/
def val (X : FVec Ideal S32x1x1024 .f32) (A : FVec Ideal S32x1024 .bf16) (W : FVec Ideal S1024x1024 .f32) (gm sh sc g : FVec Ideal S32x1x1024 .f32)
    (Wi : FVec Ideal S4x2x1024x5632 .f32) (Wo : FVec Ideal S4x2x2816x1024 .f32) (n : Fin 32) (j : Fin 1024) : EReal :=
  FfnRow.out (fun k => X (ix3 n 0 k) + gm (ix3 n 0 k) * ∑ l : Fin 1024, A (ix2 n l) * W (ix2 l k)) (fun k => sh (ix3 n 0 k)) (fun k => sc (ix3 n 0 k))
    (fun k => g (ix3 n 0 k)) (fun k f => Wi (ix4 3 1 k f)) (fun f j => Wo (ix4 3 1 f j)) j

/-- The call's result as the whole array it leaves. -/
def outF (c : Dev nD) : FVec Ideal S32x1024 .f32 :=
  fun i => val (aX m c) (aA m c) (aW m c) (aGm m c) (aSh m c) (aSc m c) (aG m c) (aWi m c) (aWo m c) (i 0) (i 1)

theorem block_at (c : Dev nD) (t : Fin cfg0.N) (p : Fin 32) (j : Fin 1024) :
    ((dats m 0 c).after 9 t : Vec Ideal S32x1024 .f32) (ix2 p j) = outF m c (ix2 p j) := by
  show _ = val (aX m c) (aA m c) (aW m c) (aGm m c) (aSh m c) (aSc m c) (aG m c) (aWi m c) (aWo m c) p j
  rw [after0_9]
  unfold outsAt0
  frame_out
  refine (write_at (iblk m c 0 t) (iblk m c 1 t) (iblk m c 2 t) (iblk m c 3 t) (iblk m c 4 t) (iblk m c 5 t) (iblk m c 6 t) (iblk m c 7 t)
    (iblk m c 8 t) p j).trans ?_
  refine Cert.FfnPreIdeal.Mix.out_eq (funext fun k => ?_) (funext fun k => ?_) (funext fun k => ?_) (funext fun k => ?_) (funext fun k => funext fun f => ?_)
    (funext fun f => funext fun k => ?_) j
  · simp only [resRow, x_at, a_at, w_at, gm_at]
  · exact sh_at m c t p k
  · exact sc_at m c t p k
  · exact g_at m c t p k
  · exact wi_at m c t k f
  · exact wo_at m c t f k

theorem final (c : Dev nD) : (dats m 0 c).arrAt 9 cfg0.N = outF m c := by
  refine (dats m 0 c).arrAt_eq_of_covers 9 _ (by decide +kernel) fun t _ y => ?_
  idx_vars y
  blk_simp
  refine (block_at m c t y0 y1).trans ?_
  have e : (((View.whole main_v8).slice ((win0 9).rect t)).emb (ix2 y0 y1) : S32x1024.Idx) = ix2 y0 y1 := by
    blk_ext [idx t]
  rw [e]

end Cert.SFfnPreIdeal.Mix
end
-- ==== Proof.Sample.FfnRef.lean ====
module

public import proofs.«01_k».proof.Proof.Sample.Ffn
public import proofs.«01_k».proof.Proof.Gen.SFfnPreRefIdeal.Run
public import proofs.«01_k».proof.Defs

@[expose] public section

set_option maxRecDepth 16384

noncomputable section

open Idealize.ShloMosaic Idealize.ShloMosaic.TcCoe Idealize.SL.Sem

namespace Cert.SFfnPreIdeal.Mix

open Cert.SFfnPreIdeal

section Stages
open Cert.SFfnPreRefIdeal Cert.SFfnPreRefIdeal.Gen
variable (X : FVec Ideal S32x1x1024 .f32) (A : FVec Ideal S32x1024 .bf16) (W : FVec Ideal S1024x1024 .f32) (gm sh sc g : FVec Ideal S32x1x1024 .f32)
    (Wi : FVec Ideal S4x2x1024x5632 .f32) (Wo : FVec Ideal S4x2x2816x1024 .f32)

/-- The residual stream after the mixer's projection is added. -/
def resV : FVec Ideal S32x1x1024 .f32 :=
  addf X (mulf gm (Host.dotGeneral dot_S32x1x1024_S1024x1024_S32x1x1024_2_0_01_1_n_n none
    (extf .f32 (broadcastInDim S32x1x1024 ![0, 2] bcast_S32x1024_S32x1x1024_0_2 A) bitsLt_bf16_f32) W))

/-- The normalised, scaled and shifted rows. -/
def hidV (Y : FVec Ideal S32x1x1024 .f32) : FVec Ideal S32x1x1024 .f32 :=
  addf (mulf (mulf Y (broadcastInDim S32x1x1024 ![0, 1, 2] bcast_S32x1x1_S32x1x1024_0_1_2 (Host.rsqrt (addf (Host.divf
    (broadcastInDim S32x1x1 ![0, 1] bcast_S32x1_S32x1x1_0_1 (Host.reduceAdd (mulf Y Y) (constant S_ .f32 0x00000000#32) reducesTo_S32x1x1024_S32x1_d2 h_S_))
    (broadcastInDim S32x1x1 ![] bcast_S_S32x1x1 (constant S_ .f32 0x44800000#32))) (broadcastInDim S32x1x1 ![] bcast_S_S32x1x1 (constant S_ .f32 0x358637BD#32))))))
    (addf (broadcastInDim S32x1x1024 ![] bcast_S_S32x1x1024 (constant S_ .f32 0x3F800000#32)) sc)) sh

/-- The input projection of a feed-forward layer. -/
def inV (H : FVec Ideal S32x1x1024 .f32) : FVec Ideal S32x1x5632 .f32 :=
  Host.dotGeneral dot_S32x1x1024_S1024x5632_S32x1x5632_2_0_01_1_n_n none H
    (shapeCast _ (extractStridedSlice S1x1x1024x5632 ![3, 1, 0, 0] Wi slices_S4x2x1024x5632_S1x1x1024x5632_3_1_0_0) shapeCasts_S1x1x1024x5632_S1024x5632)

/-- The gated activation. -/
def gluV (U : FVec Ideal S32x1x5632 .f32) : FVec Ideal S32x1x2816 .f32 :=
  mulf (mulf (extractStridedSlice S32x1x2816 ![0, 0, 0] U slices_S32x1x5632_S32x1x2816_0_0_0)
    (Host.divf (broadcastInDim S32x1x2816 ![] bcast_S_S32x1x2816 (constant S_ .f32 0x3F800000#32))
      (addf (broadcastInDim S32x1x2816 ![] bcast_S_S32x1x2816 (constant S_ .f32 0x3F800000#32))
        (Host.exp (Host.negf (extractStridedSlice S32x1x2816 ![0, 0, 0] U slices_S32x1x5632_S32x1x2816_0_0_0))))))
    (extractStridedSlice S32x1x2816 ![0, 0, 2816] U slices_S32x1x5632_S32x1x2816_0_0_2816)

/-- The gated output projection on top of the residual stream. -/
def outV (Y : FVec Ideal S32x1x1024 .f32) (G : FVec Ideal S32x1x2816 .f32) : FVec Ideal S32x1x1024 .f32 :=
  addf Y (mulf (mulf (broadcastInDim S32x1x1024 ![] bcast_S_S32x1x1024 (constant S_ .f32 0x3F000000#32)) g)
    (Host.dotGeneral dot_S32x1x2816_S2816x1024_S32x1x1024_2_0_01_1_n_n none G
      (shapeCast _ (extractStridedSlice S1x1x2816x1024 ![3, 1, 0, 0] Wo slices_S4x2x2816x1024_S1x1x2816x1024_3_1_0_0) shapeCasts_S1x1x2816x1024_S2816x1024)))

theorem resV_at (n : Fin 32) (k : Fin 1024) :
    resV X A W gm (ix3 n 0 k) = X (ix3 n 0 k) + gm (ix3 n 0 k) * ∑ l : Fin 1024, A (ix2 n l) * W (ix2 l k) := by
  pointwise [resV]

theorem hidV_at (Y : FVec Ideal S32x1x1024 .f32) (n : Fin 32) (k : Fin 1024) :
    hidV sh sc Y (ix3 n 0 k) = FfnRow.hid (fun k => Y (ix3 n 0 k)) (fun k => sh (ix3 n 0 k)) (fun k => sc (ix3 n 0 k)) k := by
  pointwise [hidV, FfnRow.hid]

theorem inV_at (H : FVec Ideal S32x1x1024 .f32) (n : Fin 32) (f : Fin 5632) :
    inV Wi H (ix3 n 0 f) = ∑ k : Fin 1024, H (ix3 n 0 k) * Wi (ix4 3 1 k f) := by
  pointwise [inV]

theorem gluV_at (U : FVec Ideal S32x1x5632 .f32) (n : Fin 32) (f : Fin 2816) :
    gluV U (ix3 n 0 f) = FfnRow.glu (U (ix3 n 0 ⟨f.val, by omega⟩)) (U (ix3 n 0 ⟨2816 + f.val, by omega⟩)) := by
  pointwise [gluV, FfnRow.glu]

theorem outV_at (Y : FVec Ideal S32x1x1024 .f32) (G : FVec Ideal S32x1x2816 .f32) (n : Fin 32) (j : Fin 1024) :
    outV g Wo Y G (ix3 n 0 j) = Y (ix3 n 0 j) + Ideal.ofBits .f32 0x3F000000#32 * g (ix3 n 0 j) * ∑ f : Fin 2816, G (ix3 n 0 f) * Wo (ix4 3 1 f j) := by
  pointwise [outV]

theorem flat_at (Z : FVec Ideal S32x1x1024 .f32) (n : Fin 32) (j : Fin 1024) :
    (shapeCast _ Z shapeCasts_S32x1x1024_S32x1024 : FVec Ideal S32x1024 .f32) (ix2 n j) = Z (ix3 n 0 j) := by
  pointwise []

/-- The reference's feed-forward layer on the projected rows, entry by entry. -/
theorem whole_at (n : Fin 32) (j : Fin 1024) :
    (shapeCast _ (outV g Wo (resV X A W gm) (gluV (inV Wi (hidV sh sc (resV X A W gm))))) shapeCasts_S32x1x1024_S32x1024 : FVec Ideal S32x1024 .f32) (ix2 n j)
      = val X A W gm sh sc g Wi Wo n j := by
  refine (flat_at _ n j).trans ?_
  rw [outV_at]
  simp only [gluV_at, inV_at, hidV_at, resV_at]
  rfl
end Stages

/-- The reference's result, entry by entry. -/
theorem ref_at (m : (ℓ : Loc Cert.SFfnPreRefIdeal.nD Cert.SFfnPreRefIdeal.τ Cert.SFfnPreRefIdeal.sig) → Buf (Elt Ideal) ℓ) (c : Dev Cert.SFfnPreRefIdeal.nD)
    (n : Fin 32) (j : Fin 1024) :
    (Cert.SFfnPreRefIdeal.Value.res_out0 m c : FVec Ideal S32x1024 .f32) (ix2 n j)
      = val (m ((c.tc : Thread _ _).loc Cert.SFfnPreRefIdeal.main_arg0)) (m ((c.tc : Thread _ _).loc Cert.SFfnPreRefIdeal.main_arg1))
          (m ((c.tc : Thread _ _).loc Cert.SFfnPreRefIdeal.main_arg2)) (m ((c.tc : Thread _ _).loc Cert.SFfnPreRefIdeal.main_arg3))
          (m ((c.tc : Thread _ _).loc Cert.SFfnPreRefIdeal.main_arg4)) (m ((c.tc : Thread _ _).loc Cert.SFfnPreRefIdeal.main_arg5))
          (m ((c.tc : Thread _ _).loc Cert.SFfnPreRefIdeal.main_arg6)) (m ((c.tc : Thread _ _).loc Cert.SFfnPreRefIdeal.main_arg7))
          (m ((c.tc : Thread _ _).loc Cert.SFfnPreRefIdeal.main_arg8)) n j := by
  exact whole_at _ _ _ _ _ _ _ _ _ n j

/-- The reference runs to its end, leaves its arguments alone, and has no counter to leave raised. -/
theorem ref_frame : Cert.quiescent_SFfnPreRefIdeal := fun m g _ =>
  (θ_run _ _ _).mono (fun r h => ⟨fun c => (h c).2, sem_eq_zero_of_no_sems (by decide) r.2⟩) (Cert.SFfnPreRefIdeal.Value.run m g)

theorem algebraic : Cert.algebraic_SFfnPreIdeal_SFfnPreRefIdeal := by
  pair_intro
  · run_from Cert.SFfnPreIdeal.Value.run_blocks m g
  · run_from Cert.SFfnPreRefIdeal.Value.run m' g'
    rw [final]
    funext i
    idx_vars i
    refine (ref_at m' c _ _).trans ?_
    obtain ⟨h0, h1, h2, h3, h4, h5, h6, h7, h8⟩ := hagree c
    rw [h0, h1, h2, h3, h4, h5, h6, h7, h8]
    rfl

end Cert.SFfnPreIdeal.Mix
end
-- ==== Proof.Attn.Norm.lean ====
module

public import proofs.«01_k».proof.Proof.Ffn.Spec

@[expose] public section

noncomputable section

open Idealize.ShloMosaic

namespace Cert.AttnRow

/-- One entry of the input projection of a normalised row. -/
def dot (x sh sc : Fin 1024 → EReal) (W : Fin 1024 → Fin 2120 → EReal) (j : Fin 2120) : EReal :=
  ∑ k : Fin 1024, FfnRow.hid x sh sc k * W k j

/-- The mean of the squares of one head of 64 entries. -/
def headMean (y : Fin 64 → EReal) : EReal := Ideal.div (∑ d : Fin 64, y d * y d) (Ideal.ofBits .f32 0x42800000#32)

/-- An entry of a head after its root-mean-square normalisation and its gain. -/
def unit (y : Fin 64 → EReal) (u g : EReal) : EReal :=
  u * Ideal.rsqrt (headMean y + Ideal.ofBits .f32 0x358637BD#32) * g

/-- The matrix that averages over heads: a sixty-fourth where row and column lie in one head, zero elsewhere. -/
def avg (l j : ℕ) : EReal := if l / 64 = j / 64 then Ideal.ofBits .f32 0x3C800000#32 else Ideal.ofBits .f32 0x00000000#32

theorem ofBits_64 : Ideal.ofBits .f32 0x42800000#32 = ((64 : ℝ) : EReal) := by
  simp [Ideal.ofBits, Ideal.ieee, -EReal.coe_mul]; norm_num

theorem ofBits_64th : Ideal.ofBits .f32 0x3C800000#32 = (((64 : ℝ)⁻¹ : ℝ) : EReal) := by
  simp [Ideal.ofBits, Ideal.ieee, -EReal.coe_mul]; norm_num

/-- A nonnegative finite factor comes out of a sum. -/
theorem sum_mul {ι : Type} (s : Finset ι) (f : ι → EReal) (c : EReal) (h0 : 0 ≤ c) (ht : c ≠ ⊤) : ∑ d ∈ s, f d * c = (∑ d ∈ s, f d) * c := by
  classical
  refine Finset.induction_on s (by simp) fun a s ha ih => ?_
  rw [Finset.sum_insert ha, Finset.sum_insert ha, EReal.right_distrib_of_nonneg_of_ne_top h0 ht, ih]

theorem headMean_eq (y : Fin 64 → EReal) : ∑ d : Fin 64, y d * y d * Ideal.ofBits .f32 0x3C800000#32 = headMean y := by
  rw [ofBits_64th, sum_mul _ _ _ (EReal.coe_nonneg.2 (by norm_num)) (EReal.coe_ne_top _), headMean, ofBits_64, Ideal.div, if_neg (by norm_num)]
  rfl

/-- The averaging matrix, applied to the squares of a row of heads, gives at each column its own head's mean square. -/
theorem sum_avg (H : ℕ) (y : Fin (H * 64) → EReal) (j : Fin (H * 64)) :
    ∑ l : Fin (H * 64), y l * y l * avg l.val j.val = headMean fun d => y ⟨j.val / 64 * 64 + d.val, by omega⟩ := by
  have hj : j.val / 64 < H := by omega
  refine (Fin.sum_univ_tiles H 64 rfl fun l => y l * y l * avg l.val j.val).trans ?_
  refine (Finset.sum_eq_single (⟨j.val / 64, hj⟩ : Fin H) (fun h _ hne => ?_) fun hn => absurd (Finset.mem_univ _) hn).trans ?_
  · refine Finset.sum_eq_zero fun d _ => ?_
    have e : ¬ (h.val * 64 + d.val) / 64 = j.val / 64 := fun e => hne (Fin.ext (by show h.val = j.val / 64; omega))
    simp only [avg, if_neg e, Ideal.ofBits_zero_f32, mul_zero]
  · refine (Finset.sum_congr rfl fun d _ => ?_).trans (headMean_eq _)
    have e : (j.val / 64 * 64 + d.val) / 64 = j.val / 64 := by omega
    simp only [avg, if_pos e]

end Cert.AttnRow
end
-- ==== Proof.Attn.Sample.lean ====
module

public import proofs.«01_k».proof.Proof.Attn.Norm
public import proofs.«01_k».proof.Proof.Gen.SProjIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SProjIdeal.Mix

open Cert.SProjIdeal Cert.SProjIdeal.Gen

section Spec
variable (X sh sc : FVec Ideal S32x1x1024 .f32) (W : FVec Ideal S1024x2120 .f32) (g : FVec Ideal S64 .f32)

/-- One entry of the input projection of one sequence's row. -/
def proj (n : Fin 32) (j : Fin 2120) : EReal :=
  AttnRow.dot (fun k => X (ix3 n 0 k)) (fun k => sh (ix3 n 0 k)) (fun k => sc (ix3 n 0 k)) (fun k j => W (ix2 k j)) j

/-- One entry of the keys: the projection's columns from 1024 on, each head of 64 normalised and scaled by its gains. -/
def key (n : Fin 32) (j : Fin 256) : EReal :=
  AttnRow.unit (fun d => proj X sh sc W n ⟨1024 + (j.val / 64 * 64 + d.val), by omega⟩) (proj X sh sc W n ⟨1024 + j.val, by omega⟩)
    (g (ix1 ⟨j.val % 64, by omega⟩))
end Spec

section Rows
variable (h : FVec Ideal S32x1024 .bf16) (p : Fin 32)

theorem h_at (x : Vec Ideal S32x1024 .f32) (sh sc : Vec Ideal S1x32x1024 .f32) (k : Fin 1024) :
    (k0_pay6 x sh sc : FVec Ideal S32x1024 .bf16) (ix2 p k)
      = FfnRow.hid (fun k => x (ix2 p k)) (fun k => sh (ix3 0 p k)) (fun k => sc (ix3 0 p k)) k := by
  pointwise [k0_pay6, FfnRow.hid]

/-- A projection of a row onto 256 columns. -/
def dot256 (w : Vec Ideal S1024x256 .bf16) (j : Fin 256) : EReal := ∑ k : Fin 1024, h (ix2 p k) * w (ix2 k j)

theorem val_at (w : Vec Ideal S1024x256 .bf16) (j : Fin 256) : (k0_pay14 h w : FVec Ideal S32x256 .f32) (ix2 p j) = dot256 h p w j := by
  pointwise [k0_pay14, dot256]

theorem key_at (w : Vec Ideal S1024x256 .bf16) (G : Vec Ideal S256x256 .bf16) (g : Vec Ideal S1x256 .f32) (j : Fin 256) :
    (k0_pay13 h w G g : FVec Ideal S32x256 .f32) (ix2 p j)
      = dot256 h p w j * Ideal.rsqrt ((∑ l : Fin 256, dot256 h p w l * dot256 h p w l * G (ix2 l j)) + Ideal.ofBits .f32 0x358637BD#32) * g (ix2 0 j) := by
  pointwise [k0_pay13, dot256]

theorem ki_at (w : Vec Ideal S1024x128 .bf16) (j : Fin 64) :
    (k0_pay4 h w : FVec Ideal S32x64 .f32) (ix2 p j) = ∑ k : Fin 1024, h (ix2 p k) * w (ix2 k ⟨j.val, by omega⟩) := by
  pointwise [k0_pay4, k0_pay1]
end Rows

variable (m : (ℓ : Loc nD τ sig) → Buf (Elt Ideal) ℓ)

/-- The six arguments of the call, as arrays. -/
abbrev aX (c : Dev nD) : FVec Ideal S32x1x1024 .f32 := m ((c : Thread nD τ).loc main_arg0)
abbrev aSh (c : Dev nD) : FVec Ideal S32x1x1024 .f32 := m ((c : Thread nD τ).loc main_arg1)
abbrev aSc (c : Dev nD) : FVec Ideal S32x1x1024 .f32 := m ((c : Thread nD τ).loc main_arg2)
abbrev aW (c : Dev nD) : FVec Ideal S1024x2120 .f32 := m ((c : Thread nD τ).loc main_arg3)
abbrev aKg (c : Dev nD) : FVec Ideal S64 .f32 := m ((c : Thread nD τ).loc main_arg5)

/-- The block index of every window at the one grid point. -/
theorem idx : ∀ t : Fin cfg0.N, win0_0.index t = ![0, 0] ∧ win0_1.index t = ![0, 0, 0] ∧ win0_2.index t = ![0, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_12.index t = ![0, 0] ∧ win0_13.index t = ![0, 0] ∧ win0_15.index t = ![0, 0] :=
  (by decide +kernel : ∀ t : Fin grid0.N, _)

/-- The number of each column's head, as the host computes it: a division rounded towards minus infinity. -/
def headNo : IVec S256 32 :=
  select (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32))) (broadcastInDim S256 ![] bcast_S_S256 (constantI S_ 32 0#32))))
    (subi (Host.divsi (iotaInDim S256 32 0) (broadcastInDim S256 ![] bcast_S_S256 (constantI S_ 32 64#32))) (broadcastInDim S256 ![] bcast_S_S256 (constantI S_ 32 1#32)))
    (Host.divsi (iotaInDim S256 32 0) (broadcastInDim S256 ![] bcast_S_S256 (constantI S_ 32 64#32)))

theorem headNo_at : ∀ l : Fin 256, headNo (ix1 l) = BitVec.ofNat 32 (l.val / 64) := by decide +kernel

/-- The averaging matrix, as the host builds it. -/
def avgV : FVec Ideal S256x256 .bf16 :=
  truncf .bf16 (select (cmpi .eq (broadcastInDim S256x256 ![0, 1] bcast_S256x1_S256x256_0_1 (broadcastInDim S256x1 ![0] bcast_S256_S256x1_0 headNo))
      (broadcastInDim S256x256 ![0, 1] bcast_S1x256_S256x256_0_1 (broadcastInDim S1x256 ![1] bcast_S256_S1x256_1 headNo)))
    (broadcastInDim S256x256 ![] bcast_S_S256x256 (constant (F := Ideal) S_ .f32 0x3C800000#32)) (broadcastInDim S256x256 ![] bcast_S_S256x256 (constant S_ .f32 0x00000000#32))) bitsLt_bf16_f32

theorem avgV_at (l j : Fin 256) : avgV (ix2 l j) = AttnRow.avg l.val j.val := by
  pointwise! [avgV]
  rw [headNo_at, headNo_at]
  unfold AttnRow.avg
  by_cases e : l.val / 64 = j.val / 64
  · rw [e, if_pos rfl]
    simp [Scalar.select, IntOp.cmpi]
  · have ne : ¬ BitVec.ofNat 32 (l.val / 64) = BitVec.ofNat 32 (j.val / 64) := fun h => e (by
      have h' := congrArg BitVec.toNat h
      simp only [BitVec.toNat_ofNat] at h'
      omega)
    rw [if_neg e]
    simp [Scalar.select, IntOp.cmpi, beq_eq_false_iff_ne.2 ne]

theorem avg_entry (c : Dev nD) : (V m c main_v11 : Vec Ideal S256x256 .bf16) = avgV := by
  show StableHlo.after [hostOps0, hostOps0_1, hostOps0_2, hostOps0_3, hostOps0_4, hostOps0_5, hostOps0_6].flatten (fun b => m (c, b)) (Proc.tc.devRef main_v11) = _
  simp only [List.flatten_cons, List.flatten_nil, List.append_nil, List.cons_append, List.nil_append, hostOps0, hostOps0_1, hostOps0_2, hostOps0_3, hostOps0_4, hostOps0_5, hostOps0_6]
  after_results_simp
  all_goals rfl

theorem gain_entry (c : Dev nD) : (V m c main_v26 : Vec Ideal S1x256 .f32)
    = broadcastInDim S1x256 ![1] bcast_S256_S1x256_1 (shapeCast _ (broadcastInDim S4x64 ![0, 1] bcast_S1x64_S4x64_0_1 (shapeCast _ (aKg m c) shapeCasts_S64_S1x64)) shapeCasts_S4x64_S256) := by
  show StableHlo.after [hostOps0, hostOps0_1, hostOps0_2, hostOps0_3, hostOps0_4, hostOps0_5, hostOps0_6].flatten (fun b => m (c, b)) (Proc.tc.devRef main_v26) = _
  simp only [List.flatten_cons, List.flatten_nil, List.append_nil, List.cons_append, List.nil_append, hostOps0, hostOps0_1, hostOps0_2, hostOps0_3, hostOps0_4, hostOps0_5, hostOps0_6]
  after_results_simp
  all_goals rfl

theorem pad_entry (c : Dev nD) : (V m c main_v14 : Vec Ideal S1024x128 .bf16)
    = pad S1024x128 ![0, 0] ![0, 56] ![0, 0] (extractStridedSlice S1024x72 ![0, 2048] (truncf .bf16 (aW m c) bitsLt_bf16_f32) slices_S1024x2120_S1024x72_0_2048)
        (sitofp .bf16 (constantI S_ 32 0#32)) pads_S1024x72_S1024x128_000_0560 h_S_ := by
  show StableHlo.after [hostOps0, hostOps0_1, hostOps0_2, hostOps0_3, hostOps0_4, hostOps0_5, hostOps0_6].flatten (fun b => m (c, b)) (Proc.tc.devRef main_v14) = _
  simp only [List.flatten_cons, List.flatten_nil, List.append_nil, List.cons_append, List.nil_append, hostOps0, hostOps0_1, hostOps0_2, hostOps0_3, hostOps0_4, hostOps0_5, hostOps0_6]
  after_results_simp
  all_goals rfl

theorem wk_entry (c : Dev nD) : (V m c main_v16 : Vec Ideal S1024x256 .bf16)
    = extractStridedSlice S1024x256 ![0, 1024] (truncf .bf16 (aW m c) bitsLt_bf16_f32) slices_S1024x2120_S1024x256_0_1024 := by
  show StableHlo.after [hostOps0, hostOps0_1, hostOps0_2, hostOps0_3, hostOps0_4, hostOps0_5, hostOps0_6].flatten (fun b => m (c, b)) (Proc.tc.devRef main_v16) = _
  simp only [List.flatten_cons, List.flatten_nil, List.append_nil, List.cons_append, List.nil_append, hostOps0, hostOps0_1, hostOps0_2, hostOps0_3, hostOps0_4, hostOps0_5, hostOps0_6]
  after_results_simp
  all_goals rfl

theorem wv_entry (c : Dev nD) : (V m c main_v17 : Vec Ideal S1024x256 .bf16)
    = extractStridedSlice S1024x256 ![0, 1280] (truncf .bf16 (aW m c) bitsLt_bf16_f32) slices_S1024x2120_S1024x256_0_1280 := by
  show StableHlo.after [hostOps0, hostOps0_1, hostOps0_2, hostOps0_3, hostOps0_4, hostOps0_5, hostOps0_6].flatten (fun b => m (c, b)) (Proc.tc.devRef main_v17) = _
  simp only [List.flatten_cons, List.flatten_nil, List.append_nil, List.cons_append, List.nil_append, hostOps0, hostOps0_1, hostOps0_2, hostOps0_3, hostOps0_4, hostOps0_5, hostOps0_6]
  after_results_simp
  all_goals rfl

theorem x_entry (c : Dev nD) : (V m c main_v0 : Vec Ideal S32x1024 .f32) = shapeCast _ (aX m c) shapeCasts_S32x1x1024_S32x1024 := by
  show StableHlo.after [hostOps0, hostOps0_1, hostOps0_2, hostOps0_3, hostOps0_4, hostOps0_5, hostOps0_6].flatten (fun b => m (c, b)) (Proc.tc.devRef main_v0) = _
  simp only [List.flatten_cons, List.flatten_nil, List.append_nil, List.cons_append, List.nil_append, hostOps0, hostOps0_1, hostOps0_2, hostOps0_3, hostOps0_4, hostOps0_5, hostOps0_6]
  after_results_simp
  all_goals rfl
theorem sh_entry (c : Dev nD) : (V m c main_v1 : Vec Ideal S1x32x1024 .f32) = shapeCast _ (aSh m c) shapeCasts_S32x1x1024_S1x32x1024 := by
  show StableHlo.after [hostOps0, hostOps0_1, hostOps0_2, hostOps0_3, hostOps0_4, hostOps0_5, hostOps0_6].flatten (fun b => m (c, b)) (Proc.tc.devRef main_v1) = _
  simp only [List.flatten_cons, List.flatten_nil, List.append_nil, List.cons_append, List.nil_append, hostOps0, hostOps0_1, hostOps0_2, hostOps0_3, hostOps0_4, hostOps0_5, hostOps0_6]
  after_results_simp
  all_goals rfl
theorem sc_entry (c : Dev nD) : (V m c main_v2 : Vec Ideal S1x32x1024 .f32) = shapeCast _ (aSc m c) shapeCasts_S32x1x1024_S1x32x1024 := by
  show StableHlo.after [hostOps0, hostOps0_1, hostOps0_2, hostOps0_3, hostOps0_4, hostOps0_5, hostOps0_6].flatten (fun b => m (c, b)) (Proc.tc.devRef main_v2) = _
  simp only [List.flatten_cons, List.flatten_nil, List.append_nil, List.cons_append, List.nil_append, hostOps0, hostOps0_1, hostOps0_2, hostOps0_3, hostOps0_4, hostOps0_5, hostOps0_6]
  after_results_simp
  all_goals rfl

theorem x_at (c : Dev nD) (t : Fin cfg0.N) (p : Fin 32) (k : Fin 1024) :
    (iblk m c 0 t : Vec Ideal S32x1024 .f32) (ix2 p k) = aX m c (ix3 p 0 k) := by
  have e : (iblk m c 0 t : Vec Ideal S32x1024 .f32) (ix2 p k) = (V m c main_v0 : Vec Ideal S32x1024 .f32) (ix2 p k) := by
    blk_ext [iblk, idx t]
  rw [e, x_entry]
  pointwise!
theorem sh_at (c : Dev nD) (t : Fin cfg0.N) (p : Fin 32) (k : Fin 1024) :
    (iblk m c 1 t : Vec Ideal S1x32x1024 .f32) (ix3 0 p k) = aSh m c (ix3 p 0 k) := by
  have e : (iblk m c 1 t : Vec Ideal S1x32x1024 .f32) (ix3 0 p k) = (V m c main_v1 : Vec Ideal S1x32x1024 .f32) (ix3 0 p k) := by
    blk_ext [iblk, idx t]
  rw [e, sh_entry]
  pointwise!
theorem sc_at (c : Dev nD) (t : Fin cfg0.N) (p : Fin 32) (k : Fin 1024) :
    (iblk m c 2 t : Vec Ideal S1x32x1024 .f32) (ix3 0 p k) = aSc m c (ix3 p 0 k) := by
  have e : (iblk m c 2 t : Vec Ideal S1x32x1024 .f32) (ix3 0 p k) = (V m c main_v2 : Vec Ideal S1x32x1024 .f32) (ix3 0 p k) := by
    blk_ext [iblk, idx t]
  rw [e, sc_entry]
  pointwise!
theorem wk_at (c : Dev nD) (t : Fin cfg0.N) (k : Fin 1024) (j : Fin 256) :
    (iblk m c 4 t : Vec Ideal S1024x256 .bf16) (ix2 k j) = aW m c (ix2 k ⟨1024 + j.val, by omega⟩) := by
  have e : (iblk m c 4 t : Vec Ideal S1024x256 .bf16) (ix2 k j) = (V m c main_v16 : Vec Ideal S1024x256 .bf16) (ix2 k j) := by
    blk_ext [iblk, idx t]
  rw [e, wk_entry]
  pointwise!
theorem wv_at (c : Dev nD) (t : Fin cfg0.N) (k : Fin 1024) (j : Fin 256) :
    (iblk m c 5 t : Vec Ideal S1024x256 .bf16) (ix2 k j) = aW m c (ix2 k ⟨1280 + j.val, by omega⟩) := by
  have e : (iblk m c 5 t : Vec Ideal S1024x256 .bf16) (ix2 k j) = (V m c main_v17 : Vec Ideal S1024x256 .bf16) (ix2 k j) := by
    blk_ext [iblk, idx t]
  rw [e, wv_entry]
  pointwise!
theorem wki_at (c : Dev nD) (t : Fin cfg0.N) (k : Fin 1024) (j : Fin 64) :
    (iblk m c 7 t : Vec Ideal S1024x128 .bf16) (ix2 k ⟨j.val, by omega⟩) = aW m c (ix2 k ⟨2048 + j.val, by omega⟩) := by
  have e : (iblk m c 7 t : Vec Ideal S1024x128 .bf16) (ix2 k ⟨j.val, by omega⟩) = (V m c main_v14 : Vec Ideal S1024x128 .bf16) (ix2 k ⟨j.val, by omega⟩) := by
    blk_ext [iblk, idx t]
  rw [e, pad_entry]
  pointwise!
  exact dif_pos (by omega)
theorem g_at (c : Dev nD) (t : Fin cfg0.N) (j : Fin 256) :
    (iblk m c 9 t : Vec Ideal S1x256 .f32) (ix2 0 j) = aKg m c (ix1 ⟨j.val % 64, by omega⟩) := by
  have e : (iblk m c 9 t : Vec Ideal S1x256 .f32) (ix2 0 j) = (V m c main_v26 : Vec Ideal S1x256 .f32) (ix2 0 j) := by
    blk_ext [iblk, idx t]
  rw [e, gain_entry]
  pointwise!
theorem avg_at (c : Dev nD) (t : Fin cfg0.N) (l j : Fin 256) :
    (iblk m c 10 t : Vec Ideal S256x256 .bf16) (ix2 l j) = AttnRow.avg l.val j.val := by
  have e : (iblk m c 10 t : Vec Ideal S256x256 .bf16) (ix2 l j) = (V m c main_v11 : Vec Ideal S256x256 .bf16) (ix2 l j) := by
    blk_ext [iblk, idx t]
  rw [e, avg_entry, avgV_at]

/-- The block's normalised rows are the array's. -/
theorem hid_at (c : Dev nD) (t : Fin cfg0.N) (p : Fin 32) (k : Fin 1024) :
    (k0_pay6 (iblk m c 0 t) (iblk m c 1 t) (iblk m c 2 t) : FVec Ideal S32x1024 .bf16) (ix2 p k)
      = FfnRow.hid (fun k => aX m c (ix3 p 0 k)) (fun k => aSh m c (ix3 p 0 k)) (fun k => aSc m c (ix3 p 0 k)) k := by
  rw [h_at]
  simp only [x_at, sh_at, sc_at]

theorem dotk_at (c : Dev nD) (t : Fin cfg0.N) (p : Fin 32) (j : Fin 256) :
    dot256 (k0_pay6 (iblk m c 0 t) (iblk m c 1 t) (iblk m c 2 t)) p (iblk m c 4 t) j
      = proj (aX m c) (aSh m c) (aSc m c) (aW m c) p ⟨1024 + j.val, by omega⟩ := by
  unfold dot256
  simp only [hid_at, wk_at]
  rfl

theorem key_block (c : Dev nD) (t : Fin cfg0.N) (p : Fin 32) (j : Fin 256) :
    ((dats m 0 c).after 12 t : Vec Ideal S32x256 .f32) (ix2 p j) = key (aX m c) (aSh m c) (aSc m c) (aW m c) (aKg m c) p j := by
  rw [after0_12]
  unfold_out out0_12
  frame_out
  refine (key_at _ p (iblk m c 4 t) (iblk m c 10 t) (iblk m c 9 t) j).trans ?_
  simp only [dotk_at, avg_at, g_at]
  rw [AttnRow.sum_avg 4 (fun l => proj (aX m c) (aSh m c) (aSc m c) (aW m c) p ⟨1024 + l.val, by omega⟩) j]
  rfl

theorem val_block (c : Dev nD) (t : Fin cfg0.N) (p : Fin 32) (j : Fin 256) :
    ((dats m 0 c).after 13 t : Vec Ideal S32x256 .f32) (ix2 p j) = proj (aX m c) (aSh m c) (aSc m c) (aW m c) p ⟨1280 + j.val, by omega⟩ := by
  rw [after0_13]
  unfold_out out0_13
  frame_out
  refine (val_at _ p (iblk m c 5 t) j).trans ?_
  unfold dot256
  simp only [hid_at, wv_at]
  rfl

theorem ki_block (c : Dev nD) (t : Fin cfg0.N) (p : Fin 32) (j : Fin 64) :
    ((dats m 0 c).after 15 t : Vec Ideal S32x64 .f32) (ix2 p j) = proj (aX m c) (aSh m c) (aSc m c) (aW m c) p ⟨2048 + j.val, by omega⟩ := by
  rw [after0_15]
  unfold_out out0_15
  frame_out
  refine (ki_at _ p (iblk m c 7 t) j).trans ?_
  simp only [hid_at, wki_at]
  rfl

/-- The three arrays the call leaves. -/
def outK (c : Dev nD) : FVec Ideal S32x256 .f32 := fun i => key (aX m c) (aSh m c) (aSc m c) (aW m c) (aKg m c) (i 0) (i 1)
def outV (c : Dev nD) : FVec Ideal S32x256 .f32 :=
  fun i => proj (aX m c) (aSh m c) (aSc m c) (aW m c) (i 0) ⟨1280 + (i 1).val, by have := (i 1).isLt; simp at this; omega⟩
def outKi (c : Dev nD) : FVec Ideal S32x64 .f32 :=
  fun i => proj (aX m c) (aSh m c) (aSc m c) (aW m c) (i 0) ⟨2048 + (i 1).val, by have := (i 1).isLt; simp at this; omega⟩

theorem final12 (c : Dev nD) : (dats m 0 c).arrAt 12 cfg0.N = outK m c := by
  refine (dats m 0 c).arrAt_eq_of_covers 12 _ (by decide +kernel) fun t _ y => ?_
  idx_vars y
  blk_simp
  refine (key_block m c t y0 y1).trans ?_
  have e : (((View.whole main_v27_1).slice ((win0 12).rect t)).emb (ix2 y0 y1) : S32x256.Idx) = ix2 y0 y1 := by
    blk_ext [idx t]
  rw [e]
  rfl

theorem final13 (c : Dev nD) : (dats m 0 c).arrAt 13 cfg0.N = outV m c := by
  refine (dats m 0 c).arrAt_eq_of_covers 13 _ (by decide +kernel) fun t _ y => ?_
  idx_vars y
  blk_simp
  refine (val_block m c t y0 y1).trans ?_
  have e : (((View.whole main_v27_2).slice ((win0 13).rect t)).emb (ix2 y0 y1) : S32x256.Idx) = ix2 y0 y1 := by
    blk_ext [idx t]
  rw [e]
  rfl

theorem final15 (c : Dev nD) : (dats m 0 c).arrAt 15 cfg0.N = outKi m c := by
  refine (dats m 0 c).arrAt_eq_of_covers 15 _ (by decide +kernel) fun t _ y => ?_
  idx_vars y
  blk_simp
  refine (ki_block m c t y0 y1).trans ?_
  have e : (((View.whole main_v27_4).slice ((win0 15).rect t)).emb (ix2 y0 y1) : S32x64.Idx) = ix2 y0 y1 := by
    blk_ext [idx t]
  rw [e]
  rfl

end Cert.SProjIdeal.Mix
end
-- ==== Proof.Attn.Prompt.lean ====
module

public import proofs.«01_k».proof.Proof.Attn.Sample
public import proofs.«01_k».proof.Proof.Gen.ProjIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjIdeal.Mix

open Cert.ProjIdeal Cert.ProjIdeal.Gen

section Spec
variable (X : FVec Ideal S2x8192x1024 .f32) (sh sc : FVec Ideal S2x1x1024 .f32) (W : FVec Ideal S1024x2120 .f32) (g : FVec Ideal S64 .f32)

/-- One entry of the input projection of one row of a batch. -/
def proj (b : Fin 2) (r : Fin 8192) (j : Fin 2120) : EReal :=
  AttnRow.dot (fun k => X (ix3 b r k)) (fun k => sh (ix3 b 0 k)) (fun k => sc (ix3 b 0 k)) (fun k j => W (ix2 k j)) j

/-- One entry of the keys: the projection's columns from 1024 on, each head of 64 normalised and scaled by its gains. -/
def key (b : Fin 2) (r : Fin 8192) (j : Fin 256) : EReal :=
  AttnRow.unit (fun d => proj X sh sc W b r ⟨1024 + (j.val / 64 * 64 + d.val), by omega⟩) (proj X sh sc W b r ⟨1024 + j.val, by omega⟩)
    (g (ix1 ⟨j.val % 64, by omega⟩))
end Spec

section Rows
variable (h : FVec Ideal S256x1024 .bf16) (p : Fin 256)

theorem h_at (x : Vec Ideal S1x256x1024 .f32) (sh sc : Vec Ideal S1x1x1024 .f32) (k : Fin 1024) :
    (k0_pay6 x sh sc : FVec Ideal S256x1024 .bf16) (ix2 p k)
      = FfnRow.hid (fun k => x (ix3 0 p k)) (fun k => sh (ix3 0 0 k)) (fun k => sc (ix3 0 0 k)) k := by
  pointwise [k0_pay6, FfnRow.hid]

/-- A projection of a row onto 256 columns. -/
def dot256 (w : Vec Ideal S1024x256 .bf16) (j : Fin 256) : EReal := ∑ k : Fin 1024, h (ix2 p k) * w (ix2 k j)

theorem val_at (w : Vec Ideal S1024x256 .bf16) (j : Fin 256) : (k0_pay19 (k0_pay13 h w) : FVec Ideal S1x256x256 .f32) (ix3 0 p j) = dot256 h p w j := by
  pointwise [k0_pay19, k0_pay13, dot256]

theorem key_at (w : Vec Ideal S1024x256 .bf16) (G : Vec Ideal S256x256 .bf16) (g : Vec Ideal S1x256 .f32) (j : Fin 256) :
    (k0_pay17 (k0_pay12 h w G g) : FVec Ideal S1x256x256 .f32) (ix3 0 p j)
      = dot256 h p w j * Ideal.rsqrt ((∑ l : Fin 256, dot256 h p w l * dot256 h p w l * G (ix2 l j)) + Ideal.ofBits .f32 0x358637BD#32) * g (ix2 0 j) := by
  pointwise [k0_pay17, k0_pay12, dot256]

theorem ki_at (w : Vec Ideal S1024x128 .bf16) (j : Fin 64) :
    (k0_pay3 (k0_pay15 h w) : FVec Ideal S1x256x64 .f32) (ix3 0 p j) = ∑ k : Fin 1024, h (ix2 p k) * w (ix2 k ⟨j.val, by omega⟩) := by
  pointwise [k0_pay3, k0_pay2, k0_pay15]
end Rows

variable (m : (ℓ : Loc nD τ sig) → Buf (Elt Ideal) ℓ)

/-- The arguments of the call that its three results depend on, as arrays. -/
abbrev aX (c : Dev nD) : FVec Ideal S2x8192x1024 .f32 := m ((c : Thread nD τ).loc main_arg0)
abbrev aSh (c : Dev nD) : FVec Ideal S2x1x1024 .f32 := m ((c : Thread nD τ).loc main_arg1)
abbrev aSc (c : Dev nD) : FVec Ideal S2x1x1024 .f32 := m ((c : Thread nD τ).loc main_arg2)
abbrev aW (c : Dev nD) : FVec Ideal S1024x2120 .f32 := m ((c : Thread nD τ).loc main_arg3)
abbrev aKg (c : Dev nD) : FVec Ideal S64 .f32 := m ((c : Thread nD τ).loc main_arg5)

/-- The block index of every window at every grid point. -/
theorem idx : ∀ t : Fin cfg0.N, win0_0.index t = ![t.val / 32, t.val % 32, 0]
    ∧ win0_1.index t = ![t.val / 32, 0, 0] ∧ win0_2.index t = ![t.val / 32, 0, 0]
    ∧ win0_4.index t = ![0, 0] ∧ win0_5.index t = ![0, 0] ∧ win0_7.index t = ![0, 0] ∧ win0_9.index t = ![0, 0] ∧ win0_10.index t = ![0, 0]
    ∧ win0_12.index t = ![t.val / 32, t.val % 32, 0] ∧ win0_14.index t = ![t.val / 32, t.val % 32, 0] ∧ win0_17.index t = ![t.val / 32, t.val % 32, 0]
    ∧ t.val / 32 < 2 :=
  (by decide +kernel : ∀ t : Fin grid0.N, _)

/-- The batch and the row of the array that row `p` of point `t`'s block is. -/
def bat (t : Fin cfg0.N) : Fin 2 := ⟨t.val / 32, (idx t).2.2.2.2.2.2.2.2.2.2.2⟩
def row (t : Fin cfg0.N) (p : Fin 256) : Fin 8192 := ⟨t.val % 32 * 256 + p.val, by omega⟩

/-- The operands the host prepares, as the call takes them. -/
theorem x_entry (c : Dev nD) : (V m c main_arg0 : Vec Ideal S2x8192x1024 .f32) = aX m c := by
  show StableHlo.after [hostOps0, hostOps0_1, hostOps0_2, hostOps0_3, hostOps0_4, hostOps0_5, hostOps0_6].flatten (fun b => m (c, b)) (Proc.tc.devRef main_arg0) = _
  simp only [List.flatten_cons, List.flatten_nil, List.append_nil, List.cons_append, List.nil_append, hostOps0, hostOps0_1, hostOps0_2, hostOps0_3, hostOps0_4, hostOps0_5, hostOps0_6]
  after_results_simp
  all_goals rfl
theorem sh_entry (c : Dev nD) : (V m c main_arg1 : Vec Ideal S2x1x1024 .f32) = aSh m c := by
  show StableHlo.after [hostOps0, hostOps0_1, hostOps0_2, hostOps0_3, hostOps0_4, hostOps0_5, hostOps0_6].flatten (fun b => m (c, b)) (Proc.tc.devRef main_arg1) = _
  simp only [List.flatten_cons, List.flatten_nil, List.append_nil, List.cons_append, List.nil_append, hostOps0, hostOps0_1, hostOps0_2, hostOps0_3, hostOps0_4, hostOps0_5, hostOps0_6]
  after_results_simp
  all_goals rfl
theorem sc_entry (c : Dev nD) : (V m c main_arg2 : Vec Ideal S2x1x1024 .f32) = aSc m c := by
  show StableHlo.after [hostOps0, hostOps0_1, hostOps0_2, hostOps0_3, hostOps0_4, hostOps0_5, hostOps0_6].flatten (fun b => m (c, b)) (Proc.tc.devRef main_arg2) = _
  simp only [List.flatten_cons, List.flatten_nil, List.append_nil, List.cons_append, List.nil_append, hostOps0, hostOps0_1, hostOps0_2, hostOps0_3, hostOps0_4, hostOps0_5, hostOps0_6]
  after_results_simp
  all_goals rfl
theorem wk_entry (c : Dev nD) : (V m c main_v13 : Vec Ideal S1024x256 .bf16) = extractStridedSlice S1024x256 ![0, 1024] (truncf .bf16 (aW m c) bitsLt_bf16_f32) slices_S1024x2120_S1024x256_0_1024 := by
  show StableHlo.after [hostOps0, hostOps0_1, hostOps0_2, hostOps0_3, hostOps0_4, hostOps0_5, hostOps0_6].flatten (fun b => m (c, b)) (Proc.tc.devRef main_v13) = _
  simp only [List.flatten_cons, List.flatten_nil, List.append_nil, List.cons_append, List.nil_append, hostOps0, hostOps0_1, hostOps0_2, hostOps0_3, hostOps0_4, hostOps0_5, hostOps0_6]
  after_results_simp
  all_goals rfl
theorem wv_entry (c : Dev nD) : (V m c main_v14 : Vec Ideal S1024x256 .bf16) = extractStridedSlice S1024x256 ![0, 1280] (truncf .bf16 (aW m c) bitsLt_bf16_f32) slices_S1024x2120_S1024x256_0_1280 := by
  show StableHlo.after [hostOps0, hostOps0_1, hostOps0_2, hostOps0_3, hostOps0_4, hostOps0_5, hostOps0_6].flatten (fun b => m (c, b)) (Proc.tc.devRef main_v14) = _
  simp only [List.flatten_cons, List.flatten_nil, List.append_nil, List.cons_append, List.nil_append, hostOps0, hostOps0_1, hostOps0_2, hostOps0_3, hostOps0_4, hostOps0_5, hostOps0_6]
  after_results_simp
  all_goals rfl
theorem pad_entry (c : Dev nD) : (V m c main_v11 : Vec Ideal S1024x128 .bf16) = pad S1024x128 ![0, 0] ![0, 56] ![0, 0] (extractStridedSlice S1024x72 ![0, 2048] (truncf .bf16 (aW m c) bitsLt_bf16_f32) slices_S1024x2120_S1024x72_0_2048)
      (sitofp .bf16 (constantI S_ 32 0#32)) pads_S1024x72_S1024x128_000_0560 h_S_ := by
  show StableHlo.after [hostOps0, hostOps0_1, hostOps0_2, hostOps0_3, hostOps0_4, hostOps0_5, hostOps0_6].flatten (fun b => m (c, b)) (Proc.tc.devRef main_v11) = _
  simp only [List.flatten_cons, List.flatten_nil, List.append_nil, List.cons_append, List.nil_append, hostOps0, hostOps0_1, hostOps0_2, hostOps0_3, hostOps0_4, hostOps0_5, hostOps0_6]
  after_results_simp
  all_goals rfl
theorem gain_entry (c : Dev nD) : (V m c main_v23 : Vec Ideal S1x256 .f32) = broadcastInDim S1x256 ![1] bcast_S256_S1x256_1 (shapeCast _ (broadcastInDim S4x64 ![0, 1] bcast_S1x64_S4x64_0_1 (shapeCast _ (aKg m c) shapeCasts_S64_S1x64)) shapeCasts_S4x64_S256) := by
  show StableHlo.after [hostOps0, hostOps0_1, hostOps0_2, hostOps0_3, hostOps0_4, hostOps0_5, hostOps0_6].flatten (fun b => m (c, b)) (Proc.tc.devRef main_v23) = _
  simp only [List.flatten_cons, List.flatten_nil, List.append_nil, List.cons_append, List.nil_append, hostOps0, hostOps0_1, hostOps0_2, hostOps0_3, hostOps0_4, hostOps0_5, hostOps0_6]
  after_results_simp
  all_goals rfl
theorem avg_entry (c : Dev nD) : (V m c main_v8 : Vec Ideal S256x256 .bf16) = Cert.SProjIdeal.Mix.avgV := by
  show StableHlo.after [hostOps0, hostOps0_1, hostOps0_2, hostOps0_3, hostOps0_4, hostOps0_5, hostOps0_6].flatten (fun b => m (c, b)) (Proc.tc.devRef main_v8) = _
  simp only [List.flatten_cons, List.flatten_nil, List.append_nil, List.cons_append, List.nil_append, hostOps0, hostOps0_1, hostOps0_2, hostOps0_3, hostOps0_4, hostOps0_5, hostOps0_6]
  after_results_simp
  all_goals rfl

theorem x_at (c : Dev nD) (t : Fin cfg0.N) (p : Fin 256) (k : Fin 1024) :
    (iblk m c 0 t : Vec Ideal S1x256x1024 .f32) (ix3 0 p k) = aX m c (ix3 (bat t) (row t p) k) := by
  have e : (iblk m c 0 t : Vec Ideal S1x256x1024 .f32) (ix3 0 p k) = (V m c main_arg0 : Vec Ideal S2x8192x1024 .f32) (ix3 (bat t) (row t p) k) := by
    blk_ext [iblk, idx t, bat, row]
  rw [e, x_entry]
theorem sh_at (c : Dev nD) (t : Fin cfg0.N) (k : Fin 1024) :
    (iblk m c 1 t : Vec Ideal S1x1x1024 .f32) (ix3 0 0 k) = aSh m c (ix3 (bat t) 0 k) := by
  have e : (iblk m c 1 t : Vec Ideal S1x1x1024 .f32) (ix3 0 0 k) = (V m c main_arg1 : Vec Ideal S2x1x1024 .f32) (ix3 (bat t) 0 k) := by
    blk_ext [iblk, idx t, bat, row]
  rw [e, sh_entry]
theorem sc_at (c : Dev nD) (t : Fin cfg0.N) (k : Fin 1024) :
    (iblk m c 2 t : Vec Ideal S1x1x1024 .f32) (ix3 0 0 k) = aSc m c (ix3 (bat t) 0 k) := by
  have e : (iblk m c 2 t : Vec Ideal S1x1x1024 .f32) (ix3 0 0 k) = (V m c main_arg2 : Vec Ideal S2x1x1024 .f32) (ix3 (bat t) 0 k) := by
    blk_ext [iblk, idx t, bat, row]
  rw [e, sc_entry]
theorem wk_at (c : Dev nD) (t : Fin cfg0.N) (k : Fin 1024) (j : Fin 256) :
    (iblk m c 4 t : Vec Ideal S1024x256 .bf16) (ix2 k j) = aW m c (ix2 k ⟨1024 + j.val, by omega⟩) := by
  have e : (iblk m c 4 t : Vec Ideal S1024x256 .bf16) (ix2 k j) = (V m c main_v13 : Vec Ideal S1024x256 .bf16) (ix2 k j) := by
    blk_ext [iblk, idx t]
  rw [e, wk_entry]
  pointwise!
theorem wv_at (c : Dev nD) (t : Fin cfg0.N) (k : Fin 1024) (j : Fin 256) :
    (iblk m c 5 t : Vec Ideal S1024x256 .bf16) (ix2 k j) = aW m c (ix2 k ⟨1280 + j.val, by omega⟩) := by
  have e : (iblk m c 5 t : Vec Ideal S1024x256 .bf16) (ix2 k j) = (V m c main_v14 : Vec Ideal S1024x256 .bf16) (ix2 k j) := by
    blk_ext [iblk, idx t]
  rw [e, wv_entry]
  pointwise!
theorem wki_at (c : Dev nD) (t : Fin cfg0.N) (k : Fin 1024) (j : Fin 64) :
    (iblk m c 7 t : Vec Ideal S1024x128 .bf16) (ix2 k ⟨j.val, by omega⟩) = aW m c (ix2 k ⟨2048 + j.val, by omega⟩) := by
  have e : (iblk m c 7 t : Vec Ideal S1024x128 .bf16) (ix2 k ⟨j.val, by omega⟩) = (V m c main_v11 : Vec Ideal S1024x128 .bf16) (ix2 k ⟨j.val, by omega⟩) := by
    blk_ext [iblk, idx t]
  rw [e, pad_entry]
  pointwise!
  exact dif_pos (by omega)
theorem g_at (c : Dev nD) (t : Fin cfg0.N) (j : Fin 256) :
    (iblk m c 9 t : Vec Ideal S1x256 .f32) (ix2 0 j) = aKg m c (ix1 ⟨j.val % 64, by omega⟩) := by
  have e : (iblk m c 9 t : Vec Ideal S1x256 .f32) (ix2 0 j) = (V m c main_v23 : Vec Ideal S1x256 .f32) (ix2 0 j) := by
    blk_ext [iblk, idx t]
  rw [e, gain_entry]
  pointwise!
theorem avg_at (c : Dev nD) (t : Fin cfg0.N) (l j : Fin 256) :
    (iblk m c 10 t : Vec Ideal S256x256 .bf16) (ix2 l j) = AttnRow.avg l.val j.val := by
  have e : (iblk m c 10 t : Vec Ideal S256x256 .bf16) (ix2 l j) = (V m c main_v8 : Vec Ideal S256x256 .bf16) (ix2 l j) := by
    blk_ext [iblk, idx t]
  rw [e, avg_entry]
  exact Cert.SProjIdeal.Mix.avgV_at l j

/-- The block's normalised rows are the array's. -/
theorem hid_at (c : Dev nD) (t : Fin cfg0.N) (p : Fin 256) (k : Fin 1024) :
    (k0_pay6 (iblk m c 0 t) (iblk m c 1 t) (iblk m c 2 t) : FVec Ideal S256x1024 .bf16) (ix2 p k)
      = FfnRow.hid (fun k => aX m c (ix3 (bat t) (row t p) k)) (fun k => aSh m c (ix3 (bat t) 0 k)) (fun k => aSc m c (ix3 (bat t) 0 k)) k := by
  rw [h_at]
  simp only [x_at, sh_at, sc_at]

theorem dotk_at (c : Dev nD) (t : Fin cfg0.N) (p : Fin 256) (j : Fin 256) :
    dot256 (k0_pay6 (iblk m c 0 t) (iblk m c 1 t) (iblk m c 2 t)) p (iblk m c 4 t) j
      = proj (aX m c) (aSh m c) (aSc m c) (aW m c) (bat t) (row t p) ⟨1024 + j.val, by omega⟩ := by
  unfold dot256
  simp only [hid_at, wk_at]
  rfl

theorem key_block (c : Dev nD) (t : Fin cfg0.N) (p : Fin 256) (j : Fin 256) :
    ((dats m 0 c).after 12 t : Vec Ideal S1x256x256 .f32) (ix3 0 p j) = key (aX m c) (aSh m c) (aSc m c) (aW m c) (aKg m c) (bat t) (row t p) j := by
  rw [after0_12]
  unfold outsAt0
  frame_out
  refine (key_at (k0_pay6 (iblk m c 0 t) (iblk m c 1 t) (iblk m c 2 t)) p (iblk m c 4 t) (iblk m c 10 t) (iblk m c 9 t) j).trans ?_
  simp only [dotk_at, avg_at, g_at]
  rw [AttnRow.sum_avg 4 (fun l => proj (aX m c) (aSh m c) (aSc m c) (aW m c) (bat t) (row t p) ⟨1024 + l.val, by omega⟩) j]
  rfl

theorem val_block (c : Dev nD) (t : Fin cfg0.N) (p : Fin 256) (j : Fin 256) :
    ((dats m 0 c).after 14 t : Vec Ideal S1x256x256 .f32) (ix3 0 p j) = proj (aX m c) (aSh m c) (aSc m c) (aW m c) (bat t) (row t p) ⟨1280 + j.val, by omega⟩ := by
  rw [after0_14]
  unfold outsAt0
  frame_out
  refine (val_at (k0_pay6 (iblk m c 0 t) (iblk m c 1 t) (iblk m c 2 t)) p (iblk m c 5 t) j).trans ?_
  unfold dot256
  simp only [hid_at, wv_at]
  rfl

theorem ki_block (c : Dev nD) (t : Fin cfg0.N) (p : Fin 256) (j : Fin 64) :
    ((dats m 0 c).after 17 t : Vec Ideal S1x256x64 .f32) (ix3 0 p j) = proj (aX m c) (aSh m c) (aSc m c) (aW m c) (bat t) (row t p) ⟨2048 + j.val, by omega⟩ := by
  rw [after0_17]
  unfold outsAt0
  frame_out
  refine (ki_at (k0_pay6 (iblk m c 0 t) (iblk m c 1 t) (iblk m c 2 t)) p (iblk m c 7 t) j).trans ?_
  simp only [hid_at, wki_at]
  rfl

/-- The three arrays the call leaves. -/
def outK (c : Dev nD) : FVec Ideal S2x8192x256 .f32 := fun i => key (aX m c) (aSh m c) (aSc m c) (aW m c) (aKg m c) (i 0) (i 1) (i 2)
def outV (c : Dev nD) : FVec Ideal S2x8192x256 .f32 :=
  fun i => proj (aX m c) (aSh m c) (aSc m c) (aW m c) (i 0) (i 1) ⟨1280 + (i 2).val, by have := (i 2).isLt; simp at this; omega⟩
def outKi (c : Dev nD) : FVec Ideal S2x8192x64 .f32 :=
  fun i => proj (aX m c) (aSh m c) (aSc m c) (aW m c) (i 0) (i 1) ⟨2048 + (i 2).val, by have := (i 2).isLt; simp at this; omega⟩

theorem final12 (c : Dev nD) : (dats m 0 c).arrAt 12 cfg0.N = outK m c := by
  refine (dats m 0 c).arrAt_eq_of_covers 12 _ (by decide +kernel) fun t _ y => ?_
  idx_vars y
  blk_simp
  rw [Subsingleton.elim y0 0]
  refine (key_block m c t y1 y2).trans ?_
  have e : (((View.whole main_v24_1).slice ((win0 12).rect t)).emb (ix3 0 y1 y2) : S2x8192x256.Idx) = ix3 (bat t) (row t y1) y2 := by
    blk_ext [idx t, bat, row]
  rw [e]
  rfl

theorem final14 (c : Dev nD) : (dats m 0 c).arrAt 14 cfg0.N = outV m c := by
  refine (dats m 0 c).arrAt_eq_of_covers 14 _ (by decide +kernel) fun t _ y => ?_
  idx_vars y
  blk_simp
  rw [Subsingleton.elim y0 0]
  refine (val_block m c t y1 y2).trans ?_
  have e : (((View.whole main_v24_3).slice ((win0 14).rect t)).emb (ix3 0 y1 y2) : S2x8192x256.Idx) = ix3 (bat t) (row t y1) y2 := by
    blk_ext [idx t, bat, row]
  rw [e]
  rfl

theorem final17 (c : Dev nD) : (dats m 0 c).arrAt 17 cfg0.N = outKi m c := by
  refine (dats m 0 c).arrAt_eq_of_covers 17 _ (by decide +kernel) fun t _ y => ?_
  idx_vars y
  blk_simp
  rw [Subsingleton.elim y0 0]
  refine (ki_block m c t y1 y2).trans ?_
  have e : (((View.whole main_v24_6).slice ((win0 17).rect t)).emb (ix3 0 y1 y2) : S2x8192x64.Idx) = ix3 (bat t) (row t y1) y2 := by
    blk_ext [idx t, bat, row]
  rw [e]
  rfl

end Cert.ProjIdeal.Mix
end
-- ==== Proof.Attn.PromptRef.lean ====
module

public import proofs.«01_k».proof.Proof.Attn.Prompt
public import proofs.«01_k».proof.Proof.Ffn.PreRef
public import proofs.«01_k».proof.Proof.Gen.ProjRefIdeal.Run
public import proofs.«01_k».proof.Defs
public import Idealize.ShloMosaic.Lib.Claim

@[expose] public section

set_option maxRecDepth 16384

noncomputable section

open Idealize.ShloMosaic Idealize.ShloMosaic.TcCoe Idealize.SL.Sem

namespace Cert.ProjIdeal.Mix

open Cert.ProjIdeal

section Stages
open Cert.ProjRefIdeal Cert.ProjRefIdeal.Gen
variable (X : FVec Ideal S2x8192x1024 .f32) (sh sc : FVec Ideal S2x1x1024 .f32) (W : FVec Ideal S1024x2120 .f32) (g : FVec Ideal S64 .f32)

/-- The input projection of the normalised rows. -/
def projV : FVec Ideal S2x8192x2120 .f32 :=
  Host.dotGeneral dot_S2x8192x1024_S1024x2120_S2x8192x2120_2_0_01_1_n_n none (Cert.FfnPreIdeal.Mix.hidV sh sc X) W

theorem projV_at (b : Fin 2) (r : Fin 8192) (j : Fin 2120) : projV X sh sc W (ix3 b r j) = proj X sh sc W b r j := by
  have e : projV X sh sc W (ix3 b r j) = ∑ k : Fin 1024, Cert.FfnPreIdeal.Mix.hidV sh sc X (ix3 b r k) * W (ix2 k j) := by
    pointwise [projV]
  rw [e]
  simp only [Cert.FfnPreIdeal.Mix.hidV_at]
  rfl

/-- The columns of the keys, as heads. -/
def headsV (P : FVec Ideal S2x8192x2120 .f32) : FVec Ideal S2x8192x4x64 .f32 :=
  shapeCast _ (extractStridedSlice S2x8192x256 ![0, 0, 1024] P slices_S2x8192x2120_S2x8192x256_0_0_1024) shapeCasts_S2x8192x256_S2x8192x4x64

theorem headsV_at (P : FVec Ideal S2x8192x2120 .f32) (b : Fin 2) (r : Fin 8192) (h : Fin 4) (d : Fin 64) :
    headsV P (ix4 b r h d) = P (ix3 b r ⟨1024 + (h.val * 64 + d.val), by omega⟩) := by
  pointwise! [headsV]

/-- The heads, each normalised and scaled by its gains. -/
def keyV (Y : FVec Ideal S2x8192x4x64 .f32) : FVec Ideal S2x8192x4x64 .f32 :=
  mulf (mulf Y (broadcastInDim S2x8192x4x64 ![0, 1, 2, 3] bcast_S2x8192x4x1_S2x8192x4x64_0_1_2_3 (Host.rsqrt (addf (Host.divf
      (broadcastInDim S2x8192x4x1 ![0, 1, 2] bcast_S2x8192x4_S2x8192x4x1_0_1_2 (Host.reduceAdd (mulf Y Y) (constant S_ .f32 0x00000000#32) reducesTo_S2x8192x4x64_S2x8192x4_d3 h_S_))
      (broadcastInDim S2x8192x4x1 ![] bcast_S_S2x8192x4x1 (constant S_ .f32 0x42800000#32))) (broadcastInDim S2x8192x4x1 ![] bcast_S_S2x8192x4x1 (constant S_ .f32 0x358637BD#32))))))
    (broadcastInDim S2x8192x4x64 ![0, 1, 2, 3] bcast_S1x1x1x64_S2x8192x4x64_0_1_2_3 (broadcastInDim S1x1x1x64 ![3] bcast_S64_S1x1x1x64_3 g))

theorem keyV_at (Y : FVec Ideal S2x8192x4x64 .f32) (b : Fin 2) (r : Fin 8192) (h : Fin 4) (d : Fin 64) :
    keyV g Y (ix4 b r h d) = AttnRow.unit (fun d => Y (ix4 b r h d)) (Y (ix4 b r h d)) (g (ix1 d)) := by
  pointwise [keyV, AttnRow.unit, AttnRow.headMean]

theorem flat4_at (Z : FVec Ideal S2x8192x4x64 .f32) (b : Fin 2) (r : Fin 8192) (j : Fin 256) :
    (shapeCast _ Z shapeCasts_S2x8192x4x64_S2x8192x256 : FVec Ideal S2x8192x256 .f32) (ix3 b r j) = Z (ix4 b r ⟨j.val / 64, by omega⟩ ⟨j.val % 64, by omega⟩) := by
  pointwise! []

theorem key_ref (b : Fin 2) (r : Fin 8192) (j : Fin 256) :
    (shapeCast _ (keyV g (headsV (projV X sh sc W))) shapeCasts_S2x8192x4x64_S2x8192x256 : FVec Ideal S2x8192x256 .f32) (ix3 b r j) = key X sh sc W g b r j := by
  have e : (⟨1024 + (j.val / 64 * 64 + j.val % 64), by omega⟩ : Fin 2120) = ⟨1024 + j.val, by omega⟩ := Fin.ext (by simp; omega)
  rw [flat4_at, keyV_at]
  simp only [headsV_at, projV_at, e]
  rfl

theorem val_ref (b : Fin 2) (r : Fin 8192) (j : Fin 256) :
    (shapeCast _ (shapeCast _ (extractStridedSlice S2x8192x256 ![0, 0, 1280] (projV X sh sc W) slices_S2x8192x2120_S2x8192x256_0_0_1280) shapeCasts_S2x8192x256_S2x8192x4x64)
        shapeCasts_S2x8192x4x64_S2x8192x256 : FVec Ideal S2x8192x256 .f32) (ix3 b r j) = proj X sh sc W b r ⟨1280 + j.val, by omega⟩ := by
  rw [← projV_at]
  have e : (⟨1280 + (j.val / 64 * 64 + j.val % 64), by omega⟩ : Fin 2120) = ⟨1280 + j.val, by omega⟩ := Fin.ext (by simp; omega)
  rw [flat4_at, ← e]
  pointwise!
  exact congrArg (fun q => projV X sh sc W (ix3 b r q)) e.symm

theorem ki_ref (b : Fin 2) (r : Fin 8192) (j : Fin 64) :
    (extractStridedSlice S2x8192x64 ![0, 0, 2048] (projV X sh sc W) slices_S2x8192x2120_S2x8192x64_0_0_2048 : FVec Ideal S2x8192x64 .f32) (ix3 b r j)
      = proj X sh sc W b r ⟨2048 + j.val, by omega⟩ := by
  rw [← projV_at]
  pointwise!
end Stages

/-- The reference's keys, entry by entry. -/
theorem ref_at (m : (ℓ : Loc Cert.ProjRefIdeal.nD Cert.ProjRefIdeal.τ Cert.ProjRefIdeal.sig) → Buf (Elt Ideal) ℓ) (c : Dev Cert.ProjRefIdeal.nD)
    (b : Fin 2) (r : Fin 8192) (j : Fin 256) :
    (Cert.ProjRefIdeal.Value.res_main_v55 m c : FVec Ideal S2x8192x256 .f32) (ix3 b r j)
      = key (m ((c.tc : Thread _ _).loc Cert.ProjRefIdeal.main_arg0)) (m ((c.tc : Thread _ _).loc Cert.ProjRefIdeal.main_arg1))
          (m ((c.tc : Thread _ _).loc Cert.ProjRefIdeal.main_arg2)) (m ((c.tc : Thread _ _).loc Cert.ProjRefIdeal.main_arg3))
          (m ((c.tc : Thread _ _).loc Cert.ProjRefIdeal.main_arg5)) b r j := by
  exact key_ref _ _ _ _ _ b r j

/-- The reference runs to its end, leaves its arguments alone, and has no counter to leave raised. -/
theorem ref_frame : Cert.quiescent_ProjRefIdeal := fun m g _ =>
  (θ_run _ _ _).mono (fun r h => ⟨fun c => (h c).2.2.2, sem_eq_zero_of_no_sems (by decide) r.2⟩) (Cert.ProjRefIdeal.Value.run m g)

theorem algebraic : Cert.algebraic_ProjIdeal_ProjRefIdeal := by
  pair_intro
  · run_from Cert.ProjIdeal.Value.run_blocks m g
  · run_from Cert.ProjRefIdeal.Value.run m' g'
    · rw [final12]
      funext i
      idx_vars i
      refine (ref_at m' c _ _ _).trans ?_
      obtain ⟨h0, h1, h2, h3, h4, h5⟩ := hagree c
      rw [h0, h1, h2, h3, h5]
      rfl
    · rw [final14]
      funext i
      idx_vars i
      exact val_ref _ _ _ _ _ _ _
    · rw [final17]
      funext i
      idx_vars i
      exact ki_ref _ _ _ _ _ _ _

end Cert.ProjIdeal.Mix
end
-- ==== Proof.Attn.SampleQ.lean ====
module

public import proofs.«01_k».proof.Proof.Attn.Sample
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SProjIdeal.Mix

open Cert.SProjIdeal Cert.SProjIdeal.Gen

section Spec
variable (X sh sc : FVec Ideal S32x1x1024 .f32) (W : FVec Ideal S1024x2120 .f32) (g : FVec Ideal S64 .f32)

/-- One entry of the queries: the projection's first columns, each head of 64 normalised, scaled by its gains and by the attention's scale. -/
def qry (n : Fin 32) (j : Fin 1024) : EReal :=
  AttnRow.unit (fun d => proj X sh sc W n ⟨j.val / 64 * 64 + d.val, by omega⟩) (proj X sh sc W n ⟨j.val, by omega⟩)
    (g (ix1 ⟨j.val % 64, by omega⟩)) * Ideal.ofBits .f32 0x3E000000#32

/-- One of the indexer's weights: its column of the projection, scaled. -/
def wgt (n : Fin 32) (j : Fin 8) : EReal := proj X sh sc W n ⟨2112 + j.val, by omega⟩ * Ideal.ofBits .f32 0x3D3504F3#32
end Spec

/-- The indexer's two scales, one after the other, are the one scale of their product. -/
theorem scale_eq : Ideal.ofBits .f32 0x3EB504F3#32 * Ideal.ofBits .f32 0x3E000000#32 = Ideal.ofBits .f32 0x3D3504F3#32 := by
  have a : Ideal.ofBits .f32 0x3EB504F3#32 = ((11863283 / 33554432 : ℝ) : EReal) := by
    simp [Ideal.ofBits, Ideal.ieee, -EReal.coe_mul]; norm_num
  have b : Ideal.ofBits .f32 0x3E000000#32 = ((1 / 8 : ℝ) : EReal) := by
    simp [Ideal.ofBits, Ideal.ieee, -EReal.coe_mul]; norm_num
  have d : Ideal.ofBits .f32 0x3D3504F3#32 = ((11863283 / 268435456 : ℝ) : EReal) := by
    simp [Ideal.ofBits, Ideal.ieee, -EReal.coe_mul]; norm_num
  rw [a, b, d, ← EReal.coe_mul]
  norm_num

section Rows
variable (h : FVec Ideal S32x1024 .bf16) (p : Fin 32)

/-- A projection of a row onto the queries' columns. -/
def dotQ (w : Vec Ideal S1024x1024 .bf16) (j : Fin 1024) : EReal := ∑ k : Fin 1024, h (ix2 p k) * w (ix2 k j)

theorem pay7_at (x : Vec Ideal S32x1024 .f32) (sh sc : Vec Ideal S1x32x1024 .f32) (w : Vec Ideal S1024x1024 .bf16) (j : Fin 1024) :
    (k0_pay7 x sh sc w : FVec Ideal S32x1024 .f32) (ix2 p j) = dotQ (k0_pay6 x sh sc) p w j := by
  pointwise [k0_pay7, dotQ]

theorem pay8_at (x : Vec Ideal S32x1024 .f32) (sh sc : Vec Ideal S1x32x1024 .f32) (w : Vec Ideal S1024x1024 .bf16) (j : Fin 1024) :
    (k0_pay8 x sh sc w : FVec Ideal S32x1024 .bf16) (ix2 p j) = dotQ (k0_pay6 x sh sc) p w j * dotQ (k0_pay6 x sh sc) p w j := by
  have e : (k0_pay8 x sh sc w : FVec Ideal S32x1024 .bf16) (ix2 p j)
      = (k0_pay7 x sh sc w : FVec Ideal S32x1024 .f32) (ix2 p j) * (k0_pay7 x sh sc w : FVec Ideal S32x1024 .f32) (ix2 p j) := by
    pointwise [k0_pay8]
  rw [e, pay7_at]

/-- One group of 256 columns, squared entries `v`, through the averaging matrix. -/
def means (v : FVec Ideal S32x256 .bf16) (G : Vec Ideal S256x256 .bf16) : FVec Ideal S32x256 .f32 :=
  matmul dot_S32x256_S256x256_S32x256_1_0_0_1_n_n none v (shapeCast S256x256 G shapeCasts_S256x256_S256x256 : FVec Ideal S256x256 .bf16) (constant S32x256 .f32 0x00000000#32)

theorem means_at (v : FVec Ideal S32x256 .bf16) (G : Vec Ideal S256x256 .bf16) (l : Fin 256) :
    means v G (ix2 p l) = ∑ i : Fin 256, v (ix2 p i) * G (ix2 i l) := by
  pointwise [means]

/-- The four groups side by side. -/
def catV (a0 a1 a2 a3 : FVec Ideal S32x256 .f32) : FVec Ideal S32x1024 .f32 :=
  concatenate S32x1024 1 [⟨S32x256, a0⟩, ⟨S32x256, a1⟩, ⟨S32x256, a2⟩, ⟨S32x256, a3⟩] concatenates_S32x256_S32x256_S32x256_S32x256_S32x1024_d1

theorem catV_at (a0 a1 a2 a3 : FVec Ideal S32x256 .f32) (f : Fin 1024 → EReal)
    (h0 : ∀ l : Fin 256, a0 (ix2 p l) = f ⟨l.val, by omega⟩) (h1 : ∀ l : Fin 256, a1 (ix2 p l) = f ⟨256 + l.val, by omega⟩)
    (h2 : ∀ l : Fin 256, a2 (ix2 p l) = f ⟨512 + l.val, by omega⟩) (h3 : ∀ l : Fin 256, a3 (ix2 p l) = f ⟨768 + l.val, by omega⟩)
    (j : Fin 1024) : catV a0 a1 a2 a3 (ix2 p j) = f j := by
  have hi : ∀ (l : Fin 256) (b : Fin S32x256.rank), b.cast (rfl : S32x256.rank = S32x1024.rank) ≠ 1 →
      ((ix2 p l : S32x256.Idx) b).val = ((ix2 p j : S32x1024.Idx) (b.cast rfl)).val := fun l b hb => by
    match b, hb with
    | ⟨0, _⟩, _ => rfl
    | ⟨1, _⟩, hb => exact absurd rfl hb
  unfold catV
  by_cases b0 : j.val < 256
  · refine (concatenate_apply_piece 1 _ _ (ix2 p j) 0 (by simp) S32x256 a0 rfl rfl 0 rfl (ix2 p ⟨j.val, b0⟩) (hi _) (by show 0 + j.val = j.val; omega)).trans ?_
    rw [h0]
  by_cases b1 : j.val < 512
  · refine (concatenate_apply_piece 1 _ _ (ix2 p j) 1 (by simp) S32x256 a1 rfl rfl 256 rfl (ix2 p ⟨j.val - 256, by omega⟩) (hi _) (by show 256 + (j.val - 256) = j.val; omega)).trans ?_
    rw [h1]
    exact congrArg f (Fin.ext (by show 256 + (j.val - 256) = j.val; omega))
  by_cases b2 : j.val < 768
  · refine (concatenate_apply_piece 1 _ _ (ix2 p j) 2 (by simp) S32x256 a2 rfl rfl 512 rfl (ix2 p ⟨j.val - 512, by omega⟩) (hi _) (by show 512 + (j.val - 512) = j.val; omega)).trans ?_
    rw [h2]
    exact congrArg f (Fin.ext (by show 512 + (j.val - 512) = j.val; omega))
  · refine (concatenate_apply_piece 1 _ _ (ix2 p j) 3 (by simp) S32x256 a3 rfl rfl 768 rfl (ix2 p ⟨j.val - 768, by omega⟩) (hi _) (by show 768 + (j.val - 768) = j.val; omega)).trans ?_
    rw [h3]
    exact congrArg f (Fin.ext (by show 768 + (j.val - 768) = j.val; omega))

theorem pay12_at (y : FVec Ideal S32x1024 .f32) (s : FVec Ideal S32x1024 .bf16) (a0 a1 : FVec Ideal S32x256 .f32) (s2 : FVec Ideal S32x256 .bf16)
    (G : Vec Ideal S256x256 .bf16) (g : Vec Ideal S1x1024 .f32) (j : Fin 1024) :
    (k0_pay2 (k0_pay12 y s a0 a1 s2 G G g) : FVec Ideal S32x1024 .bf16) (ix2 p j)
      = y (ix2 p j) * Ideal.rsqrt (catV a0 a1 (means s2 G) (means (extractStridedSlice S32x256 ![0, 768] s slices_S32x1024_o0_768_S32x256) G) (ix2 p j) + Ideal.ofBits .f32 0x358637BD#32)
        * g (ix2 0 j) * Ideal.ofBits .f32 0x3E000000#32 := by
  show (truncf .bf16 (mulf (mulf (mulf y (rsqrt (addf (catV a0 a1 (means s2 G) (means (extractStridedSlice S32x256 ![0, 768] s slices_S32x1024_o0_768_S32x256) G))
      (broadcast S32x1024 (Scalar.ofBits .f32 0x358637BD#32))))) (broadcastTo S32x1024 (shapeCast S1x1024 g shapeCasts_S1x1024_S1x1024 : FVec Ideal S1x1024 .f32) broadcasts_S1x1024_S32x1024))
      (broadcast S32x1024 (Scalar.ofBits .f32 0x3E000000#32))) bitsLt_bf16_f32 : FVec Ideal S32x1024 .bf16) (ix2 p j) = _
  pointwise []

theorem slice3_at (s : FVec Ideal S32x1024 .bf16) (l : Fin 256) :
    (extractStridedSlice S32x256 ![0, 768] s slices_S32x1024_o0_768_S32x256 : FVec Ideal S32x256 .bf16) (ix2 p l) = s (ix2 p ⟨768 + l.val, by omega⟩) := by
  pointwise []

theorem pay9_at (x : Vec Ideal S32x1024 .f32) (sh sc : Vec Ideal S1x32x1024 .f32) (w : Vec Ideal S1024x1024 .bf16) (G : Vec Ideal S256x256 .bf16) (l : Fin 256) :
    (k0_pay9 x sh sc w G : FVec Ideal S32x256 .f32) (ix2 p l) = ∑ i : Fin 256, (k0_pay8 x sh sc w : FVec Ideal S32x1024 .bf16) (ix2 p ⟨i.val, by omega⟩) * G (ix2 i l) := by
  pointwise [k0_pay9]

theorem pay10_at (x : Vec Ideal S32x1024 .f32) (sh sc : Vec Ideal S1x32x1024 .f32) (w : Vec Ideal S1024x1024 .bf16) (G : Vec Ideal S256x256 .bf16) (l : Fin 256) :
    (k0_pay10 x sh sc w G : FVec Ideal S32x256 .f32) (ix2 p l) = ∑ i : Fin 256, (k0_pay8 x sh sc w : FVec Ideal S32x1024 .bf16) (ix2 p ⟨256 + i.val, by omega⟩) * G (ix2 i l) := by
  pointwise [k0_pay10]

theorem pay11_at (x : Vec Ideal S32x1024 .f32) (sh sc : Vec Ideal S1x32x1024 .f32) (w : Vec Ideal S1024x1024 .bf16) (l : Fin 256) :
    (k0_pay11 x sh sc w : FVec Ideal S32x256 .bf16) (ix2 p l) = (k0_pay8 x sh sc w : FVec Ideal S32x1024 .bf16) (ix2 p ⟨512 + l.val, by omega⟩) := by
  pointwise [k0_pay11]

theorem qi_at (w : Vec Ideal S1024x512 .bf16) (j : Fin 512) :
    (k0_pay3 h (k0_pay15 w) : FVec Ideal S32x512 .bf16) (ix2 p j) = ∑ k : Fin 1024, h (ix2 p k) * w (ix2 k j) := by
  pointwise [k0_pay3, k0_pay15]

theorem wi_at (w : Vec Ideal S1024x128 .bf16) (j : Fin 8) :
    (k0_pay5 h w : FVec Ideal S32x8 .f32) (ix2 p j) = (∑ k : Fin 1024, h (ix2 p k) * w (ix2 k ⟨64 + j.val, by omega⟩)) * Ideal.ofBits .f32 0x3D3504F3#32 := by
  pointwise [k0_pay5, k0_pay1]

/-- A group's averages are the means of the squares of the heads of the whole row. -/
theorem group (y : Fin 1024 → EReal) (o : ℕ) (ho : o + 256 ≤ 1024) (h64 : o % 64 = 0) (l : Fin 256) :
    ∑ i : Fin 256, y ⟨o + i.val, by omega⟩ * y ⟨o + i.val, by omega⟩ * AttnRow.avg i.val l.val
      = AttnRow.headMean fun d => y ⟨(o + l.val) / 64 * 64 + d.val, by omega⟩ := by
  refine (AttnRow.sum_avg 4 (fun i => y ⟨o + i.val, by omega⟩) l).trans ?_
  refine congrArg AttnRow.headMean (funext fun d => congrArg y (Fin.ext ?_))
  show o + (l.val / 64 * 64 + d.val) = (o + l.val) / 64 * 64 + d.val
  omega
end Rows

variable (m : (ℓ : Loc nD τ sig) → Buf (Elt Ideal) ℓ)

/-- The gains of the queries. -/
abbrev aQg (c : Dev nD) : FVec Ideal S64 .f32 := m ((c : Thread nD τ).loc main_arg4)

/-- The block index of the other three results' windows at the one grid point. -/
theorem idxQ : ∀ t : Fin cfg0.N, win0_11.index t = ![0, 0] ∧ win0_14.index t = ![0, 0] ∧ win0_16.index t = ![0, 0] :=
  (by decide +kernel : ∀ t : Fin grid0.N, _)

theorem wq_entry (c : Dev nD) : (V m c main_v15 : Vec Ideal S1024x1024 .bf16) = extractStridedSlice S1024x1024 ![0, 0] (truncf .bf16 (aW m c) bitsLt_bf16_f32) slices_S1024x2120_S1024x1024_0_0 := by
  show StableHlo.after [hostOps0, hostOps0_1, hostOps0_2, hostOps0_3, hostOps0_4, hostOps0_5, hostOps0_6].flatten (fun b => m (c, b)) (Proc.tc.devRef main_v15) = _
  simp only [List.flatten_cons, List.flatten_nil, List.append_nil, List.cons_append, List.nil_append, hostOps0, hostOps0_1, hostOps0_2, hostOps0_3, hostOps0_4, hostOps0_5, hostOps0_6]
  after_results_simp
  all_goals rfl

theorem wqi_entry (c : Dev nD) : (V m c main_v18 : Vec Ideal S1024x512 .bf16) = extractStridedSlice S1024x512 ![0, 1536] (truncf .bf16 (aW m c) bitsLt_bf16_f32) slices_S1024x2120_S1024x512_0_1536 := by
  show StableHlo.after [hostOps0, hostOps0_1, hostOps0_2, hostOps0_3, hostOps0_4, hostOps0_5, hostOps0_6].flatten (fun b => m (c, b)) (Proc.tc.devRef main_v18) = _
  simp only [List.flatten_cons, List.flatten_nil, List.append_nil, List.cons_append, List.nil_append, hostOps0, hostOps0_1, hostOps0_2, hostOps0_3, hostOps0_4, hostOps0_5, hostOps0_6]
  after_results_simp
  all_goals rfl

theorem qgain_entry (c : Dev nD) : (V m c main_v22 : Vec Ideal S1x1024 .f32) = broadcastInDim S1x1024 ![1] bcast_S1024_S1x1024_1 (shapeCast _ (broadcastInDim S16x64 ![0, 1] bcast_S1x64_S16x64_0_1 (shapeCast _ (aQg m c) shapeCasts_S64_S1x64)) shapeCasts_S16x64_S1024) := by
  show StableHlo.after [hostOps0, hostOps0_1, hostOps0_2, hostOps0_3, hostOps0_4, hostOps0_5, hostOps0_6].flatten (fun b => m (c, b)) (Proc.tc.devRef main_v22) = _
  simp only [List.flatten_cons, List.flatten_nil, List.append_nil, List.cons_append, List.nil_append, hostOps0, hostOps0_1, hostOps0_2, hostOps0_3, hostOps0_4, hostOps0_5, hostOps0_6]
  after_results_simp
  all_goals rfl

theorem wq_at (c : Dev nD) (t : Fin cfg0.N) (k j : Fin 1024) :
    (iblk m c 3 t : Vec Ideal S1024x1024 .bf16) (ix2 k j) = aW m c (ix2 k ⟨j.val, by omega⟩) := by
  have e : (iblk m c 3 t : Vec Ideal S1024x1024 .bf16) (ix2 k j) = (V m c main_v15 : Vec Ideal S1024x1024 .bf16) (ix2 k j) := by
    blk_ext [iblk, idx t]
  rw [e, wq_entry]
  pointwise!
theorem wqi_at (c : Dev nD) (t : Fin cfg0.N) (k : Fin 1024) (j : Fin 512) :
    (iblk m c 6 t : Vec Ideal S1024x512 .bf16) (ix2 k j) = aW m c (ix2 k ⟨1536 + j.val, by omega⟩) := by
  have e : (iblk m c 6 t : Vec Ideal S1024x512 .bf16) (ix2 k j) = (V m c main_v18 : Vec Ideal S1024x512 .bf16) (ix2 k j) := by
    blk_ext [iblk, idx t]
  rw [e, wqi_entry]
  pointwise!
theorem wwi_at (c : Dev nD) (t : Fin cfg0.N) (k : Fin 1024) (j : Fin 8) :
    (iblk m c 7 t : Vec Ideal S1024x128 .bf16) (ix2 k ⟨64 + j.val, by omega⟩) = aW m c (ix2 k ⟨2112 + j.val, by omega⟩) := by
  have e : (iblk m c 7 t : Vec Ideal S1024x128 .bf16) (ix2 k ⟨64 + j.val, by omega⟩) = (V m c main_v14 : Vec Ideal S1024x128 .bf16) (ix2 k ⟨64 + j.val, by omega⟩) := by
    blk_ext [iblk, idx t]
  have q : (⟨2048 + (64 + j.val), by omega⟩ : Fin 2120) = ⟨2112 + j.val, by omega⟩ := Fin.ext (by show 2048 + (64 + j.val) = 2112 + j.val; omega)
  rw [e, pad_entry, ← q]
  pointwise!
  exact dif_pos (by omega)
theorem gq_at (c : Dev nD) (t : Fin cfg0.N) (j : Fin 1024) :
    (iblk m c 8 t : Vec Ideal S1x1024 .f32) (ix2 0 j) = aQg m c (ix1 ⟨j.val % 64, by omega⟩) := by
  have e : (iblk m c 8 t : Vec Ideal S1x1024 .f32) (ix2 0 j) = (V m c main_v22 : Vec Ideal S1x1024 .f32) (ix2 0 j) := by
    blk_ext [iblk, idx t]
  rw [e, qgain_entry]
  pointwise!

/-- The queries' columns of one row of the projection. -/
abbrev yQ (c : Dev nD) (p : Fin 32) (j : Fin 1024) : EReal := proj (aX m c) (aSh m c) (aSc m c) (aW m c) p ⟨j.val, by omega⟩

theorem dotQ_at (c : Dev nD) (t : Fin cfg0.N) (p : Fin 32) (j : Fin 1024) :
    dotQ (k0_pay6 (iblk m c 0 t) (iblk m c 1 t) (iblk m c 2 t)) p (iblk m c 3 t) j = yQ m c p j := by
  unfold dotQ
  simp only [hid_at, wq_at]
  rfl

theorem sq_at (c : Dev nD) (t : Fin cfg0.N) (p : Fin 32) (j : Fin 1024) :
    (k0_pay8 (iblk m c 0 t) (iblk m c 1 t) (iblk m c 2 t) (iblk m c 3 t) : FVec Ideal S32x1024 .bf16) (ix2 p j) = yQ m c p j * yQ m c p j := by
  rw [pay8_at, dotQ_at]

/-- The mean square of the head of each column. -/
abbrev msQ (c : Dev nD) (p : Fin 32) (j : Fin 1024) : EReal := AttnRow.headMean fun d => yQ m c p ⟨j.val / 64 * 64 + d.val, by omega⟩

theorem msQ_at (c : Dev nD) (t : Fin cfg0.N) (p : Fin 32) (j : Fin 1024) :
    catV (k0_pay9 (iblk m c 0 t) (iblk m c 1 t) (iblk m c 2 t) (iblk m c 3 t) (iblk m c 10 t))
      (k0_pay10 (iblk m c 0 t) (iblk m c 1 t) (iblk m c 2 t) (iblk m c 3 t) (iblk m c 10 t))
      (means (k0_pay11 (iblk m c 0 t) (iblk m c 1 t) (iblk m c 2 t) (iblk m c 3 t)) (iblk m c 10 t))
      (means (extractStridedSlice S32x256 ![0, 768] (k0_pay8 (iblk m c 0 t) (iblk m c 1 t) (iblk m c 2 t) (iblk m c 3 t)) slices_S32x1024_o0_768_S32x256) (iblk m c 10 t))
      (ix2 p j) = msQ m c p j := by
  refine catV_at p _ _ _ _ (msQ m c p) (fun l => ?_) (fun l => ?_) (fun l => ?_) (fun l => ?_) j
  · refine (pay9_at p _ _ _ _ _ l).trans ?_
    simp only [sq_at, avg_at]
    have e := group (yQ m c p) 0 (by omega) rfl l
    simp only [Nat.zero_add] at e
    exact e
  · refine (pay10_at p _ _ _ _ _ l).trans ?_
    simp only [sq_at, avg_at]
    exact group (yQ m c p) 256 (by omega) rfl l
  · refine (means_at p _ _ l).trans ?_
    simp only [pay11_at, sq_at, avg_at]
    exact group (yQ m c p) 512 (by omega) rfl l
  · refine (means_at p _ _ l).trans ?_
    simp only [slice3_at, sq_at, avg_at]
    exact group (yQ m c p) 768 (by omega) rfl l

theorem qry_block (c : Dev nD) (t : Fin cfg0.N) (p : Fin 32) (j : Fin 1024) :
    ((dats m 0 c).after 11 t : Vec Ideal S32x1024 .bf16) (ix2 p j) = qry (aX m c) (aSh m c) (aSc m c) (aW m c) (aQg m c) p j := by
  rw [after0_11]
  unfold_out out0_11
  frame_out
  refine (pay12_at p (k0_pay7 (iblk m c 0 t) (iblk m c 1 t) (iblk m c 2 t) (iblk m c 3 t)) (k0_pay8 (iblk m c 0 t) (iblk m c 1 t) (iblk m c 2 t) (iblk m c 3 t))
    (k0_pay9 (iblk m c 0 t) (iblk m c 1 t) (iblk m c 2 t) (iblk m c 3 t) (iblk m c 10 t)) (k0_pay10 (iblk m c 0 t) (iblk m c 1 t) (iblk m c 2 t) (iblk m c 3 t) (iblk m c 10 t))
    (k0_pay11 (iblk m c 0 t) (iblk m c 1 t) (iblk m c 2 t) (iblk m c 3 t)) (iblk m c 10 t) (iblk m c 8 t) j).trans ?_
  rw [msQ_at, pay7_at, dotQ_at, gq_at]
  rfl

theorem qi_block (c : Dev nD) (t : Fin cfg0.N) (p : Fin 32) (j : Fin 512) :
    ((dats m 0 c).after 14 t : Vec Ideal S32x512 .bf16) (ix2 p j) = proj (aX m c) (aSh m c) (aSc m c) (aW m c) p ⟨1536 + j.val, by omega⟩ := by
  rw [after0_14]
  unfold_out out0_14
  frame_out
  refine (qi_at _ p (iblk m c 6 t) j).trans ?_
  simp only [hid_at, wqi_at]
  rfl

theorem wi_block (c : Dev nD) (t : Fin cfg0.N) (p : Fin 32) (j : Fin 8) :
    ((dats m 0 c).after 16 t : Vec Ideal S32x8 .f32) (ix2 p j) = wgt (aX m c) (aSh m c) (aSc m c) (aW m c) p j := by
  rw [after0_16]
  unfold_out out0_16
  frame_out
  refine (wi_at _ p (iblk m c 7 t) j).trans ?_
  simp only [hid_at, wwi_at]
  rfl

/-- The other three arrays the call leaves. -/
def outQ (c : Dev nD) : FVec Ideal S32x1024 .bf16 := fun i => qry (aX m c) (aSh m c) (aSc m c) (aW m c) (aQg m c) (i 0) (i 1)
def outQi (c : Dev nD) : FVec Ideal S32x512 .bf16 :=
  fun i => proj (aX m c) (aSh m c) (aSc m c) (aW m c) (i 0) ⟨1536 + (i 1).val, by have := (i 1).isLt; simp at this; omega⟩
def outWi (c : Dev nD) : FVec Ideal S32x8 .f32 := fun i => wgt (aX m c) (aSh m c) (aSc m c) (aW m c) (i 0) (i 1)

theorem final11 (c : Dev nD) : (dats m 0 c).arrAt 11 cfg0.N = outQ m c := by
  refine (dats m 0 c).arrAt_eq_of_covers 11 _ (by decide +kernel) fun t _ y => ?_
  idx_vars y
  blk_simp
  refine (qry_block m c t y0 y1).trans ?_
  have e : (((View.whole main_v27_0).slice ((win0 11).rect t)).emb (ix2 y0 y1) : S32x1024.Idx) = ix2 y0 y1 := by
    blk_ext [idxQ t]
  rw [e]
  rfl

theorem final14 (c : Dev nD) : (dats m 0 c).arrAt 14 cfg0.N = outQi m c := by
  refine (dats m 0 c).arrAt_eq_of_covers 14 _ (by decide +kernel) fun t _ y => ?_
  idx_vars y
  blk_simp
  refine (qi_block m c t y0 y1).trans ?_
  have e : (((View.whole main_v27_3).slice ((win0 14).rect t)).emb (ix2 y0 y1) : S32x512.Idx) = ix2 y0 y1 := by
    blk_ext [idxQ t]
  rw [e]
  rfl

theorem final16 (c : Dev nD) : (dats m 0 c).arrAt 16 cfg0.N = outWi m c := by
  refine (dats m 0 c).arrAt_eq_of_covers 16 _ (by decide +kernel) fun t _ y => ?_
  idx_vars y
  blk_simp
  refine (wi_block m c t y0 y1).trans ?_
  have e : (((View.whole main_v27_5).slice ((win0 16).rect t)).emb (ix2 y0 y1) : S32x8.Idx) = ix2 y0 y1 := by
    blk_ext [idxQ t]
  rw [e]
  rfl

end Cert.SProjIdeal.Mix
end
-- ==== Proof.Attn.SampleRef.lean ====
module

public import proofs.«01_k».proof.Proof.Attn.SampleQ
public import proofs.«01_k».proof.Proof.Sample.FfnRef
public import proofs.«01_k».proof.Proof.Gen.SProjRefIdeal.Run
public import proofs.«01_k».proof.Defs
public import Idealize.ShloMosaic.Lib.Claim

@[expose] public section

set_option maxRecDepth 16384

noncomputable section

open Idealize.ShloMosaic Idealize.ShloMosaic.TcCoe Idealize.SL.Sem

namespace Cert.SProjIdeal.Mix

open Cert.SProjIdeal

section Stages
open Cert.SProjRefIdeal Cert.SProjRefIdeal.Gen
variable (X sh sc : FVec Ideal S32x1x1024 .f32) (W : FVec Ideal S1024x2120 .f32) (g : FVec Ideal S64 .f32)

/-- The input projection of the normalised rows. -/
def projV : FVec Ideal S32x1x2120 .f32 :=
  Host.dotGeneral dot_S32x1x1024_S1024x2120_S32x1x2120_2_0_01_1_n_n none (Cert.SFfnPreIdeal.Mix.hidV sh sc X) W

theorem projV_at (n : Fin 32) (j : Fin 2120) : projV X sh sc W (ix3 n 0 j) = proj X sh sc W n j := by
  have e : projV X sh sc W (ix3 n 0 j) = ∑ k : Fin 1024, Cert.SFfnPreIdeal.Mix.hidV sh sc X (ix3 n 0 k) * W (ix2 k j) := by
    pointwise [projV]
  rw [e]
  simp only [Cert.SFfnPreIdeal.Mix.hidV_at]
  rfl

/-- The columns of the keys, as heads. -/
def headsV (P : FVec Ideal S32x1x2120 .f32) : FVec Ideal S32x1x4x64 .f32 :=
  shapeCast _ (extractStridedSlice S32x1x256 ![0, 0, 1024] P slices_S32x1x2120_S32x1x256_0_0_1024) shapeCasts_S32x1x256_S32x1x4x64

theorem headsV_at (P : FVec Ideal S32x1x2120 .f32) (n : Fin 32) (h : Fin 4) (d : Fin 64) :
    headsV P (ix4 n 0 h d) = P (ix3 n 0 ⟨1024 + (h.val * 64 + d.val), by omega⟩) := by
  pointwise! [headsV]

/-- The heads, each normalised and scaled by its gains. -/
def keyV (Y : FVec Ideal S32x1x4x64 .f32) : FVec Ideal S32x1x4x64 .f32 :=
  mulf (mulf Y (broadcastInDim S32x1x4x64 ![0, 1, 2, 3] bcast_S32x1x4x1_S32x1x4x64_0_1_2_3 (Host.rsqrt (addf (Host.divf
      (broadcastInDim S32x1x4x1 ![0, 1, 2] bcast_S32x1x4_S32x1x4x1_0_1_2 (Host.reduceAdd (mulf Y Y) (constant S_ .f32 0x00000000#32) reducesTo_S32x1x4x64_S32x1x4_d3 h_S_))
      (broadcastInDim S32x1x4x1 ![] bcast_S_S32x1x4x1 (constant S_ .f32 0x42800000#32))) (broadcastInDim S32x1x4x1 ![] bcast_S_S32x1x4x1 (constant S_ .f32 0x358637BD#32))))))
    (broadcastInDim S32x1x4x64 ![0, 1, 2, 3] bcast_S1x1x1x64_S32x1x4x64_0_1_2_3 (broadcastInDim S1x1x1x64 ![3] bcast_S64_S1x1x1x64_3 g))

theorem keyV_at (Y : FVec Ideal S32x1x4x64 .f32) (n : Fin 32) (h : Fin 4) (d : Fin 64) :
    keyV g Y (ix4 n 0 h d) = AttnRow.unit (fun d => Y (ix4 n 0 h d)) (Y (ix4 n 0 h d)) (g (ix1 d)) := by
  pointwise [keyV, AttnRow.unit, AttnRow.headMean]

theorem flat4_at (Z : FVec Ideal S32x1x4x64 .f32) (n : Fin 32) (j : Fin 256) :
    (shapeCast _ Z shapeCasts_S32x1x4x64_S32x256 : FVec Ideal S32x256 .f32) (ix2 n j) = Z (ix4 n 0 ⟨j.val / 64, by omega⟩ ⟨j.val % 64, by omega⟩) := by
  pointwise! []

theorem key_ref (n : Fin 32) (j : Fin 256) :
    (shapeCast _ (keyV g (headsV (projV X sh sc W))) shapeCasts_S32x1x4x64_S32x256 : FVec Ideal S32x256 .f32) (ix2 n j) = key X sh sc W g n j := by
  have e : (⟨1024 + (j.val / 64 * 64 + j.val % 64), by omega⟩ : Fin 2120) = ⟨1024 + j.val, by omega⟩ := Fin.ext (by simp; omega)
  rw [flat4_at, keyV_at]
  simp only [headsV_at, projV_at, e]
  rfl

theorem val_ref (n : Fin 32) (j : Fin 256) :
    (shapeCast _ (shapeCast _ (extractStridedSlice S32x1x256 ![0, 0, 1280] (projV X sh sc W) slices_S32x1x2120_S32x1x256_0_0_1280) shapeCasts_S32x1x256_S32x1x4x64)
        shapeCasts_S32x1x4x64_S32x256 : FVec Ideal S32x256 .f32) (ix2 n j) = proj X sh sc W n ⟨1280 + j.val, by omega⟩ := by
  rw [← projV_at]
  have e : (⟨1280 + (j.val / 64 * 64 + j.val % 64), by omega⟩ : Fin 2120) = ⟨1280 + j.val, by omega⟩ := Fin.ext (by simp; omega)
  rw [flat4_at, ← e]
  pointwise!
  exact congrArg (fun q => projV X sh sc W (ix3 n 0 q)) e.symm

theorem ki_ref (n : Fin 32) (j : Fin 64) :
    (shapeCast _ (extractStridedSlice S32x1x64 ![0, 0, 2048] (projV X sh sc W) slices_S32x1x2120_S32x1x64_0_0_2048) shapeCasts_S32x1x64_S32x64 : FVec Ideal S32x64 .f32) (ix2 n j)
      = proj X sh sc W n ⟨2048 + j.val, by omega⟩ := by
  rw [← projV_at]
  pointwise!

/-- The columns of the queries, as heads. -/
def headsQ (P : FVec Ideal S32x1x2120 .f32) : FVec Ideal S32x1x16x64 .f32 :=
  shapeCast _ (extractStridedSlice S32x1x1024 ![0, 0, 0] P slices_S32x1x2120_S32x1x1024_0_0_0) shapeCasts_S32x1x1024_S32x1x16x64

theorem headsQ_at (P : FVec Ideal S32x1x2120 .f32) (n : Fin 32) (h : Fin 16) (d : Fin 64) :
    headsQ P (ix4 n 0 h d) = P (ix3 n 0 ⟨h.val * 64 + d.val, by omega⟩) := by
  pointwise! [headsQ]

/-- The queries' heads, each normalised, scaled by its gains and by the attention's scale. -/
def qryV (Y : FVec Ideal S32x1x16x64 .f32) : FVec Ideal S32x1x16x64 .f32 :=
  mulf (mulf (mulf Y (broadcastInDim S32x1x16x64 ![0, 1, 2, 3] bcast_S32x1x16x1_S32x1x16x64_0_1_2_3 (Host.rsqrt (addf (Host.divf
      (broadcastInDim S32x1x16x1 ![0, 1, 2] bcast_S32x1x16_S32x1x16x1_0_1_2 (Host.reduceAdd (mulf Y Y) (constant S_ .f32 0x00000000#32) reducesTo_S32x1x16x64_S32x1x16_d3 h_S_))
      (broadcastInDim S32x1x16x1 ![] bcast_S_S32x1x16x1 (constant S_ .f32 0x42800000#32))) (broadcastInDim S32x1x16x1 ![] bcast_S_S32x1x16x1 (constant S_ .f32 0x358637BD#32))))))
    (broadcastInDim S32x1x16x64 ![0, 1, 2, 3] bcast_S1x1x1x64_S32x1x16x64_0_1_2_3 (broadcastInDim S1x1x1x64 ![3] bcast_S64_S1x1x1x64_3 g)))
    (broadcastInDim S32x1x16x64 ![] bcast_S_S32x1x16x64 (constant S_ .f32 0x3E000000#32))

theorem qryV_at (Y : FVec Ideal S32x1x16x64 .f32) (n : Fin 32) (h : Fin 16) (d : Fin 64) :
    qryV g Y (ix4 n 0 h d) = AttnRow.unit (fun d => Y (ix4 n 0 h d)) (Y (ix4 n 0 h d)) (g (ix1 d)) * Ideal.ofBits .f32 0x3E000000#32 := by
  pointwise [qryV, AttnRow.unit, AttnRow.headMean]

theorem flat16_at (Z : FVec Ideal S32x1x16x64 .f32) (n : Fin 32) (j : Fin 1024) :
    (truncf .bf16 (shapeCast _ Z shapeCasts_S32x1x16x64_S32x1024 : FVec Ideal S32x1024 .f32) bitsLt_bf16_f32 : FVec Ideal S32x1024 .bf16) (ix2 n j)
      = Z (ix4 n 0 ⟨j.val / 64, by omega⟩ ⟨j.val % 64, by omega⟩) := by
  pointwise! []

theorem qry_ref (n : Fin 32) (j : Fin 1024) :
    (truncf .bf16 (shapeCast _ (qryV g (headsQ (projV X sh sc W))) shapeCasts_S32x1x16x64_S32x1024 : FVec Ideal S32x1024 .f32) bitsLt_bf16_f32 : FVec Ideal S32x1024 .bf16) (ix2 n j)
      = qry X sh sc W g n j := by
  have e : (⟨j.val / 64 * 64 + j.val % 64, by omega⟩ : Fin 2120) = ⟨j.val, by omega⟩ := Fin.ext (by simp; omega)
  rw [flat16_at, qryV_at]
  simp only [headsQ_at, projV_at, e]
  rfl

theorem flat8_at (Z : FVec Ideal S32x1x8x64 .f32) (n : Fin 32) (j : Fin 512) :
    (truncf .bf16 (shapeCast _ Z shapeCasts_S32x1x8x64_S32x512 : FVec Ideal S32x512 .f32) bitsLt_bf16_f32 : FVec Ideal S32x512 .bf16) (ix2 n j)
      = Z (ix4 n 0 ⟨j.val / 64, by omega⟩ ⟨j.val % 64, by omega⟩) := by
  pointwise! []

theorem headsQi_at (P : FVec Ideal S32x1x2120 .f32) (n : Fin 32) (h : Fin 8) (d : Fin 64) :
    (shapeCast _ (extractStridedSlice S32x1x512 ![0, 0, 1536] P slices_S32x1x2120_S32x1x512_0_0_1536) shapeCasts_S32x1x512_S32x1x8x64 : FVec Ideal S32x1x8x64 .f32) (ix4 n 0 h d)
      = P (ix3 n 0 ⟨1536 + (h.val * 64 + d.val), by omega⟩) := by
  pointwise! []

theorem qi_ref (n : Fin 32) (j : Fin 512) :
    (truncf .bf16 (shapeCast _ (shapeCast _ (extractStridedSlice S32x1x512 ![0, 0, 1536] (projV X sh sc W) slices_S32x1x2120_S32x1x512_0_0_1536) shapeCasts_S32x1x512_S32x1x8x64)
        shapeCasts_S32x1x8x64_S32x512 : FVec Ideal S32x512 .f32) bitsLt_bf16_f32 : FVec Ideal S32x512 .bf16) (ix2 n j) = proj X sh sc W n ⟨1536 + j.val, by omega⟩ := by
  have e : (⟨1536 + (j.val / 64 * 64 + j.val % 64), by omega⟩ : Fin 2120) = ⟨1536 + j.val, by omega⟩ := Fin.ext (by simp; omega)
  rw [flat8_at, headsQi_at, projV_at, e]

theorem wgt_ref (n : Fin 32) (j : Fin 8) :
    (shapeCast _ (mulf (mulf (extractStridedSlice S32x1x8 ![0, 0, 2112] (projV X sh sc W) slices_S32x1x2120_S32x1x8_0_0_2112) (broadcastInDim S32x1x8 ![] bcast_S_S32x1x8 (constant S_ .f32 0x3EB504F3#32)))
        (broadcastInDim S32x1x8 ![] bcast_S_S32x1x8 (constant S_ .f32 0x3E000000#32))) shapeCasts_S32x1x8_S32x8 : FVec Ideal S32x8 .f32) (ix2 n j) = wgt X sh sc W n j := by
  unfold wgt
  rw [← projV_at, ← scale_eq, ← mul_assoc]
  pointwise!
end Stages

/-- The reference runs to its end, leaves its arguments alone, and has no counter to leave raised. -/
theorem ref_frame : Cert.quiescent_SProjRefIdeal := fun m g _ =>
  (θ_run _ _ _).mono (fun r h => ⟨fun c => (h c).2.2.2.2.2.2, sem_eq_zero_of_no_sems (by decide) r.2⟩) (Cert.SProjRefIdeal.Value.run m g)

theorem algebraic : Cert.algebraic_SProjIdeal_SProjRefIdeal := by
  pair_intro
  · run_from Cert.SProjIdeal.Value.run_blocks m g
  · run_from Cert.SProjRefIdeal.Value.run m' g'
    · rw [final11]
      funext i
      idx_vars i
      exact qry_ref _ _ _ _ _ _ _
    · rw [final12]
      funext i
      idx_vars i
      exact key_ref _ _ _ _ _ _ _
    · rw [final13]
      funext i
      idx_vars i
      exact val_ref _ _ _ _ _ _
    · rw [final14]
      funext i
      idx_vars i
      exact qi_ref _ _ _ _ _ _
    · rw [final15]
      funext i
      idx_vars i
      exact ki_ref _ _ _ _ _ _
    · rw [final16]
      funext i
      idx_vars i
      exact wgt_ref _ _ _ _ _ _

end Cert.SProjIdeal.Mix
end
-- ==== Proof.lean ====
module

public import proofs.«01_k».proof.Defs
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.FfnPre
public import proofs.«01_k».proof.Proof.Gen.FfnPre.Skeleton
public import proofs.«01_k».proof.Proof.Gen.FfnPre.Launch
public import proofs.«01_k».proof.Proof.Gen.FfnPre.Points
public import proofs.«01_k».proof.Proof.Gen.FfnPre.Frame
public import proofs.«01_k».proof.Proof.Gen.FfnPreIdeal
public import proofs.«01_k».proof.Proof.Gen.FfnPreIdeal.Skeleton
public import proofs.«01_k».proof.Proof.Gen.FfnPreIdeal.Launch
public import proofs.«01_k».proof.Proof.Gen.FfnPreIdeal.Points
public import proofs.«01_k».proof.Proof.Gen.FfnPreIdeal.Frame
public import proofs.«01_k».proof.Proof.Gen.FfnPreRefIdeal
public import proofs.«01_k».proof.Proof.Gen.ConvIdeal.Value
public import proofs.«01_k».proof.Proof.Gen.FfnPreIdeal.Value
public import proofs.«01_k».proof.Proof.Gen.ConvRefIdeal.Run
public import proofs.«01_k».proof.Proof.Gen.FfnPreRefIdeal.Run
public import proofs.«01_k».proof.Proof.Conv.Ref
public import proofs.«01_k».proof.Proof.Ffn.PreRef
public import proofs.«01_k».proof.Proof.Gen.SConvIdeal.Value
public import proofs.«01_k».proof.Proof.Gen.SConvRefIdeal.Run
public import proofs.«01_k».proof.Proof.Gen.SConv
public import proofs.«01_k».proof.Proof.Gen.SConv.Skeleton
public import proofs.«01_k».proof.Proof.Gen.SConv.Launch
public import proofs.«01_k».proof.Proof.Gen.SConv.Points
public import proofs.«01_k».proof.Proof.Gen.SConv.Frame
public import proofs.«01_k».proof.Proof.Gen.SConvIdeal
public import proofs.«01_k».proof.Proof.Gen.SConvIdeal.Skeleton
public import proofs.«01_k».proof.Proof.Gen.SConvIdeal.Launch
public import proofs.«01_k».proof.Proof.Gen.SConvIdeal.Points
public import proofs.«01_k».proof.Proof.Gen.SConvIdeal.Frame
public import proofs.«01_k».proof.Proof.Ffn.PlainRef
public import proofs.«01_k».proof.Proof.Sample.Conv
public import proofs.«01_k».proof.Proof.Sample.FfnRef
public import proofs.«01_k».proof.Proof.Attn.PromptRef
public import proofs.«01_k».proof.Proof.Attn.SampleRef
public import proofs.«01_k».proof.Proof.Gen.FfnIdeal.Value
public import proofs.«01_k».proof.Proof.Gen.FfnRefIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.SFfnPre
public import proofs.«01_k».proof.Proof.Gen.SFfnPre.Skeleton
public import proofs.«01_k».proof.Proof.Gen.SFfnPre.Launch
public import proofs.«01_k».proof.Proof.Gen.SFfnPre.Points
public import proofs.«01_k».proof.Proof.Gen.SFfnPre.Frame
public import proofs.«01_k».proof.Proof.Gen.SFfnPreIdeal
public import proofs.«01_k».proof.Proof.Gen.SFfnPreIdeal.Skeleton
public import proofs.«01_k».proof.Proof.Gen.SFfnPreIdeal.Launch
public import proofs.«01_k».proof.Proof.Gen.SFfnPreIdeal.Points
public import proofs.«01_k».proof.Proof.Gen.SFfnPreIdeal.Frame
public import proofs.«01_k».proof.Proof.Gen.SFfnPreIdeal.Value
public import proofs.«01_k».proof.Proof.Gen.SFfnPreRefIdeal
public import proofs.«01_k».proof.Proof.Gen.SFfnPreRefIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.SProj
public import proofs.«01_k».proof.Proof.Gen.SProj.Skeleton
public import proofs.«01_k».proof.Proof.Gen.SProj.Launch
public import proofs.«01_k».proof.Proof.Gen.SProj.Points
public import proofs.«01_k».proof.Proof.Gen.SProj.Frame
public import proofs.«01_k».proof.Proof.Gen.SProjIdeal
public import proofs.«01_k».proof.Proof.Gen.SProjIdeal.Skeleton
public import proofs.«01_k».proof.Proof.Gen.SProjIdeal.Launch
public import proofs.«01_k».proof.Proof.Gen.SProjIdeal.Points
public import proofs.«01_k».proof.Proof.Gen.SProjIdeal.Frame
public import proofs.«01_k».proof.Proof.Gen.SProjIdeal.Value
public import proofs.«01_k».proof.Proof.Gen.SProjRefIdeal
public import proofs.«01_k».proof.Proof.Gen.SProjRefIdeal.Run
public import Idealize.ShloMosaic.Lib.Claim
public import Idealize.ShloMosaic.Adequacy
public import Idealize.ShloMosaic.Init

@[expose] public section

noncomputable section

namespace Cert.Proof

open Idealize.ShloMosaic Idealize.SL.Sem Cert.Conv

theorem claim : Cert.Claim := ⟨Cert.Conv.Gen.facts, Cert.ConvIdeal.Gen.facts, Cert.ConvRefIdeal.Gen.facts, Cert.FfnPre.Gen.facts, Cert.FfnPreIdeal.Gen.facts, Cert.FfnPreRefIdeal.Gen.facts,
  Cert.Ffn.Gen.facts, Cert.FfnIdeal.Gen.facts, Cert.FfnRefIdeal.Gen.facts,
  Cert.SConv.Gen.facts, Cert.SConvIdeal.Gen.facts, Cert.SConvRefIdeal.Gen.facts,
  Cert.SFfnPre.Gen.facts, Cert.SFfnPreIdeal.Gen.facts, Cert.SFfnPreRefIdeal.Gen.facts,
  Cert.Proj.Gen.facts, Cert.ProjIdeal.Gen.facts, Cert.ProjRefIdeal.Gen.facts,
  Cert.SProj.Gen.facts, Cert.SProjIdeal.Gen.facts, Cert.SProjRefIdeal.Gen.facts,
  fun m ρ _ => Cert.Conv.Gen.frame m ρ,
  fun m ρ _ => Cert.ConvIdeal.Gen.frame m ρ,
  Cert.ConvIdeal.Mix.ref_frame,
  fun m ρ _ => Cert.FfnPre.Gen.frame m ρ,
  fun m ρ _ => Cert.FfnPreIdeal.Gen.frame m ρ,
  Cert.FfnPreIdeal.Mix.ref_frame,
  fun m ρ _ => Cert.Ffn.Gen.frame m ρ,
  fun m ρ _ => Cert.FfnIdeal.Gen.frame m ρ,
  Cert.FfnIdeal.Mix.ref_frame,
  fun m ρ _ => Cert.SConv.Gen.frame m ρ,
  fun m ρ _ => Cert.SConvIdeal.Gen.frame m ρ,
  Cert.SConvIdeal.Mix.ref_frame,
  fun m ρ _ => Cert.SFfnPre.Gen.frame m ρ,
  fun m ρ _ => Cert.SFfnPreIdeal.Gen.frame m ρ,
  Cert.SFfnPreIdeal.Mix.ref_frame,
  fun m ρ _ => Cert.Proj.Gen.frame m ρ,
  fun m ρ _ => Cert.ProjIdeal.Gen.frame m ρ,
  Cert.ProjIdeal.Mix.ref_frame,
  fun m ρ _ => Cert.SProj.Gen.frame m ρ,
  fun m ρ _ => Cert.SProjIdeal.Gen.frame m ρ,
  Cert.SProjIdeal.Mix.ref_frame,
  trivial,
  Cert.ConvIdeal.Mix.algebraic,
  trivial,
  Cert.FfnPreIdeal.Mix.algebraic,
  trivial,
  Cert.FfnIdeal.Mix.algebraic,
  trivial,
  Cert.SConvIdeal.Mix.algebraic,
  trivial,
  Cert.SFfnPreIdeal.Mix.algebraic,
  trivial,
  Cert.ProjIdeal.Mix.algebraic,
  trivial,
  Cert.SProjIdeal.Mix.algebraic⟩

end Cert.Proof

end
